-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_weights_finite [hPre_weights_finite : Cert.Pre_weights_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_weights_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_weights_finite [hPre_weights_finite : Cert.Pre_weights_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_weights_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_blocks_finite [hPre_blocks_finite : Cert.Pre_blocks_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_blocks_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_blocks_finite [hPre_blocks_finite : Cert.Pre_blocks_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_blocks_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_weights_finite [hKernel3Ideal : Cert.Kernel3Ideal.Facts] [hPre_weights_finite : Cert.Pre_weights_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_weights_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_weights_finite [hReference3Ideal : Cert.Reference3Ideal.Facts] [hPre_weights_finite : Cert.Pre_weights_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_weights_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_blocks_finite [hKernel4Ideal : Cert.Kernel4Ideal.Facts] [hPre_blocks_finite : Cert.Pre_blocks_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_blocks_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_blocks_finite [hReference4Ideal : Cert.Reference4Ideal.Facts] [hPre_blocks_finite : Cert.Pre_blocks_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_blocks_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_weights_finite [hKernel3Ideal : Cert.Kernel3Ideal.Facts] [hReference3Ideal : Cert.Reference3Ideal.Facts] [hPre_weights_finite : Cert.Pre_weights_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_weights_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v35_0)) (v1 : (c : Dev Cert.Kernel3Ideal.nD) → Buf (Elt Ideal) ((c.tc : Thread Cert.Kernel3Ideal.nD Cert.Kernel3Ideal.τ).loc Cert.Kernel3Ideal.main_v35_1)) (v2 : (c : Dev Cert.Kernel3Ideal.nD) → Buf (Elt Ideal) ((c.tc : Thread Cert.Kernel3Ideal.nD Cert.Kernel3Ideal.τ).loc Cert.Kernel3Ideal.main_v35_2)) (v3 : (c : Dev Cert.Kernel3Ideal.nD) → Buf (Elt Ideal) ((c.tc : Thread Cert.Kernel3Ideal.nD Cert.Kernel3Ideal.τ).loc Cert.Kernel3Ideal.main_v35_3)) (v4 : (c : Dev Cert.Kernel3Ideal.nD) → Buf (Elt Ideal) ((c.tc : Thread Cert.Kernel3Ideal.nD Cert.Kernel3Ideal.τ).loc Cert.Kernel3Ideal.main_v35_4)) (v5 : (c : Dev Cert.Kernel3Ideal.nD) → Buf (Elt Ideal) ((c.tc : Thread Cert.Kernel3Ideal.nD Cert.Kernel3Ideal.τ).loc Cert.Kernel3Ideal.main_v35_5)) (v6 : (c : Dev Cert.Kernel3Ideal.nD) → Buf (Elt Ideal) ((c.tc : Thread Cert.Kernel3Ideal.nD Cert.Kernel3Ideal.τ).loc Cert.Kernel3Ideal.main_v35_6)) (v7 : (c : Dev Cert.Kernel3Ideal.nD) → Buf (Elt Ideal) ((c.tc : Thread Cert.Kernel3Ideal.nD Cert.Kernel3Ideal.τ).loc Cert.Kernel3Ideal.main_v35_7)) (v8 : (c : Dev Cert.Kernel3Ideal.nD) → Buf (Elt Ideal) ((c.tc : Thread Cert.Kernel3Ideal.nD Cert.Kernel3Ideal.τ).loc Cert.Kernel3Ideal.main_v35_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35_0) = v0 c
          ∧ r.2.mem ((c.tc : Thread Cert.Kernel3Ideal.nD Cert.Kernel3Ideal.τ).loc Cert.Kernel3Ideal.main_v35_1) = v1 c
          ∧ r.2.mem ((c.tc : Thread Cert.Kernel3Ideal.nD Cert.Kernel3Ideal.τ).loc Cert.Kernel3Ideal.main_v35_2) = v2 c
          ∧ r.2.mem ((c.tc : Thread Cert.Kernel3Ideal.nD Cert.Kernel3Ideal.τ).loc Cert.Kernel3Ideal.main_v35_3) = v3 c
          ∧ r.2.mem ((c.tc : Thread Cert.Kernel3Ideal.nD Cert.Kernel3Ideal.τ).loc Cert.Kernel3Ideal.main_v35_4) = v4 c
          ∧ r.2.mem ((c.tc : Thread Cert.Kernel3Ideal.nD Cert.Kernel3Ideal.τ).loc Cert.Kernel3Ideal.main_v35_5) = v5 c
          ∧ r.2.mem ((c.tc : Thread Cert.Kernel3Ideal.nD Cert.Kernel3Ideal.τ).loc Cert.Kernel3Ideal.main_v35_6) = v6 c
          ∧ r.2.mem ((c.tc : Thread Cert.Kernel3Ideal.nD Cert.Kernel3Ideal.τ).loc Cert.Kernel3Ideal.main_v35_7) = v7 c
          ∧ r.2.mem ((c.tc : Thread Cert.Kernel3Ideal.nD Cert.Kernel3Ideal.τ).loc Cert.Kernel3Ideal.main_v35_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v88) = v0 c
          ∧ r.2.mem ((c.tc : Thread Cert.Reference3Ideal.nD Cert.Reference3Ideal.τ).loc Cert.Reference3Ideal.main_v89) = v1 c
          ∧ r.2.mem ((c.tc : Thread Cert.Reference3Ideal.nD Cert.Reference3Ideal.τ).loc Cert.Reference3Ideal.main_v90) = v2 c
          ∧ r.2.mem ((c.tc : Thread Cert.Reference3Ideal.nD Cert.Reference3Ideal.τ).loc Cert.Reference3Ideal.main_v92) = v3 c
          ∧ r.2.mem ((c.tc : Thread Cert.Reference3Ideal.nD Cert.Reference3Ideal.τ).loc Cert.Reference3Ideal.main_v94) = v4 c
          ∧ r.2.mem ((c.tc : Thread Cert.Reference3Ideal.nD Cert.Reference3Ideal.τ).loc Cert.Reference3Ideal.main_v96) = v5 c
          ∧ r.2.mem ((c.tc : Thread Cert.Reference3Ideal.nD Cert.Reference3Ideal.τ).loc Cert.Reference3Ideal.main_v98) = v6 c
          ∧ r.2.mem ((c.tc : Thread Cert.Reference3Ideal.nD Cert.Reference3Ideal.τ).loc Cert.Reference3Ideal.main_v99) = v7 c
          ∧ r.2.mem ((c.tc : Thread Cert.Reference3Ideal.nD Cert.Reference3Ideal.τ).loc Cert.Reference3Ideal.main_v100) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_blocks_finite [hKernel4Ideal : Cert.Kernel4Ideal.Facts] [hReference4Ideal : Cert.Reference4Ideal.Facts] [hPre_blocks_finite : Cert.Pre_blocks_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_blocks_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v84_0)) (v1 : (c : Dev Cert.Kernel4Ideal.nD) → Buf (Elt Ideal) ((c.tc : Thread Cert.Kernel4Ideal.nD Cert.Kernel4Ideal.τ).loc Cert.Kernel4Ideal.main_v84_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v84_0) = v0 c
          ∧ r.2.mem ((c.tc : Thread Cert.Kernel4Ideal.nD Cert.Kernel4Ideal.τ).loc Cert.Kernel4Ideal.main_v84_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v76) = v0 c
          ∧ r.2.mem ((c.tc : Thread Cert.Reference4Ideal.nD Cert.Reference4Ideal.τ).loc Cert.Reference4Ideal.main_v78) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_weights_finite : Cert.Pre_weights_finite.Facts) (hPre_blocks_finite : Cert.Pre_blocks_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_weights_finite (hKernel3Ideal := hKernel3Ideal) (hPre_weights_finite := hPre_weights_finite)
    ∧ quiescent_Reference3Ideal (hReference3Ideal := hReference3Ideal)
    ∧ quiescent_Reference3Ideal_pre_weights_finite (hReference3Ideal := hReference3Ideal) (hPre_weights_finite := hPre_weights_finite)
    ∧ quiescent_Kernel4 (hKernel4 := hKernel4)
    ∧ quiescent_Kernel4Ideal (hKernel4Ideal := hKernel4Ideal)
    ∧ quiescent_Kernel4Ideal_pre_blocks_finite (hKernel4Ideal := hKernel4Ideal) (hPre_blocks_finite := hPre_blocks_finite)
    ∧ quiescent_Reference4Ideal (hReference4Ideal := hReference4Ideal)
    ∧ quiescent_Reference4Ideal_pre_blocks_finite (hReference4Ideal := hReference4Ideal) (hPre_blocks_finite := hPre_blocks_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_weights_finite (hKernel3Ideal := hKernel3Ideal) (hReference3Ideal := hReference3Ideal) (hPre_weights_finite := hPre_weights_finite)
    ∧ preserves_Kernel4_Kernel4Ideal
    ∧ algebraic_Kernel4Ideal_Reference4Ideal_pre_blocks_finite (hKernel4Ideal := hKernel4Ideal) (hReference4Ideal := hReference4Ideal) (hPre_blocks_finite := hPre_blocks_finite)
-- ==== Pre_blocks_finite.lean ====
abbrev S16384x128 : Shape := ⟨2, ![16384, 128]⟩
abbrev S1x32x64 : Shape := ⟨3, ![1, 32, 64]⟩
abbrev S1x2048x128 : Shape := ⟨3, ![1, 2048, 128]⟩
abbrev S1x128x64 : Shape := ⟨3, ![1, 128, 64]⟩
abbrev S1x3x64 : Shape := ⟨3, ![1, 3, 64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S1x32x64 : S_.BroadcastsInDim S1x32x64 (![] : Fin 0 → Fin S1x32x64.rank)
  reducesTo_S1x32x64_S_d0_1_2 : S1x32x64.ReducesTo [0, 1, 2] S_
  bcast_S_S1x2048x128 : S_.BroadcastsInDim S1x2048x128 (![] : Fin 0 → Fin S1x2048x128.rank)
  reducesTo_S1x2048x128_S_d0_1_2 : S1x2048x128.ReducesTo [0, 1, 2] S_
  bcast_S_S1x128x64 : S_.BroadcastsInDim S1x128x64 (![] : Fin 0 → Fin S1x128x64.rank)
  reducesTo_S1x128x64_S_d0_1_2 : S1x128x64.ReducesTo [0, 1, 2] S_

variable [Facts]

def fn_part1 {F : FTy → Type} [FloatOps F] (main_arg5 : FVec F S1x128x64 .f32) (main_arg6 : FVec F S1x2048x128 .f32) (main_v13 : IVec S_ 1) (main_v16 : IVec S1x2048x128 1) : IVec S_ 1 :=
  let main_c_5 : IVec S_ 1 := constantI S_ 1 1#1
  let main_v17 : IVec S_ 1 := (fun x v => Host.reduce IntOp.andi x v reducesTo_S1x2048x128_S_d0_1_2 h_S_) main_v16 main_c_5
  let main_v18 : IVec S_ 1 := andi main_v13 main_v17
  let main_v19 : FVec F S1x128x64 .f32 := Host.absf main_arg5
  let main_cst_6 : FVec F S_ .f32 := constant S_ .f32 0x7F800000#32
  let main_v20 : FVec F S1x128x64 .f32 := broadcastInDim S1x128x64 ![] bcast_S_S1x128x64 main_cst_6
  let main_v21 : IVec S1x128x64 1 := cmpf .olt main_v19 main_v20
  let main_c_7 : IVec S_ 1 := constantI S_ 1 1#1
  let main_v22 : IVec S_ 1 := (fun x v => Host.reduce IntOp.andi x v reducesTo_S1x128x64_S_d0_1_2 h_S_) main_v21 main_c_7
  let main_v23 : IVec S_ 1 := andi main_v18 main_v22
  let main_v24 : FVec F S1x2048x128 .f32 := Host.absf main_arg6
  let main_cst_8 : FVec F S_ .f32 := constant S_ .f32 0x7F800000#32
  let main_v25 : FVec F S1x2048x128 .f32 := broadcastInDim S1x2048x128 ![] bcast_S_S1x2048x128 main_cst_8
  let main_v26 : IVec S1x2048x128 1 := cmpf .olt main_v24 main_v25
  let main_c_9 : IVec S_ 1 := constantI S_ 1 1#1
  let main_v27 : IVec S_ 1 := (fun x v => Host.reduce IntOp.andi x v reducesTo_S1x2048x128_S_d0_1_2 h_S_) main_v26 main_c_9
  let main_v28 : IVec S_ 1 := andi main_v23 main_v27
  main_v28

def fn {F : FTy → Type} [FloatOps F] (main_arg0 : FVec F S16384x128 .f32) (main_arg1 : FVec F S16384x128 .f32) (main_arg2 : FVec F S1x32x64 .f32) (main_arg3 : FVec F S1x32x64 .f32) (main_arg4 : FVec F S1x2048x128 .f32) (main_arg5 : FVec F S1x128x64 .f32) (main_arg6 : FVec F S1x2048x128 .f32) (main_arg7 : FVec F S1x128x64 .f32) (main_arg8 : FVec F S1x3x64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S1x32x64 .f32 := Host.absf main_arg2
  let main_cst_0 : FVec F S_ .f32 := constant S_ .f32 0x7F800000#32
  let main_v5 : FVec F S1x32x64 .f32 := broadcastInDim S1x32x64 ![] bcast_S_S1x32x64 main_cst_0
  let main_v6 : IVec S1x32x64 1 := cmpf .olt main_v4 main_v5
  let main_c_1 : IVec S_ 1 := constantI S_ 1 1#1
  let main_v7 : IVec S_ 1 := (fun x v => Host.reduce IntOp.andi x v reducesTo_S1x32x64_S_d0_1_2 h_S_) main_v6 main_c_1
  let main_v8 : IVec S_ 1 := andi main_v3 main_v7
  let main_v9 : FVec F S1x32x64 .f32 := Host.absf main_arg3
  let main_cst_2 : FVec F S_ .f32 := constant S_ .f32 0x7F800000#32
  let main_v10 : FVec F S1x32x64 .f32 := broadcastInDim S1x32x64 ![] bcast_S_S1x32x64 main_cst_2
  let main_v11 : IVec S1x32x64 1 := cmpf .olt main_v9 main_v10
  let main_c_3 : IVec S_ 1 := constantI S_ 1 1#1
  let main_v12 : IVec S_ 1 := (fun x v => Host.reduce IntOp.andi x v reducesTo_S1x32x64_S_d0_1_2 h_S_) main_v11 main_c_3
  let main_v13 : IVec S_ 1 := andi main_v8 main_v12
  let main_v14 : FVec F S1x2048x128 .f32 := Host.absf main_arg4
  let main_cst_4 : FVec F S_ .f32 := constant S_ .f32 0x7F800000#32
  let main_v15 : FVec F S1x2048x128 .f32 := broadcastInDim S1x2048x128 ![] bcast_S_S1x2048x128 main_cst_4
  let main_v16 : IVec S1x2048x128 1 := cmpf .olt main_v14 main_v15
  fn_part1 (F := F) main_arg5 main_arg6 main_v13 main_v16
-- ==== Pre_weights_finite.lean ====
abbrev S2x8192x1024 : Shape := ⟨3, ![2, 8192, 1024]⟩
abbrev S1x1024 : Shape := ⟨2, ![1, 1024]⟩
abbrev S1x1024x3352 : Shape := ⟨3, ![1, 1024, 3352]⟩
abbrev S1x64 : Shape := ⟨2, ![1, 64]⟩
abbrev S1x3x64 : Shape := ⟨3, ![1, 3, 64]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x3352 : S_.BroadcastsInDim S1x1024x3352 (![] : Fin 0 → Fin S1x1024x3352.rank)
  reducesTo_S1x1024x3352_S_d0_1_2 : S1x1024x3352.ReducesTo [0, 1, 2] S_

variable [Facts]

def fn {F : FTy → Type} [FloatOps F] (main_arg0 : FVec F S2x8192x1024 .f32) (main_arg1 : FVec F S1x1024 .f32) (main_arg2 : FVec F S1x1024x3352 .f32) (main_arg3 : FVec F S1x64 .f32) (main_arg4 : FVec F S1x3x64 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x3352 .f32 := Host.absf main_arg2
  let main_cst_0 : FVec F S_ .f32 := constant S_ .f32 0x7F800000#32
  let main_v5 : FVec F S1x1024x3352 .f32 := broadcastInDim S1x1024x3352 ![] bcast_S_S1x1024x3352 main_cst_0
  let main_v6 : IVec S1x1024x3352 1 := cmpf .olt main_v4 main_v5
  let main_c_1 : IVec S_ 1 := constantI S_ 1 1#1
  let main_v7 : IVec S_ 1 := (fun x v => Host.reduce IntOp.andi x v reducesTo_S1x1024x3352_S_d0_1_2 h_S_) main_v6 main_c_1
  let main_v8 : IVec S_ 1 := andi main_v3 main_v7
  main_v8
-- ==== Kernel.lean ====
abbrev S2x8192x2048 : Shape := ⟨3, ![2, 8192, 2048]⟩
abbrev S2x512 : Shape := ⟨2, ![2, 512]⟩
abbrev S1x128 : Shape := ⟨2, ![1, 128]⟩
abbrev S2x8192x512 : Shape := ⟨3, ![2, 8192, 512]⟩
abbrev S1x256x2048 : Shape := ⟨3, ![1, 256, 2048]⟩
abbrev S1x256x512 : Shape := ⟨3, ![1, 256, 512]⟩
abbrev S4x128x128 : Shape := ⟨3, ![4, 128, 128]⟩
abbrev S512 : Shape := ⟨1, ![512]⟩
abbrev S1x512 : Shape := ⟨2, ![1, 512]⟩
abbrev S64x64 : Shape := ⟨2, ![64, 64]⟩
abbrev S64x128 : Shape := ⟨2, ![64, 128]⟩
abbrev S1x128x128 : Shape := ⟨3, ![1, 128, 128]⟩
abbrev S128x128 : Shape := ⟨2, ![128, 128]⟩
abbrev S1x64x128 : Shape := ⟨3, ![1, 64, 128]⟩
abbrev S16x128 : Shape := ⟨2, ![16, 128]⟩
abbrev S16x64 : Shape := ⟨2, ![16, 64]⟩
abbrev S128x64 : Shape := ⟨2, ![128, 64]⟩
abbrev S64 : Shape := ⟨1, ![64]⟩
abbrev S64x1 : Shape := ⟨2, ![64, 1]⟩

abbrev nBuf : Space → Nat
  | .hbm => 4
  | .vmem => 7
  | .smem => 0
  | _ => 0

abbrev bufTy : (tb : Table) → Fin (tcTables nBuf tb) → BufTy
  | .hbm, ⟨0, _⟩ => ⟨S2x8192x2048, .f32⟩
  | .hbm, ⟨1, _⟩ => ⟨S2x512, .f32⟩
  | .hbm, ⟨2, _⟩ => ⟨S1x128, .f32⟩
  | .hbm, ⟨3, _⟩ => ⟨S2x8192x512, .bf16⟩
  | .local _ .vmem, ⟨0, _⟩ => ⟨S1x256x2048, .f32⟩
  | .local _ .vmem, ⟨1, _⟩ => ⟨S1x256x2048, .f32⟩
  | .local _ .vmem, ⟨2, _⟩ => ⟨S2x512, .f32⟩
  | .local _ .vmem, ⟨3, _⟩ => ⟨S1x128, .f32⟩
  | .local _ .vmem, ⟨4, _⟩ => ⟨S1x256x512, .bf16⟩
  | .local _ .vmem, ⟨5, _⟩ => ⟨S1x256x512, .bf16⟩
  | .local _ .vmem, ⟨6, _⟩ => ⟨S4x128x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x8192x2048 : Shape := ⟨3, ![2, 8192, 2048]⟩
abbrev S2x512 : Shape := ⟨2, ![2, 512]⟩
abbrev S1x128 : Shape := ⟨2, ![1, 128]⟩
abbrev S2x8192x512 : Shape := ⟨3, ![2, 8192, 512]⟩
abbrev S_ : Shape := ⟨0, ![]⟩
abbrev S512 : Shape := ⟨1, ![512]⟩
abbrev S1x512 : Shape := ⟨2, ![1, 512]⟩
abbrev S2x8192x4x128 : Shape := ⟨4, ![2, 8192, 4, 128]⟩
abbrev S1x1x512 : Shape := ⟨3, ![1, 1, 512]⟩
abbrev S64x64 : Shape := ⟨2, ![64, 64]⟩
abbrev S2x4x128x128 : Shape := ⟨4, ![2, 4, 128, 128]⟩
abbrev S2x128x64x4x128 : Shape := ⟨5, ![2, 128, 64, 4, 128]⟩
abbrev S128x2x4x64x128 : Shape := ⟨5, ![128, 2, 4, 64, 128]⟩
abbrev S1x2x4x64x128 : Shape := ⟨5, ![1, 2, 4, 64, 128]⟩
abbrev S2x4x64x128 : Shape := ⟨4, ![2, 4, 64, 128]⟩
abbrev S2x4x1x128 : Shape := ⟨4, ![2, 4, 1, 128]⟩
abbrev S64x64x1 : Shape := ⟨3, ![64, 64, 1]⟩
abbrev S2x4x64x1x128 : Shape := ⟨5, ![2, 4, 64, 1, 128]⟩
abbrev S2x4x1x64x128 : Shape := ⟨5, ![2, 4, 1, 64, 128]⟩
abbrev S2x4x64x64x128 : Shape := ⟨5, ![2, 4, 64, 64, 128]⟩
abbrev S2x4x64x64 : Shape := ⟨4, ![2, 4, 64, 64]⟩
abbrev S2x4x128 : Shape := ⟨3, ![2, 4, 128]⟩
abbrev S2x4x128x1 : Shape := ⟨4, ![2, 4, 128, 1]⟩
abbrev S128 : Shape := ⟨1, ![128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 198
  | .vmem => 0
  | .smem => 0
  | _ => 0

abbrev hbmTy0_0 (i : Nat) : BufTy := match i % 128 with
  | 0 => ⟨S2x8192x2048, .f32⟩
  | 1 => ⟨S2x512, .f32⟩
  | 2 => ⟨S1x128, .f32⟩
  | 3 => ⟨S2x8192x512, .f32⟩
  | 4 => ⟨S2x8192x512, .f32⟩
  | 5 => ⟨S2x8192x512, .f32⟩
  | 6 => ⟨S_, .f32⟩
  | 7 => ⟨S512, .f32⟩
  | 8 => ⟨S_, .f32⟩
  | 9 => ⟨S512, .f32⟩
  | 10 => ⟨S512, .f32⟩
  | 11 => ⟨S1x512, .f32⟩
  | 12 => ⟨S2x512, .f32⟩
  | 13 => ⟨S2x512, .f32⟩
  | 14 => ⟨S2x512, .f32⟩
  | 15 => ⟨S_, .f32⟩
  | 16 => ⟨S512, .f32⟩
  | 17 => ⟨S1x512, .f32⟩
  | 18 => ⟨S2x512, .f32⟩
  | 19 => ⟨S2x512, .f32⟩
  | 20 => ⟨S_, .f32⟩
  | 21 => ⟨S_, .f32⟩
  | 22 => ⟨S2x512, .f32⟩
  | 23 => ⟨S1x512, .f32⟩
  | 24 => ⟨S512, .f32⟩
  | 25 => ⟨S2x8192x512, .f32⟩
  | 26 => ⟨S2x8192x512, .f32⟩
  | 27 => ⟨S_, .f32⟩
  | 28 => ⟨S2x8192x512, .f32⟩
  | 29 => ⟨S2x8192x512, .f32⟩
  | 30 => ⟨S_, .f32⟩
  | 31 => ⟨S2x8192x512, .f32⟩
  | 32 => ⟨S2x8192x512, .f32⟩
  | 33 => ⟨S2x8192x512, .f32⟩
  | 34 => ⟨S2x8192x4x128, .f32⟩
  | 35 => ⟨S_, .f32⟩
  | 36 => ⟨S512, .f32⟩
  | 37 => ⟨S512, .f32⟩
  | 38 => ⟨S2x8192x512, .f32⟩
  | 39 => ⟨S2x8192x512, .f32⟩
  | 40 => ⟨S_, .f32⟩
  | 41 => ⟨S2x8192x512, .f32⟩
  | 42 => ⟨S2x8192x512, .f32⟩
  | 43 => ⟨S_, .f32⟩
  | 44 => ⟨S2x8192x512, .f32⟩
  | 45 => ⟨S2x8192x512, .f32⟩
  | 46 => ⟨S1x1x512, .f32⟩
  | 47 => ⟨S2x8192x512, .f32⟩
  | 48 => ⟨S2x8192x512, .f32⟩
  | 49 => ⟨S1x1x512, .f32⟩
  | 50 => ⟨S2x8192x512, .f32⟩
  | 51 => ⟨S2x8192x512, .f32⟩
  | 52 => ⟨S2x8192x512, .f32⟩
  | 53 => ⟨S2x8192x4x128, .f32⟩
  | 54 => ⟨S_, .f32⟩
  | 55 => ⟨S2x8192x512, .f32⟩
  | 56 => ⟨S2x8192x512, .f32⟩
  | 57 => ⟨S2x8192x4x128, .f32⟩
  | 58 => ⟨S2x8192x4x128, .f32⟩
  | 59 => ⟨S_, .i1⟩
  | 60 => ⟨S64x64, .i1⟩
  | 61 => ⟨S64x64, .i32⟩
  | 62 => ⟨S_, .i32⟩
  | 63 => ⟨S64x64, .i32⟩
  | 64 => ⟨S64x64, .i32⟩
  | 65 => ⟨S64x64, .i32⟩
  | 66 => ⟨S64x64, .i1⟩
  | 67 => ⟨S_, .i1⟩
  | 68 => ⟨S64x64, .i1⟩
  | 69 => ⟨S64x64, .i1⟩
  | 70 => ⟨S_, .f32⟩
  | 71 => ⟨S2x4x128x128, .f32⟩
  | 72 => ⟨S2x128x64x4x128, .f32⟩
  | 73 => ⟨S128x2x4x64x128, .f32⟩
  | 74 => ⟨S2x128x64x4x128, .f32⟩
  | 75 => ⟨S128x2x4x64x128, .f32⟩
  | 76 => ⟨S2x128x64x4x128, .f32⟩
  | 77 => ⟨S128x2x4x64x128, .f32⟩
  | 78 => ⟨S2x128x64x4x128, .f32⟩
  | 79 => ⟨S128x2x4x64x128, .f32⟩
  | 80 => ⟨S_, .f32⟩
  | 81 => ⟨S128x2x4x64x128, .f32⟩
  | 82 => ⟨S_, .i32⟩
  | 83 => ⟨S128x2x4x64x128, .f32⟩
  | 84 => ⟨S128x2x4x64x128, .f32⟩
  | 85 => ⟨S128x2x4x64x128, .f32⟩
  | 86 => ⟨S128x2x4x64x128, .f32⟩
  | 87 => ⟨S64x64, .i1⟩
  | 88 => ⟨S_, .i32⟩
  | 89 => ⟨S2x4x128x128, .f32⟩
  | 90 => ⟨S128x2x4x64x128, .f32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S1x2x4x64x128, .f32⟩
  | 98 => ⟨S2x4x64x128, .f32⟩
  | 99 => ⟨S_, .i32⟩
  | 100 => ⟨S_, .i32⟩
  | 101 => ⟨S_, .i32⟩
  | 102 => ⟨S_, .i32⟩
  | 103 => ⟨S1x2x4x64x128, .f32⟩
  | 104 => ⟨S2x4x64x128, .f32⟩
  | 105 => ⟨S_, .i32⟩
  | 106 => ⟨S_, .i32⟩
  | 107 => ⟨S_, .i32⟩
  | 108 => ⟨S_, .i32⟩
  | 109 => ⟨S1x2x4x64x128, .f32⟩
  | 110 => ⟨S2x4x64x128, .f32⟩
  | 111 => ⟨S_, .i32⟩
  | 112 => ⟨S_, .i32⟩
  | 113 => ⟨S_, .i32⟩
  | 114 => ⟨S_, .i32⟩
  | 115 => ⟨S1x2x4x64x128, .f32⟩
  | 116 => ⟨S2x4x64x128, .f32⟩
  | 117 => ⟨S_, .f32⟩
  | 118 => ⟨S_, .f32⟩
  | 119 => ⟨S2x4x64x128, .f32⟩
  | 120 => ⟨S2x4x1x128, .f32⟩
  | 121 => ⟨S2x4x64x128, .f32⟩
  | 122 => ⟨S2x4x64x128, .f32⟩
  | 123 => ⟨S2x4x64x128, .f32⟩
  | 124 => ⟨S64x64x1, .i1⟩
  | 125 => ⟨S2x4x64x1x128, .f32⟩
  | 126 => ⟨S2x4x1x64x128, .f32⟩
  | 127 => ⟨S2x4x64x64x128, .f32⟩
  | _ => ⟨S2x8192x2048, .f32⟩

abbrev hbmTy0_1 (i : Nat) : BufTy := match i % 128 with
  | 0 => ⟨S2x4x64x64x128, .f32⟩
  | 1 => ⟨S2x4x64x64x128, .f32⟩
  | 2 => ⟨S_, .f32⟩
  | 3 => ⟨S_, .f32⟩
  | 4 => ⟨S2x4x64x64x128, .i1⟩
  | 5 => ⟨S2x4x64x64x128, .f32⟩
  | 6 => ⟨S2x4x64x64x128, .f32⟩
  | 7 => ⟨S2x4x64x64x128, .f32⟩
  | 8 => ⟨S2x4x64x1x128, .f32⟩
  | 9 => ⟨S2x4x1x64x128, .f32⟩
  | 10 => ⟨S2x4x64x64x128, .f32⟩
  | 11 => ⟨S2x4x64x64x128, .f32⟩
  | 12 => ⟨S2x4x64x64x128, .f32⟩
  | 13 => ⟨S2x4x64x64x128, .f32⟩
  | 14 => ⟨S_, .f32⟩
  | 15 => ⟨S2x4x64x64, .f32⟩
  | 16 => ⟨S2x4x64x128, .f32⟩
  | 17 => ⟨S2x4x64x128, .f32⟩
  | 18 => ⟨S2x4x128, .f32⟩
  | 19 => ⟨S2x4x128, .f32⟩
  | 20 => ⟨S2x4x128x1, .f32⟩
  | 21 => ⟨S2x4x128x128, .f32⟩
  | 22 => ⟨S2x4x128x128, .f32⟩
  | 23 => ⟨S2x4x64x128, .f32⟩
  | 24 => ⟨S2x4x64x128, .f32⟩
  | 25 => ⟨S2x4x64x128, .f32⟩
  | 26 => ⟨S2x4x64x128, .f32⟩
  | 27 => ⟨S2x4x128x128, .f32⟩
  | 28 => ⟨S2x4x128x128, .f32⟩
  | 29 => ⟨S1x2x4x64x128, .f32⟩
  | 30 => ⟨S_, .i32⟩
  | 31 => ⟨S_, .i32⟩
  | 32 => ⟨S_, .i32⟩
  | 33 => ⟨S_, .i32⟩
  | 34 => ⟨S128x2x4x64x128, .f32⟩
  | 35 => ⟨S_, .i32⟩
  | 36 => ⟨S_, .i32⟩
  | 37 => ⟨S2x128x64x4x128, .f32⟩
  | 38 => ⟨S2x8192x4x128, .f32⟩
  | 39 => ⟨S2x8192x512, .f32⟩
  | 40 => ⟨S128, .f32⟩
  | 41 => ⟨S2x8192x4x128, .f32⟩
  | 42 => ⟨S_, .f32⟩
  | 43 => ⟨S2x8192x4, .f32⟩
  | 44 => ⟨S2x8192x4x1, .f32⟩
  | 45 => ⟨S_, .f32⟩
  | 46 => ⟨S2x8192x4x1, .f32⟩
  | 47 => ⟨S2x8192x4x1, .f32⟩
  | 48 => ⟨S_, .f32⟩
  | 49 => ⟨S2x8192x4x1, .f32⟩
  | 50 => ⟨S2x8192x4x1, .f32⟩
  | 51 => ⟨S2x8192x4x1, .f32⟩
  | 52 => ⟨S2x8192x4x128, .f32⟩
  | 53 => ⟨S2x8192x4x128, .f32⟩
  | 54 => ⟨S1x1x1x128, .f32⟩
  | 55 => ⟨S2x8192x4x128, .f32⟩
  | 56 => ⟨S2x8192x4x128, .f32⟩
  | 57 => ⟨S2x8192x512, .f32⟩
  | 58 => ⟨S2x8192x512, .f32⟩
  | 59 => ⟨S_, .f32⟩
  | 60 => ⟨S2x8192x512, .f32⟩
  | 61 => ⟨S2x8192x512, .f32⟩
  | 62 => ⟨S_, .f32⟩
  | 63 => ⟨S2x8192x512, .f32⟩
  | 64 => ⟨S2x8192x512, .f32⟩
  | 65 => ⟨S2x8192x512, .f32⟩
  | 66 => ⟨S2x8192x4x128, .f32⟩
  | 67 => ⟨S2x8192x4x128, .f32⟩
  | 68 => ⟨S2x8192x512, .f32⟩
  | 69 => ⟨S2x8192x512, .bf16⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_call0_cst : Ref sig .tc := ⟨.hbm, 20, rfl⟩
abbrev main_call0_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c : Ref sig .tc := ⟨.hbm, 59, rfl⟩
abbrev main_v39 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_0 : Ref sig .tc := ⟨.hbm, 67, rfl⟩
abbrev main_call2_v5 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_c_8 : Ref sig .tc := ⟨.hbm, 82, rfl⟩
abbrev main_v51_0 : Ref sig .tc := ⟨.hbm, 83, rfl⟩
abbrev main_v51_1 : Ref sig .tc := ⟨.hbm, 84, rfl⟩
abbrev main_v51_2 : Ref sig .tc := ⟨.hbm, 85, rfl⟩
abbrev main_v51_3 : Ref sig .tc := ⟨.hbm, 86, rfl⟩
abbrev main_v51_4 : Ref sig .tc := ⟨.hbm, 87, rfl⟩
abbrev main_v51_5 : Ref sig .tc := ⟨.hbm, 88, rfl⟩
abbrev main_v51_6 : Ref sig .tc := ⟨.hbm, 89, rfl⟩
abbrev main_v51_7 : Ref sig .tc := ⟨.hbm, 90, rfl⟩
abbrev main_while0c_c_19 : Ref sig .tc := ⟨.hbm, 91, rfl⟩
abbrev main_while0c_v74 : Ref sig .tc := ⟨.hbm, 92, rfl⟩
abbrev main_while0b_call3_c : Ref sig .tc := ⟨.hbm, 93, rfl⟩
abbrev main_while0b_call3_c_0 : Ref sig .tc := ⟨.hbm, 94, rfl⟩
abbrev main_while0b_call3_c_1 : Ref sig .tc := ⟨.hbm, 95, rfl⟩
abbrev main_while0b_call3_c_2 : Ref sig .tc := ⟨.hbm, 96, rfl⟩
abbrev main_while0b_call3_v0 : Ref sig .tc := ⟨.hbm, 97, rfl⟩
abbrev main_while0b_v74 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_c_2 : Ref sig .tc := ⟨.hbm, 102, rfl⟩
abbrev main_while0b_call4_v0 : Ref sig .tc := ⟨.hbm, 103, rfl⟩
abbrev main_while0b_v75 : Ref sig .tc := ⟨.hbm, 104, rfl⟩
abbrev main_while0b_call5_c : Ref sig .tc := ⟨.hbm, 105, rfl⟩
abbrev main_while0b_call5_c_0 : Ref sig .tc := ⟨.hbm, 106, rfl⟩
abbrev main_while0b_call5_c_1 : Ref sig .tc := ⟨.hbm, 107, rfl⟩
abbrev main_while0b_call5_c_2 : Ref sig .tc := ⟨.hbm, 108, rfl⟩
abbrev main_while0b_call5_v0 : Ref sig .tc := ⟨.hbm, 109, rfl⟩
abbrev main_while0b_v76 : Ref sig .tc := ⟨.hbm, 110, rfl⟩
abbrev main_while0b_call6_c : Ref sig .tc := ⟨.hbm, 111, rfl⟩
abbrev main_while0b_call6_c_0 : Ref sig .tc := ⟨.hbm, 112, rfl⟩
abbrev main_while0b_call6_c_1 : Ref sig .tc := ⟨.hbm, 113, rfl⟩
abbrev main_while0b_call6_c_2 : Ref sig .tc := ⟨.hbm, 114, rfl⟩
abbrev main_while0b_call6_v0 : Ref sig .tc := ⟨.hbm, 115, rfl⟩
abbrev main_while0b_v77 : Ref sig .tc := ⟨.hbm, 116, rfl⟩
abbrev main_while0b_call7_call0_cst : Ref sig .tc := ⟨.hbm, 117, rfl⟩
abbrev main_while0b_call7_call0_v0 : Ref sig .tc := ⟨.hbm, 118, rfl⟩
abbrev main_while0b_v78 : Ref sig .tc := ⟨.hbm, 119, rfl⟩
abbrev main_while0b_v79 : Ref sig .tc := ⟨.hbm, 120, rfl⟩
abbrev main_while0b_v80 : Ref sig .tc := ⟨.hbm, 121, rfl⟩
abbrev main_while0b_v81 : Ref sig .tc := ⟨.hbm, 122, rfl⟩
abbrev main_while0b_v82 : Ref sig .tc := ⟨.hbm, 123, rfl⟩
abbrev main_while0b_v83 : Ref sig .tc := ⟨.hbm, 124, rfl⟩
abbrev main_while0b_v84 : Ref sig .tc := ⟨.hbm, 125, rfl⟩
abbrev main_while0b_v85 : Ref sig .tc := ⟨.hbm, 126, rfl⟩
abbrev main_while0b_v86 : Ref sig .tc := ⟨.hbm, 127, rfl⟩
abbrev main_while0b_v87 : Ref sig .tc := ⟨.hbm, 128, rfl⟩
abbrev main_while0b_v88 : Ref sig .tc := ⟨.hbm, 129, rfl⟩
abbrev main_while0b_cst_19 : Ref sig .tc := ⟨.hbm, 130, rfl⟩
abbrev main_while0b_call8_v0 : Ref sig .tc := ⟨.hbm, 131, rfl⟩
abbrev main_while0b_call8_v1 : Ref sig .tc := ⟨.hbm, 132, rfl⟩
abbrev main_while0b_call8_v2 : Ref sig .tc := ⟨.hbm, 133, rfl⟩
abbrev main_while0b_v89 : Ref sig .tc := ⟨.hbm, 134, rfl⟩
abbrev main_while0b_v90 : Ref sig .tc := ⟨.hbm, 135, rfl⟩
abbrev main_while0b_v91 : Ref sig .tc := ⟨.hbm, 136, rfl⟩
abbrev main_while0b_v92 : Ref sig .tc := ⟨.hbm, 137, rfl⟩
abbrev main_while0b_v93 : Ref sig .tc := ⟨.hbm, 138, rfl⟩
abbrev main_while0b_v94 : Ref sig .tc := ⟨.hbm, 139, rfl⟩
abbrev main_while0b_v95 : Ref sig .tc := ⟨.hbm, 140, rfl⟩
abbrev main_while0b_v96 : Ref sig .tc := ⟨.hbm, 141, rfl⟩
abbrev main_while0b_cst_20 : Ref sig .tc := ⟨.hbm, 142, rfl⟩
abbrev main_while0b_v97 : Ref sig .tc := ⟨.hbm, 143, rfl⟩
abbrev main_while0b_v98 : Ref sig .tc := ⟨.hbm, 144, rfl⟩
abbrev main_while0b_v99 : Ref sig .tc := ⟨.hbm, 145, rfl⟩
abbrev main_while0b_v100 : Ref sig .tc := ⟨.hbm, 146, rfl⟩
abbrev main_while0b_v101 : Ref sig .tc := ⟨.hbm, 147, rfl⟩
abbrev main_while0b_v102 : Ref sig .tc := ⟨.hbm, 148, rfl⟩
abbrev main_while0b_v103 : Ref sig .tc := ⟨.hbm, 149, rfl⟩
abbrev main_while0b_v104 : Ref sig .tc := ⟨.hbm, 150, rfl⟩
abbrev main_while0b_v105 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_v109 : Ref sig .tc := ⟨.hbm, 155, rfl⟩
abbrev main_while0b_v110 : Ref sig .tc := ⟨.hbm, 156, rfl⟩
abbrev main_while0b_call9_v0 : Ref sig .tc := ⟨.hbm, 157, rfl⟩
abbrev main_while0b_call9_c : Ref sig .tc := ⟨.hbm, 158, rfl⟩
abbrev main_while0b_call9_c_0 : Ref sig .tc := ⟨.hbm, 159, rfl⟩
abbrev main_while0b_call9_c_1 : Ref sig .tc := ⟨.hbm, 160, rfl⟩
abbrev main_while0b_call9_c_2 : Ref sig .tc := ⟨.hbm, 161, rfl⟩
abbrev main_while0b_v111 : Ref sig .tc := ⟨.hbm, 162, rfl⟩
abbrev main_while0b_c_21 : Ref sig .tc := ⟨.hbm, 163, rfl⟩
abbrev main_while0b_v112 : Ref sig .tc := ⟨.hbm, 164, rfl⟩
abbrev main_v52 : Ref sig .tc := ⟨.hbm, 165, rfl⟩
abbrev main_v53 : Ref sig .tc := ⟨.hbm, 166, rfl⟩
abbrev main_v54 : Ref sig .tc := ⟨.hbm, 167, rfl⟩
abbrev main_v55 : Ref sig .tc := ⟨.hbm, 168, rfl⟩
abbrev main_v56 : Ref sig .tc := ⟨.hbm, 169, rfl⟩
abbrev main_cst_9 : Ref sig .tc := ⟨.hbm, 170, rfl⟩
abbrev main_v57 : Ref sig .tc := ⟨.hbm, 171, rfl⟩
abbrev main_v58 : Ref sig .tc := ⟨.hbm, 172, rfl⟩
abbrev main_cst_10 : Ref sig .tc := ⟨.hbm, 173, rfl⟩
abbrev main_v59 : Ref sig .tc := ⟨.hbm, 174, rfl⟩
abbrev main_v60 : Ref sig .tc := ⟨.hbm, 175, rfl⟩
abbrev main_cst_11 : Ref sig .tc := ⟨.hbm, 176, rfl⟩
abbrev main_v61 : Ref sig .tc := ⟨.hbm, 177, rfl⟩
abbrev main_v62 : Ref sig .tc := ⟨.hbm, 178, rfl⟩
abbrev main_v63 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_call10_v0 : Ref sig .tc := ⟨.hbm, 185, rfl⟩
abbrev main_call10_v1 : Ref sig .tc := ⟨.hbm, 186, rfl⟩
abbrev main_call10_cst : Ref sig .tc := ⟨.hbm, 187, rfl⟩
abbrev main_call10_v2 : Ref sig .tc := ⟨.hbm, 188, rfl⟩
abbrev main_call10_v3 : Ref sig .tc := ⟨.hbm, 189, rfl⟩
abbrev main_call10_cst_0 : Ref sig .tc := ⟨.hbm, 190, rfl⟩
abbrev main_call10_v4 : Ref sig .tc := ⟨.hbm, 191, rfl⟩
abbrev main_call10_v5 : Ref sig .tc := ⟨.hbm, 192, rfl⟩
abbrev main_v69 : Ref sig .tc := ⟨.hbm, 193, rfl⟩
abbrev main_v70 : Ref sig .tc := ⟨.hbm, 194, rfl⟩
abbrev main_v71 : Ref sig .tc := ⟨.hbm, 195, rfl⟩
abbrev main_v72 : Ref sig .tc := ⟨.hbm, 196, rfl⟩
abbrev main_v73 : Ref sig .tc := ⟨.hbm, 197, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S2x8192x1024 : Shape := ⟨3, ![2, 8192, 1024]⟩
abbrev S2x8192x512 : Shape := ⟨3, ![2, 8192, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S512 : Shape := ⟨1, ![512]⟩
abbrev S16384x1024 : Shape := ⟨2, ![16384, 1024]⟩
abbrev S1024x1024 : Shape := ⟨2, ![1024, 1024]⟩
abbrev S16384x512 : Shape := ⟨2, ![16384, 512]⟩
abbrev S512x1024 : Shape := ⟨2, ![512, 1024]⟩
abbrev S_ : Shape := ⟨0, ![]⟩
abbrev S512x1 : Shape := ⟨2, ![512, 1]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 30
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S512, .i32⟩
  | .hbm, ⟨8, _⟩ => ⟨S512, .i1⟩
  | .hbm, ⟨9, _⟩ => ⟨S16384x1024, .f32⟩
  | .hbm, ⟨10, _⟩ => ⟨S1024x1024, .f32⟩
  | .hbm, ⟨11, _⟩ => ⟨S16384x512, .bf16⟩
  | .hbm, ⟨12, _⟩ => ⟨S16384x512, .bf16⟩
  | .hbm, ⟨13, _⟩ => ⟨S512x1024, .f32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S512x1, .i32⟩
  | .hbm, ⟨19, _⟩ => ⟨S512x1024, .f32⟩
  | .hbm, ⟨20, _⟩ => ⟨S512x1024, .bf16⟩
  | .hbm, ⟨21, _⟩ => ⟨S512x1024, .f32⟩
  | .hbm, ⟨22, _⟩ => ⟨S512x1024, .bf16⟩
  | .hbm, ⟨23, _⟩ => ⟨S1024, .f32⟩
  | .hbm, ⟨24, _⟩ => ⟨S1x1024, .f32⟩
  | .hbm, ⟨25, _⟩ => ⟨S1024x5632, .f32⟩
  | .hbm, ⟨26, _⟩ => ⟨S1024x5632, .bf16⟩
  | .hbm, ⟨27, _⟩ => ⟨S2816x1024, .f32⟩
  | .hbm, ⟨28, _⟩ => ⟨S2816x1024, .bf16⟩
  | .hbm, ⟨29, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S256x1024, .f32⟩
  | .local _ .vmem, ⟨12, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S2x8192x1024 : Shape := ⟨3, ![2, 8192, 1024]⟩
abbrev S2x8192x512 : Shape := ⟨3, ![2, 8192, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S2x8192x4x2x64 : Shape := ⟨5, ![2, 8192, 4, 2, 64]⟩
abbrev S2x8192x2x4x64 : Shape := ⟨5, ![2, 8192, 2, 4, 64]⟩
abbrev S1024x1024 : Shape := ⟨2, ![1024, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2x8192x5632 : Shape := ⟨3, ![2, 8192, 5632]⟩
abbrev S2x8192x2816 : Shape := ⟨3, ![2, 8192, 2816]⟩
abbrev S2816x1024 : Shape := ⟨2, ![2816, 1024]⟩
abbrev S16384x1024 : Shape := ⟨2, ![16384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S2x8192x512, .f32⟩
  | .hbm, ⟨8, _⟩ => ⟨S2x8192x4x2x64, .f32⟩
  | .hbm, ⟨9, _⟩ => ⟨S2x8192x2x4x64, .f32⟩
  | .hbm, ⟨10, _⟩ => ⟨S2x8192x512, .f32⟩
  | .hbm, ⟨11, _⟩ => ⟨S2x8192x512, .f32⟩
  | .hbm, ⟨12, _⟩ => ⟨S2x8192x1024, .f32⟩
  | .hbm, ⟨13, _⟩ => ⟨S1024x1024, .f32⟩
  | .hbm, ⟨14, _⟩ => ⟨S2x8192x1024, .f32⟩
  | .hbm, ⟨15, _⟩ => ⟨S2x8192x1024, .f32⟩
  | .hbm, ⟨16, _⟩ => ⟨S1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x1024, .f32⟩
  | .hbm, ⟨29, _⟩ => ⟨S2x8192x1024, .f32⟩
  | .hbm, ⟨30, _⟩ => ⟨S1x1x1024, .f32⟩
  | .hbm, ⟨31, _⟩ => ⟨S2x8192x1024, .f32⟩
  | .hbm, ⟨32, _⟩ => ⟨S2x8192x1024, .f32⟩
  | .hbm, ⟨33, _⟩ => ⟨S1024x5632, .f32⟩
  | .hbm, ⟨34, _⟩ => ⟨S2x8192x5632, .f32⟩
  | .hbm, ⟨35, _⟩ => ⟨S2x8192x2816, .f32⟩
  | .hbm, ⟨36, _⟩ => ⟨S2x8192x2816, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S_, .f32⟩
  | .hbm, ⟨43, _⟩ => ⟨S2x8192x2816, .f32⟩
  | .hbm, ⟨44, _⟩ => ⟨S2x8192x2816, .f32⟩
  | .hbm, ⟨45, _⟩ => ⟨S2x8192x2816, .f32⟩
  | .hbm, ⟨46, _⟩ => ⟨S2x8192x2816, .f32⟩
  | .hbm, ⟨47, _⟩ => ⟨S2816x1024, .f32⟩
  | .hbm, ⟨48, _⟩ => ⟨S2x8192x1024, .f32⟩
  | .hbm, ⟨49, _⟩ => ⟨S2x8192x1024, .f32⟩
  | .hbm, ⟨50, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024 : Shape := ⟨2, ![1, 1024]⟩
abbrev S1x1024x3352 : Shape := ⟨3, ![1, 1024, 3352]⟩
abbrev S1x64 : Shape := ⟨2, ![1, 64]⟩
abbrev S1x3x64 : Shape := ⟨3, ![1, 3, 64]⟩
abbrev S512 : Shape := ⟨1, ![512]⟩
abbrev S128x128 : Shape := ⟨2, ![128, 128]⟩
abbrev S1024x3352 : Shape := ⟨2, ![1024, 3352]⟩
abbrev S1024x512 : Shape := ⟨2, ![1024, 512]⟩
abbrev S_ : Shape := ⟨0, ![]⟩
abbrev S512x1 : Shape := ⟨2, ![512, 1]⟩
abbrev S1024x768 : Shape := ⟨2, ![1024, 768]⟩
abbrev S1024x2048 : Shape := ⟨2, ![1024, 2048]⟩
abbrev S1024x24 : Shape := ⟨2, ![1024, 24]⟩
abbrev S1024x104 : Shape := ⟨2, ![1024, 104]⟩
abbrev S1024x3456 : Shape := ⟨2, ![1024, 3456]⟩
abbrev S64 : Shape := ⟨1, ![64]⟩
abbrev S1x1x1x64 : Shape := ⟨4, ![1, 1, 1, 64]⟩
abbrev S1x1x2x64 : Shape := ⟨4, ![1, 1, 2, 64]⟩
abbrev S1x128 : Shape := ⟨2, ![1, 128]⟩
abbrev S16384x1024 : Shape := ⟨2, ![16384, 1024]⟩
abbrev S1024 : Shape := ⟨1, ![1024]⟩
abbrev S1x1x64 : Shape := ⟨3, ![1, 1, 64]⟩
abbrev S16384x512 : Shape := ⟨2, ![16384, 512]⟩
abbrev S16384x128 : Shape := ⟨2, ![16384, 128]⟩
abbrev S16384x2048 : Shape := ⟨2, ![16384, 2048]⟩
abbrev S256x1024 : Shape := ⟨2, ![256, 1024]⟩
abbrev S256x512 : Shape := ⟨2, ![256, 512]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S256x3456 : Shape := ⟨2, ![256, 3456]⟩

abbrev nBuf : Space → Nat
  | .hbm => 55
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3352, .f32⟩
  | .hbm, ⟨3, _⟩ => ⟨S1x64, .f32⟩
  | .hbm, ⟨4, _⟩ => ⟨S1x3x64, .f32⟩
  | .hbm, ⟨5, _⟩ => ⟨S512, .i32⟩
  | .hbm, ⟨6, _⟩ => ⟨S512, .i1⟩
  | .hbm, ⟨7, _⟩ => ⟨S128x128, .bf16⟩
  | .hbm, ⟨8, _⟩ => ⟨S1024x3352, .f32⟩
  | .hbm, ⟨9, _⟩ => ⟨S1024x512, .f32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S512x1, .i32⟩
  | .hbm, ⟨15, _⟩ => ⟨S1024x512, .f32⟩
  | .hbm, ⟨16, _⟩ => ⟨S1024x768, .f32⟩
  | .hbm, ⟨17, _⟩ => ⟨S1024x2048, .f32⟩
  | .hbm, ⟨18, _⟩ => ⟨S1024x24, .f32⟩
  | .hbm, ⟨19, _⟩ => ⟨S_, .f32⟩
  | .hbm, ⟨20, _⟩ => ⟨S1024x104, .f32⟩
  | .hbm, ⟨21, _⟩ => ⟨S1024x3456, .f32⟩
  | .hbm, ⟨22, _⟩ => ⟨S1024x3456, .bf16⟩
  | .hbm, ⟨23, _⟩ => ⟨S64, .f32⟩
  | .hbm, ⟨24, _⟩ => ⟨S1x64, .f32⟩
  | .hbm, ⟨25, _⟩ => ⟨S1x1x1x64, .f32⟩
  | .hbm, ⟨26, _⟩ => ⟨S1x1x2x64, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S16384x1024, .f32⟩
  | .hbm, ⟨32, _⟩ => ⟨S1024, .f32⟩
  | .hbm, ⟨33, _⟩ => ⟨S1x1024, .f32⟩
  | .hbm, ⟨34, _⟩ => ⟨S1x1x64, .f32⟩
  | .hbm, ⟨35, _⟩ => ⟨S64, .f32⟩
  | .hbm, ⟨36, _⟩ => ⟨S1x64, .f32⟩
  | .hbm, ⟨37, _⟩ => ⟨S1x1x1x64, .f32⟩
  | .hbm, ⟨38, _⟩ => ⟨S1x1x2x64, .f32⟩
  | .hbm, ⟨39, _⟩ => ⟨S1x128, .f32⟩
  | .hbm, ⟨40, _⟩ => ⟨S1x1x64, .f32⟩
  | .hbm, ⟨41, _⟩ => ⟨S64, .f32⟩
  | .hbm, ⟨42, _⟩ => ⟨S1x64, .f32⟩
  | .hbm, ⟨43, _⟩ => ⟨S1x1x1x64, .f32⟩
  | .hbm, ⟨44, _⟩ => ⟨S1x1x2x64, .f32⟩
  | .hbm, ⟨45, _⟩ => ⟨S1x128, .f32⟩
  | .hbm, ⟨46, _⟩ => ⟨S16384x512, .bf16⟩
  | .hbm, ⟨47, _⟩ => ⟨S16384x128, .f32⟩
  | .hbm, ⟨48, _⟩ => ⟨S16384x128, .f32⟩
  | .hbm, ⟨49, _⟩ => ⟨S16384x128, .bf16⟩
  | .hbm, ⟨50, _⟩ => ⟨S16384x128, .bf16⟩
  | .hbm, ⟨51, _⟩ => ⟨S16384x128, .bf16⟩
  | .hbm, ⟨52, _⟩ => ⟨S16384x128, .bf16⟩
  | .hbm, ⟨53, _⟩ => ⟨S16384x128, .f32⟩
  | .hbm, ⟨54, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S128x128, .bf16⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S256x128, .f32⟩
  | .local _ .vmem, ⟨23, _⟩ => ⟨S256x128, .f32⟩
  | .local _ .vmem, ⟨24, _⟩ => ⟨S256x2048, .f32⟩
  | .local _ .vmem, ⟨25, _⟩ => ⟨S256x2048, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35_0 : Ref sig .tc := ⟨.hbm, 46, rfl⟩
abbrev main_v35_1 : Ref sig .tc := ⟨.hbm, 47, rfl⟩
abbrev main_v35_2 : Ref sig .tc := ⟨.hbm, 48, rfl⟩
abbrev main_v35_3 : Ref sig .tc := ⟨.hbm, 49, rfl⟩
abbrev main_v35_4 : Ref sig .tc := ⟨.hbm, 50, rfl⟩
abbrev main_v35_5 : Ref sig .tc := ⟨.hbm, 51, rfl⟩
abbrev main_v35_6 : Ref sig .tc := ⟨.hbm, 52, rfl⟩
abbrev main_v35_7 : Ref sig .tc := ⟨.hbm, 53, rfl⟩
abbrev main_v35_8 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S2x8192x1024 : Shape := ⟨3, ![2, 8192, 1024]⟩
abbrev S1x1024 : Shape := ⟨2, ![1, 1024]⟩
abbrev S1x1024x3352 : Shape := ⟨3, ![1, 1024, 3352]⟩
abbrev S1x64 : Shape := ⟨2, ![1, 64]⟩
abbrev S1x3x64 : Shape := ⟨3, ![1, 3, 64]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3352 : Shape := ⟨2, ![1024, 3352]⟩
abbrev S2x8192x3352 : Shape := ⟨3, ![2, 8192, 3352]⟩
abbrev S2x8192x512 : Shape := ⟨3, ![2, 8192, 512]⟩
abbrev S2x8192x128 : Shape := ⟨3, ![2, 8192, 128]⟩
abbrev S2x8192x24 : Shape := ⟨3, ![2, 8192, 24]⟩
abbrev S2x8192x8x64 : Shape := ⟨4, ![2, 8192, 8, 64]⟩
abbrev S64 : Shape := ⟨1, ![64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x2x64 : Shape := ⟨4, ![2, 8192, 2, 64]⟩
abbrev S1x1x64 : Shape := ⟨3, ![1, 1, 64]⟩
abbrev S2x8192x2 : Shape := ⟨3, ![2, 8192, 2]⟩
abbrev S2x8192x2x1 : Shape := ⟨4, ![2, 8192, 2, 1]⟩
abbrev S2x8192x2x4x64 : Shape := ⟨5, ![2, 8192, 2, 4, 64]⟩
abbrev S2x8192x4x2x64 : Shape := ⟨5, ![2, 8192, 4, 2, 64]⟩
abbrev S2x8192x2048 : Shape := ⟨3, ![2, 8192, 2048]⟩
abbrev S16384x512 : Shape := ⟨2, ![16384, 512]⟩
abbrev S16384x128 : Shape := ⟨2, ![16384, 128]⟩
abbrev S16384x2048 : Shape := ⟨2, ![16384, 2048]⟩

abbrev nBuf : Space → Nat
  | .hbm => 123
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3352, .f32⟩
  | .hbm, ⟨3, _⟩ => ⟨S1x64, .f32⟩
  | .hbm, ⟨4, _⟩ => ⟨S1x3x64, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1024x3352, .f32⟩
  | .hbm, ⟨23, _⟩ => ⟨S2x8192x3352, .f32⟩
  | .hbm, ⟨24, _⟩ => ⟨S2x8192x512, .f32⟩
  | .hbm, ⟨25, _⟩ => ⟨S2x8192x128, .f32⟩
  | .hbm, ⟨26, _⟩ => ⟨S2x8192x128, .f32⟩
  | .hbm, ⟨27, _⟩ => ⟨S2x8192x128, .f32⟩
  | .hbm, ⟨28, _⟩ => ⟨S2x8192x128, .f32⟩
  | .hbm, ⟨29, _⟩ => ⟨S2x8192x128, .f32⟩
  | .hbm, ⟨30, _⟩ => ⟨S2x8192x128, .f32⟩
  | .hbm, ⟨31, _⟩ => ⟨S2x8192x24, .f32⟩
  | .hbm, ⟨32, _⟩ => ⟨S2x8192x512, .f32⟩
  | .hbm, ⟨33, _⟩ => ⟨S2x8192x512, .f32⟩
  | .hbm, ⟨34, _⟩ => ⟨S2x8192x512, .f32⟩
  | .hbm, ⟨35, _⟩ => ⟨S2x8192x512, .f32⟩
  | .hbm, ⟨36, _⟩ => ⟨S2x8192x8x64, .f32⟩
  | .hbm, ⟨37, _⟩ => ⟨S64, .f32⟩
  | .hbm, ⟨38, _⟩ => ⟨S2x8192x8x64, .f32⟩
  | .hbm, ⟨39, _⟩ => ⟨S_, .f32⟩
  | .hbm, ⟨40, _⟩ => ⟨S2x8192x8, .f32⟩
  | .hbm, ⟨41, _⟩ => ⟨S2x8192x8x1, .f32⟩
  | .hbm, ⟨42, _⟩ => ⟨S_, .f32⟩
  | .hbm, ⟨43, _⟩ => ⟨S2x8192x8x1, .f32⟩
  | .hbm, ⟨44, _⟩ => ⟨S2x8192x8x1, .f32⟩
  | .hbm, ⟨45, _⟩ => ⟨S_, .f32⟩
  | .hbm, ⟨46, _⟩ => ⟨S2x8192x8x1, .f32⟩
  | .hbm, ⟨47, _⟩ => ⟨S2x8192x8x1, .f32⟩
  | .hbm, ⟨48, _⟩ => ⟨S2x8192x8x1, .f32⟩
  | .hbm, ⟨49, _⟩ => ⟨S2x8192x8x64, .f32⟩
  | .hbm, ⟨50, _⟩ => ⟨S2x8192x8x64, .f32⟩
  | .hbm, ⟨51, _⟩ => ⟨S1x1x1x64, .f32⟩
  | .hbm, ⟨52, _⟩ => ⟨S2x8192x8x64, .f32⟩
  | .hbm, ⟨53, _⟩ => ⟨S2x8192x8x64, .f32⟩
  | .hbm, ⟨54, _⟩ => ⟨S_, .f32⟩
  | .hbm, ⟨55, _⟩ => ⟨S2x8192x8x64, .f32⟩
  | .hbm, ⟨56, _⟩ => ⟨S2x8192x8x64, .f32⟩
  | .hbm, ⟨57, _⟩ => ⟨S2x8192x2x64, .f32⟩
  | .hbm, ⟨58, _⟩ => ⟨S1x1x64, .f32⟩
  | .hbm, ⟨59, _⟩ => ⟨S64, .f32⟩
  | .hbm, ⟨60, _⟩ => ⟨S2x8192x2x64, .f32⟩
  | .hbm, ⟨61, _⟩ => ⟨S_, .f32⟩
  | .hbm, ⟨62, _⟩ => ⟨S2x8192x2, .f32⟩
  | .hbm, ⟨63, _⟩ => ⟨S2x8192x2x1, .f32⟩
  | .hbm, ⟨64, _⟩ => ⟨S_, .f32⟩
  | .hbm, ⟨65, _⟩ => ⟨S2x8192x2x1, .f32⟩
  | .hbm, ⟨66, _⟩ => ⟨S2x8192x2x1, .f32⟩
  | .hbm, ⟨67, _⟩ => ⟨S_, .f32⟩
  | .hbm, ⟨68, _⟩ => ⟨S2x8192x2x1, .f32⟩
  | .hbm, ⟨69, _⟩ => ⟨S2x8192x2x1, .f32⟩
  | .hbm, ⟨70, _⟩ => ⟨S2x8192x2x1, .f32⟩
  | .hbm, ⟨71, _⟩ => ⟨S2x8192x2x64, .f32⟩
  | .hbm, ⟨72, _⟩ => ⟨S2x8192x2x64, .f32⟩
  | .hbm, ⟨73, _⟩ => ⟨S1x1x1x64, .f32⟩
  | .hbm, ⟨74, _⟩ => ⟨S2x8192x2x64, .f32⟩
  | .hbm, ⟨75, _⟩ => ⟨S2x8192x2x64, .f32⟩
  | .hbm, ⟨76, _⟩ => ⟨S2x8192x2x64, .f32⟩
  | .hbm, ⟨77, _⟩ => ⟨S1x1x64, .f32⟩
  | .hbm, ⟨78, _⟩ => ⟨S64, .f32⟩
  | .hbm, ⟨79, _⟩ => ⟨S2x8192x2x64, .f32⟩
  | .hbm, ⟨80, _⟩ => ⟨S_, .f32⟩
  | .hbm, ⟨81, _⟩ => ⟨S2x8192x2, .f32⟩
  | .hbm, ⟨82, _⟩ => ⟨S2x8192x2x1, .f32⟩
  | .hbm, ⟨83, _⟩ => ⟨S_, .f32⟩
  | .hbm, ⟨84, _⟩ => ⟨S2x8192x2x1, .f32⟩
  | .hbm, ⟨85, _⟩ => ⟨S2x8192x2x1, .f32⟩
  | .hbm, ⟨86, _⟩ => ⟨S_, .f32⟩
  | .hbm, ⟨87, _⟩ => ⟨S2x8192x2x1, .f32⟩
  | .hbm, ⟨88, _⟩ => ⟨S2x8192x2x1, .f32⟩
  | .hbm, ⟨89, _⟩ => ⟨S2x8192x2x1, .f32⟩
  | .hbm, ⟨90, _⟩ => ⟨S2x8192x2x64, .f32⟩
  | .hbm, ⟨91, _⟩ => ⟨S2x8192x2x64, .f32⟩
  | .hbm, ⟨92, _⟩ => ⟨S1x1x1x64, .f32⟩
  | .hbm, ⟨93, _⟩ => ⟨S2x8192x2x64, .f32⟩
  | .hbm, ⟨94, _⟩ => ⟨S2x8192x2x64, .f32⟩
  | .hbm, ⟨95, _⟩ => ⟨S2x8192x2x4x64, .f32⟩
  | .hbm, ⟨96, _⟩ => ⟨S2x8192x4x2x64, .f32⟩
  | .hbm, ⟨97, _⟩ => ⟨S_, .i32⟩
  | .hbm, ⟨98, _⟩ => ⟨S_, .f32⟩
  | .hbm, ⟨99, _⟩ => ⟨S2x8192x128, .f32⟩
  | .hbm, ⟨100, _⟩ => ⟨S2x8192x128, .f32⟩
  | .hbm, ⟨101, _⟩ => ⟨S2x8192x128, .f32⟩
  | .hbm, ⟨102, _⟩ => ⟨S_, .f32⟩
  | .hbm, ⟨103, _⟩ => ⟨S2x8192x128, .f32⟩
  | .hbm, ⟨104, _⟩ => ⟨S2x8192x128, .f32⟩
  | .hbm, ⟨105, _⟩ => ⟨S_, .f32⟩
  | .hbm, ⟨106, _⟩ => ⟨S2x8192x128, .f32⟩
  | .hbm, ⟨107, _⟩ => ⟨S2x8192x128, .f32⟩
  | .hbm, ⟨108, _⟩ => ⟨S2x8192x2048, .f32⟩
  | .hbm, ⟨109, _⟩ => ⟨S16384x512, .f32⟩
  | .hbm, ⟨110, _⟩ => ⟨S16384x512, .bf16⟩
  | .hbm, ⟨111, _⟩ => ⟨S16384x128, .f32⟩
  | .hbm, ⟨112, _⟩ => ⟨S16384x128, .f32⟩
  | .hbm, ⟨113, _⟩ => ⟨S16384x128, .f32⟩
  | .hbm, ⟨114, _⟩ => ⟨S16384x128, .bf16⟩
  | .hbm, ⟨115, _⟩ => ⟨S16384x128, .f32⟩
  | .hbm, ⟨116, _⟩ => ⟨S16384x128, .bf16⟩
  | .hbm, ⟨117, _⟩ => ⟨S16384x128, .f32⟩
  | .hbm, ⟨118, _⟩ => ⟨S16384x128, .bf16⟩
  | .hbm, ⟨119, _⟩ => ⟨S16384x128, .f32⟩
  | .hbm, ⟨120, _⟩ => ⟨S16384x128, .bf16⟩
  | .hbm, ⟨121, _⟩ => ⟨S16384x128, .f32⟩
  | .hbm, ⟨122, _⟩ => ⟨S16384x2048, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_cst_7 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_c : Ref sig .tc := ⟨.hbm, 97, rfl⟩
abbrev main_call0_v0 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_12 : Ref sig .tc := ⟨.hbm, 102, rfl⟩
abbrev main_v82 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩

abbrev nD : Nat := 1
abbrev τ : Topo := Topo.v7x

variable {F : FTy → Type} [FloatOps F]
-- ==== Kernel4.lean ====
abbrev S16384x128 : Shape := ⟨2, ![16384, 128]⟩
abbrev S1x32x64 : Shape := ⟨3, ![1, 32, 64]⟩
abbrev S1x2048x128 : Shape := ⟨3, ![1, 2048, 128]⟩
abbrev S1x128x64 : Shape := ⟨3, ![1, 128, 64]⟩
abbrev S1x3x64 : Shape := ⟨3, ![1, 3, 64]⟩
abbrev S128x128 : Shape := ⟨2, ![128, 128]⟩
abbrev S2x512x2048 : Shape := ⟨3, ![2, 512, 2048]⟩
abbrev S32x64 : Shape := ⟨2, ![32, 64]⟩
abbrev S2048x128 : Shape := ⟨2, ![2048, 128]⟩
abbrev S128x64 : Shape := ⟨2, ![128, 64]⟩
abbrev S2x2 : Shape := ⟨2, ![2, 2]⟩
abbrev S_ : Shape := ⟨0, ![]⟩
abbrev S32x64x128 : Shape := ⟨3, ![32, 64, 128]⟩
abbrev S16x64x128 : Shape := ⟨3, ![16, 64, 128]⟩
abbrev S16x1x64x1x128 : Shape := ⟨5, ![16, 1, 64, 1, 128]⟩
abbrev S1x2x1x2x1 : Shape := ⟨5, ![1, 2, 1, 2, 1]⟩
abbrev S16x2x64x2x128 : Shape := ⟨5, ![16, 2, 64, 2, 128]⟩
abbrev S2048x256 : Shape := ⟨2, ![2048, 256]⟩
abbrev S1x128x1x64 : Shape := ⟨4, ![1, 128, 1, 64]⟩
abbrev S2x1x2x1 : Shape := ⟨4, ![2, 1, 2, 1]⟩
abbrev S2x128x2x64 : Shape := ⟨4, ![2, 128, 2, 64]⟩
abbrev S256x128 : Shape := ⟨2, ![256, 128]⟩
abbrev S1x2048 : Shape := ⟨2, ![1, 2048]⟩
abbrev S1x128 : Shape := ⟨2, ![1, 128]⟩
abbrev S1x1x1x128 : Shape := ⟨4, ![1, 1, 1, 128]⟩
abbrev S1x1x2x128 : Shape := ⟨4, ![1, 1, 2, 128]⟩
abbrev S1x256 : Shape := ⟨2, ![1, 256]⟩
abbrev S1x1x64 : Shape := ⟨3, ![1, 1, 64]⟩
abbrev S64 : Shape := ⟨1, ![64]⟩
abbrev S1x64 : Shape := ⟨2, ![1, 64]⟩
abbrev S1x1x1x64 : Shape := ⟨4, ![1, 1, 1, 64]⟩
abbrev S1x1x2x64 : Shape := ⟨4, ![1, 1, 2, 64]⟩
abbrev S2x512x128 : Shape := ⟨3, ![2, 512, 128]⟩
abbrev S1x512x2048 : Shape := ⟨3, ![1, 512, 2048]⟩
abbrev S1x512x128 : Shape := ⟨3, ![1, 512, 128]⟩
abbrev S512x2048 : Shape := ⟨2, ![512, 2048]⟩
abbrev S512x256 : Shape := ⟨2, ![512, 256]⟩
abbrev S512x128 : Shape := ⟨2, ![512, 128]⟩

abbrev nBuf : Space → Nat
  | .hbm => 98
  | .vmem => 18
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S1x32x64, .f32⟩
  | .hbm, ⟨3, _⟩ => ⟨S1x32x64, .f32⟩
  | .hbm, ⟨4, _⟩ => ⟨S1x2048x128, .f32⟩
  | .hbm, ⟨5, _⟩ => ⟨S1x128x64, .f32⟩
  | .hbm, ⟨6, _⟩ => ⟨S1x2048x128, .f32⟩
  | .hbm, ⟨7, _⟩ => ⟨S1x128x64, .f32⟩
  | .hbm, ⟨8, _⟩ => ⟨S1x3x64, .f32⟩
  | .hbm, ⟨9, _⟩ => ⟨S128x128, .bf16⟩
  | .hbm, ⟨10, _⟩ => ⟨S2x512x2048, .f32⟩
  | .hbm, ⟨11, _⟩ => ⟨S2x512x2048, .f32⟩
  | .hbm, ⟨12, _⟩ => ⟨S32x64, .f32⟩
  | .hbm, ⟨13, _⟩ => ⟨S2048x128, .f32⟩
  | .hbm, ⟨14, _⟩ => ⟨S128x64, .f32⟩
  | .hbm, ⟨15, _⟩ => ⟨S2x2, .i32⟩
  | .hbm, ⟨16, _⟩ => ⟨S2x2, .i32⟩
  | .hbm, ⟨17, _⟩ => ⟨S_, .i32⟩
  | .hbm, ⟨18, _⟩ => ⟨S2x2, .i32⟩
  | .hbm, ⟨19, _⟩ => ⟨S2x2, .i32⟩
  | .hbm, ⟨20, _⟩ => ⟨S2x2, .i1⟩
  | .hbm, ⟨21, _⟩ => ⟨S2x2, .f32⟩
  | .hbm, ⟨22, _⟩ => ⟨S32x64x128, .f32⟩
  | .hbm, ⟨23, _⟩ => ⟨S16x64x128, .f32⟩
  | .hbm, ⟨24, _⟩ => ⟨S16x1x64x1x128, .f32⟩
  | .hbm, ⟨25, _⟩ => ⟨S1x2x1x2x1, .f32⟩
  | .hbm, ⟨26, _⟩ => ⟨S16x2x64x2x128, .f32⟩
  | .hbm, ⟨27, _⟩ => ⟨S16x2x64x2x128, .f32⟩
  | .hbm, ⟨28, _⟩ => ⟨S16x2x64x2x128, .f32⟩
  | .hbm, ⟨29, _⟩ => ⟨S2048x256, .f32⟩
  | .hbm, ⟨30, _⟩ => ⟨S2048x256, .bf16⟩
  | .hbm, ⟨31, _⟩ => ⟨S16x64x128, .f32⟩
  | .hbm, ⟨32, _⟩ => ⟨S16x1x64x1x128, .f32⟩
  | .hbm, ⟨33, _⟩ => ⟨S1x2x1x2x1, .f32⟩
  | .hbm, ⟨34, _⟩ => ⟨S16x2x64x2x128, .f32⟩
  | .hbm, ⟨35, _⟩ => ⟨S16x2x64x2x128, .f32⟩
  | .hbm, ⟨36, _⟩ => ⟨S16x2x64x2x128, .f32⟩
  | .hbm, ⟨37, _⟩ => ⟨S2048x256, .f32⟩
  | .hbm, ⟨38, _⟩ => ⟨S2048x256, .bf16⟩
  | .hbm, ⟨39, _⟩ => ⟨S1x128x1x64, .f32⟩
  | .hbm, ⟨40, _⟩ => ⟨S2x1x2x1, .f32⟩
  | .hbm, ⟨41, _⟩ => ⟨S2x128x2x64, .f32⟩
  | .hbm, ⟨42, _⟩ => ⟨S2x128x2x64, .f32⟩
  | .hbm, ⟨43, _⟩ => ⟨S2x128x2x64, .f32⟩
  | .hbm, ⟨44, _⟩ => ⟨S256x128, .f32⟩
  | .hbm, ⟨45, _⟩ => ⟨S256x128, .bf16⟩
  | .hbm, ⟨46, _⟩ => ⟨S1x2048, .f32⟩
  | .hbm, ⟨47, _⟩ => ⟨S1x128, .f32⟩
  | .hbm, ⟨48, _⟩ => ⟨S1x1x1x128, .f32⟩
  | .hbm, ⟨49, _⟩ => ⟨S1x1x2x128, .f32⟩
  | .hbm, ⟨50, _⟩ => ⟨S1x256, .f32⟩
  | .hbm, ⟨51, _⟩ => ⟨S32x64, .f32⟩
  | .hbm, ⟨52, _⟩ => ⟨S2048x128, .f32⟩
  | .hbm, ⟨53, _⟩ => ⟨S128x64, .f32⟩
  | .hbm, ⟨54, _⟩ => ⟨S2x2, .i32⟩
  | .hbm, ⟨55, _⟩ => ⟨S2x2, .i32⟩
  | .hbm, ⟨56, _⟩ => ⟨S_, .i32⟩
  | .hbm, ⟨57, _⟩ => ⟨S2x2, .i32⟩
  | .hbm, ⟨58, _⟩ => ⟨S2x2, .i32⟩
  | .hbm, ⟨59, _⟩ => ⟨S2x2, .i1⟩
  | .hbm, ⟨60, _⟩ => ⟨S2x2, .f32⟩
  | .hbm, ⟨61, _⟩ => ⟨S32x64x128, .f32⟩
  | .hbm, ⟨62, _⟩ => ⟨S16x64x128, .f32⟩
  | .hbm, ⟨63, _⟩ => ⟨S16x1x64x1x128, .f32⟩
  | .hbm, ⟨64, _⟩ => ⟨S1x2x1x2x1, .f32⟩
  | .hbm, ⟨65, _⟩ => ⟨S16x2x64x2x128, .f32⟩
  | .hbm, ⟨66, _⟩ => ⟨S16x2x64x2x128, .f32⟩
  | .hbm, ⟨67, _⟩ => ⟨S16x2x64x2x128, .f32⟩
  | .hbm, ⟨68, _⟩ => ⟨S2048x256, .f32⟩
  | .hbm, ⟨69, _⟩ => ⟨S2048x256, .bf16⟩
  | .hbm, ⟨70, _⟩ => ⟨S16x64x128, .f32⟩
  | .hbm, ⟨71, _⟩ => ⟨S16x1x64x1x128, .f32⟩
  | .hbm, ⟨72, _⟩ => ⟨S1x2x1x2x1, .f32⟩
  | .hbm, ⟨73, _⟩ => ⟨S16x2x64x2x128, .f32⟩
  | .hbm, ⟨74, _⟩ => ⟨S16x2x64x2x128, .f32⟩
  | .hbm, ⟨75, _⟩ => ⟨S16x2x64x2x128, .f32⟩
  | .hbm, ⟨76, _⟩ => ⟨S2048x256, .f32⟩
  | .hbm, ⟨77, _⟩ => ⟨S2048x256, .bf16⟩
  | .hbm, ⟨78, _⟩ => ⟨S1x128x1x64, .f32⟩
  | .hbm, ⟨79, _⟩ => ⟨S2x1x2x1, .f32⟩
  | .hbm, ⟨80, _⟩ => ⟨S2x128x2x64, .f32⟩
  | .hbm, ⟨81, _⟩ => ⟨S2x128x2x64, .f32⟩
  | .hbm, ⟨82, _⟩ => ⟨S2x128x2x64, .f32⟩
  | .hbm, ⟨83, _⟩ => ⟨S256x128, .f32⟩
  | .hbm, ⟨84, _⟩ => ⟨S256x128, .bf16⟩
  | .hbm, ⟨85, _⟩ => ⟨S1x2048, .f32⟩
  | .hbm, ⟨86, _⟩ => ⟨S1x128, .f32⟩
  | .hbm, ⟨87, _⟩ => ⟨S1x1x1x128, .f32⟩
  | .hbm, ⟨88, _⟩ => ⟨S1x1x2x128, .f32⟩
  | .hbm, ⟨89, _⟩ => ⟨S1x256, .f32⟩
  | .hbm, ⟨90, _⟩ => ⟨S1x1x64, .f32⟩
  | .hbm, ⟨91, _⟩ => ⟨S64, .f32⟩
  | .hbm, ⟨92, _⟩ => ⟨S1x64, .f32⟩
  | .hbm, ⟨93, _⟩ => ⟨S1x1x1x64, .f32⟩
  | .hbm, ⟨94, _⟩ => ⟨S1x1x2x64, .f32⟩
  | .hbm, ⟨95, _⟩ => ⟨S1x128, .f32⟩
  | .hbm, ⟨96, _⟩ => ⟨S2x512x128, .bf16⟩
  | .hbm, ⟨97, _⟩ => ⟨S2x512x128, .bf16⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S2048x256, .bf16⟩
  | .local _ .vmem, ⟨5, _⟩ => ⟨S2048x256, .bf16⟩
  | .local _ .vmem, ⟨6, _⟩ => ⟨S256x128, .bf16⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S256x128, .bf16⟩
  | .local _ .vmem, ⟨11, _⟩ => ⟨S1x256, .f32⟩
  | .local _ .vmem, ⟨12, _⟩ => ⟨S128x128, .bf16⟩
  | .local _ .vmem, ⟨13, _⟩ => ⟨S1x128, .f32⟩
  | .local _ .vmem, ⟨14, _⟩ => ⟨S1x512x128, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .bf16⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_0 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84_0 : Ref sig .tc := ⟨.hbm, 96, rfl⟩
abbrev main_v84_1 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S16384x128 : Shape := ⟨2, ![16384, 128]⟩
abbrev S1x32x64 : Shape := ⟨3, ![1, 32, 64]⟩
abbrev S1x2048x128 : Shape := ⟨3, ![1, 2048, 128]⟩
abbrev S1x128x64 : Shape := ⟨3, ![1, 128, 64]⟩
abbrev S1x3x64 : Shape := ⟨3, ![1, 3, 64]⟩
abbrev S2x8192x2x64 : Shape := ⟨4, ![2, 8192, 2, 64]⟩
abbrev S32x64 : Shape := ⟨2, ![32, 64]⟩
abbrev S2048x128 : Shape := ⟨2, ![2048, 128]⟩
abbrev S128x64 : Shape := ⟨2, ![128, 64]⟩
abbrev S2x512x16x2x64 : Shape := ⟨5, ![2, 512, 16, 2, 64]⟩
abbrev S2x1x16x2x64 : Shape := ⟨5, ![2, 1, 16, 2, 64]⟩
abbrev S2x513x16x2x64 : Shape := ⟨5, ![2, 513, 16, 2, 64]⟩
abbrev S2x512x32x2x64 : Shape := ⟨5, ![2, 512, 32, 2, 64]⟩
abbrev S1x1x32x1x64 : Shape := ⟨5, ![1, 1, 32, 1, 64]⟩
abbrev S2x512x2x32x64 : Shape := ⟨5, ![2, 512, 2, 32, 64]⟩
abbrev S2x512x2x2048 : Shape := ⟨4, ![2, 512, 2, 2048]⟩
abbrev S2x512x2x128 : Shape := ⟨4, ![2, 512, 2, 128]⟩
abbrev S_ : Shape := ⟨0, ![]⟩
abbrev S2x512x2x64 : Shape := ⟨4, ![2, 512, 2, 64]⟩
abbrev S1x1x64 : Shape := ⟨3, ![1, 1, 64]⟩
abbrev S64 : Shape := ⟨1, ![64]⟩
abbrev S2x512x2 : Shape := ⟨3, ![2, 512, 2]⟩
abbrev S2x512x2x1 : Shape := ⟨4, ![2, 512, 2, 1]⟩
abbrev S1x1x1x64 : Shape := ⟨4, ![1, 1, 1, 64]⟩
abbrev S2x512x128 : Shape := ⟨3, ![2, 512, 128]⟩

abbrev nBuf : Space → Nat
  | .hbm => 99
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S1x32x64, .f32⟩
  | .hbm, ⟨3, _⟩ => ⟨S1x32x64, .f32⟩
  | .hbm, ⟨4, _⟩ => ⟨S1x2048x128, .f32⟩
  | .hbm, ⟨5, _⟩ => ⟨S1x128x64, .f32⟩
  | .hbm, ⟨6, _⟩ => ⟨S1x2048x128, .f32⟩
  | .hbm, ⟨7, _⟩ => ⟨S1x128x64, .f32⟩
  | .hbm, ⟨8, _⟩ => ⟨S1x3x64, .f32⟩
  | .hbm, ⟨9, _⟩ => ⟨S2x8192x2x64, .f32⟩
  | .hbm, ⟨10, _⟩ => ⟨S32x64, .f32⟩
  | .hbm, ⟨11, _⟩ => ⟨S2048x128, .f32⟩
  | .hbm, ⟨12, _⟩ => ⟨S128x64, .f32⟩
  | .hbm, ⟨13, _⟩ => ⟨S2x512x16x2x64, .f32⟩
  | .hbm, ⟨14, _⟩ => ⟨S2x1x16x2x64, .f32⟩
  | .hbm, ⟨15, _⟩ => ⟨S2x513x16x2x64, .f32⟩
  | .hbm, ⟨16, _⟩ => ⟨S2x512x16x2x64, .f32⟩
  | .hbm, ⟨17, _⟩ => ⟨S2x512x16x2x64, .f32⟩
  | .hbm, ⟨18, _⟩ => ⟨S2x512x32x2x64, .f32⟩
  | .hbm, ⟨19, _⟩ => ⟨S1x1x32x1x64, .f32⟩
  | .hbm, ⟨20, _⟩ => ⟨S2x512x32x2x64, .f32⟩
  | .hbm, ⟨21, _⟩ => ⟨S2x512x32x2x64, .f32⟩
  | .hbm, ⟨22, _⟩ => ⟨S2x512x2x32x64, .f32⟩
  | .hbm, ⟨23, _⟩ => ⟨S2x512x2x2048, .f32⟩
  | .hbm, ⟨24, _⟩ => ⟨S2x512x2x128, .f32⟩
  | .hbm, ⟨25, _⟩ => ⟨S2x512x2x128, .f32⟩
  | .hbm, ⟨26, _⟩ => ⟨S2x512x2x128, .f32⟩
  | .hbm, ⟨27, _⟩ => ⟨S_, .f32⟩
  | .hbm, ⟨28, _⟩ => ⟨S2x512x2x128, .f32⟩
  | .hbm, ⟨29, _⟩ => ⟨S2x512x2x128, .f32⟩
  | .hbm, ⟨30, _⟩ => ⟨S2x512x2x128, .f32⟩
  | .hbm, ⟨31, _⟩ => ⟨S_, .f32⟩
  | .hbm, ⟨32, _⟩ => ⟨S2x512x2x128, .f32⟩
  | .hbm, ⟨33, _⟩ => ⟨S2x512x2x128, .f32⟩
  | .hbm, ⟨34, _⟩ => ⟨S2x512x2x128, .f32⟩
  | .hbm, ⟨35, _⟩ => ⟨S_, .f32⟩
  | .hbm, ⟨36, _⟩ => ⟨S2x512x2x128, .f32⟩
  | .hbm, ⟨37, _⟩ => ⟨S2x512x2x128, .f32⟩
  | .hbm, ⟨38, _⟩ => ⟨S_, .f32⟩
  | .hbm, ⟨39, _⟩ => ⟨S2x512x2x128, .f32⟩
  | .hbm, ⟨40, _⟩ => ⟨S2x512x2x128, .f32⟩
  | .hbm, ⟨41, _⟩ => ⟨S2x512x2x128, .f32⟩
  | .hbm, ⟨42, _⟩ => ⟨S2x512x2x64, .f32⟩
  | .hbm, ⟨43, _⟩ => ⟨S1x1x64, .f32⟩
  | .hbm, ⟨44, _⟩ => ⟨S64, .f32⟩
  | .hbm, ⟨45, _⟩ => ⟨S2x512x2x64, .f32⟩
  | .hbm, ⟨46, _⟩ => ⟨S_, .f32⟩
  | .hbm, ⟨47, _⟩ => ⟨S2x512x2, .f32⟩
  | .hbm, ⟨48, _⟩ => ⟨S2x512x2x1, .f32⟩
  | .hbm, ⟨49, _⟩ => ⟨S_, .f32⟩
  | .hbm, ⟨50, _⟩ => ⟨S2x512x2x1, .f32⟩
  | .hbm, ⟨51, _⟩ => ⟨S2x512x2x1, .f32⟩
  | .hbm, ⟨52, _⟩ => ⟨S_, .f32⟩
  | .hbm, ⟨53, _⟩ => ⟨S2x512x2x1, .f32⟩
  | .hbm, ⟨54, _⟩ => ⟨S2x512x2x1, .f32⟩
  | .hbm, ⟨55, _⟩ => ⟨S2x512x2x1, .f32⟩
  | .hbm, ⟨56, _⟩ => ⟨S2x512x2x64, .f32⟩
  | .hbm, ⟨57, _⟩ => ⟨S2x512x2x64, .f32⟩
  | .hbm, ⟨58, _⟩ => ⟨S1x1x1x64, .f32⟩
  | .hbm, ⟨59, _⟩ => ⟨S2x512x2x64, .f32⟩
  | .hbm, ⟨60, _⟩ => ⟨S2x512x2x64, .f32⟩
  | .hbm, ⟨61, _⟩ => ⟨S2x8192x2x64, .f32⟩
  | .hbm, ⟨62, _⟩ => ⟨S32x64, .f32⟩
  | .hbm, ⟨63, _⟩ => ⟨S2048x128, .f32⟩
  | .hbm, ⟨64, _⟩ => ⟨S128x64, .f32⟩
  | .hbm, ⟨65, _⟩ => ⟨S2x512x16x2x64, .f32⟩
  | .hbm, ⟨66, _⟩ => ⟨S2x1x16x2x64, .f32⟩
  | .hbm, ⟨67, _⟩ => ⟨S2x513x16x2x64, .f32⟩
  | .hbm, ⟨68, _⟩ => ⟨S2x512x16x2x64, .f32⟩
  | .hbm, ⟨69, _⟩ => ⟨S2x512x16x2x64, .f32⟩
  | .hbm, ⟨70, _⟩ => ⟨S2x512x32x2x64, .f32⟩
  | .hbm, ⟨71, _⟩ => ⟨S1x1x32x1x64, .f32⟩
  | .hbm, ⟨72, _⟩ => ⟨S2x512x32x2x64, .f32⟩
  | .hbm, ⟨73, _⟩ => ⟨S2x512x32x2x64, .f32⟩
  | .hbm, ⟨74, _⟩ => ⟨S2x512x2x32x64, .f32⟩
  | .hbm, ⟨75, _⟩ => ⟨S2x512x2x2048, .f32⟩
  | .hbm, ⟨76, _⟩ => ⟨S2x512x2x128, .f32⟩
  | .hbm, ⟨77, _⟩ => ⟨S2x512x2x128, .f32⟩
  | .hbm, ⟨78, _⟩ => ⟨S2x512x2x128, .f32⟩
  | .hbm, ⟨79, _⟩ => ⟨S_, .f32⟩
  | .hbm, ⟨80, _⟩ => ⟨S2x512x2x128, .f32⟩
  | .hbm, ⟨81, _⟩ => ⟨S2x512x2x128, .f32⟩
  | .hbm, ⟨82, _⟩ => ⟨S2x512x2x128, .f32⟩
  | .hbm, ⟨83, _⟩ => ⟨S_, .f32⟩
  | .hbm, ⟨84, _⟩ => ⟨S2x512x2x128, .f32⟩
  | .hbm, ⟨85, _⟩ => ⟨S2x512x2x128, .f32⟩
  | .hbm, ⟨86, _⟩ => ⟨S2x512x2x128, .f32⟩
  | .hbm, ⟨87, _⟩ => ⟨S_, .f32⟩
  | .hbm, ⟨88, _⟩ => ⟨S2x512x2x128, .f32⟩
  | .hbm, ⟨89, _⟩ => ⟨S2x512x2x128, .f32⟩
  | .hbm, ⟨90, _⟩ => ⟨S_, .f32⟩
  | .hbm, ⟨91, _⟩ => ⟨S2x512x2x128, .f32⟩
  | .hbm, ⟨92, _⟩ => ⟨S2x512x2x128, .f32⟩
  | .hbm, ⟨93, _⟩ => ⟨S2x512x2x128, .f32⟩
  | .hbm, ⟨94, _⟩ => ⟨S2x512x2x64, .f32⟩
  | .hbm, ⟨95, _⟩ => ⟨S2x512x128, .f32⟩
  | .hbm, ⟨96, _⟩ => ⟨S2x512x128, .bf16⟩
  | .hbm, ⟨97, _⟩ => ⟨S2x512x128, .f32⟩
  | .hbm, ⟨98, _⟩ => ⟨S2x512x128, .bf16⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_6 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_8 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]
-- ==== Proof.Chunk.lean ====
module

public import proofs.«01_k».proof.Proof.Gen.KernelIdeal.Value

/-! One chunk of the recurrence as the kernel computes it: 64 rows of one head. The kernel's body
writes this computation out for each of the four heads and four chunks of a block; here it is written once, as a
function of the chunk's rows, the head's lower bound and gain, and the state before the chunk. -/

@[expose] public section

set_option maxRecDepth 16384

noncomputable section

namespace Cert.Hgrn

open Cert.KernelIdeal Cert.KernelIdeal.Gen Idealize.ShloMosaic Idealize.ShloMosaic.TcCoe Idealize.SL.Sem

variable {F : FTy → Type} [FloatOps F]

/-- The rows of a stored chunk, without the leading unit axis. -/
def rows (x : Vec F S1x64x128 .f32) : FVec F S64x128 .f32 := shapeCast S64x128 x shapeCasts_S1x64x128_S64x128

/-- The lower triangle (with the diagonal) as ones. -/
def tri : FVec F S64x64 .bf16 :=
  truncf .bf16 (sitofp .f32 (extui 32 (cmpi .sle (iota .tc S64x64 32 [1] iota_S64x64_d1_w32) (iota .tc S64x64 32 [0] iota_S64x64_d0_w32)) natLt_1_32)) bitsLt_bf16_f32

/-- The lower triangle (with the diagonal) as a mask. -/
def low : IVec S64x64 1 :=
  cmpi .sle (iota .tc S64x64 32 [1] iota_S64x64_d1_w32) (iota .tc S64x64 32 [0] iota_S64x64_d0_w32)

/-- The forget gate `lb + (1 - lb) * sigmoid hf`. -/
def gate (lb : FVec F S1x128 .f32) (hf : FVec F S64x128 .f32) : FVec F S64x128 .f32 :=
  addf (broadcastTo S64x128 lb broadcasts_S1x128_S64x128)
    (mulf (broadcastTo S64x128 (subf (broadcast S1x128 (Scalar.ofBits .f32 0x3F800000#32)) lb) broadcasts_S1x128_S64x128)
      (logistic hf))

/-- The key `1 - gate`. -/
def key (lb : FVec F S1x128 .f32) (hf : FVec F S64x128 .f32) : FVec F S64x128 .f32 :=
  subf (broadcast S64x128 (Scalar.ofBits .f32 0x3F800000#32)) (gate lb hf)

/-- The leading part of a value. -/
def part (g : FVec F S64x128 .f32) : FVec F S64x128 .bf16 := truncf .bf16 g bitsLt_bf16_f32

/-- What the leading part leaves. -/
def rest (g : FVec F S64x128 .f32) : FVec F S64x128 .f32 := subf g (extf .f32 (part g) bitsLt_bf16_f32)

/-- The triangle times a part. -/
def triDot (g : FVec F S64x128 .bf16) : FVec F S64x128 .f32 :=
  matmul dot_S64x64_S64x128_S64x128_1_0_0_1_n_n none tri g (constant S64x128 .f32 0x00000000#32)

/-- The running sum down the rows, taken part by part. -/
def runSum (g : FVec F S64x128 .f32) : FVec F S64x128 .f32 :=
  addf (addf (triDot (part g)) (triDot (part (rest g)))) (triDot (part (rest (rest g))))

/-- The cumulative log-decay inside the chunk. -/
def cum (lb : FVec F S1x128 .f32) (hf : FVec F S64x128 .f32) : FVec F S64x128 .f32 := runSum (log (gate lb hf))

/-- The query `hq * sigmoid hq`. -/
def query (hq : FVec F S64x128 .f32) : FVec F S64x128 .f32 := mulf hq (logistic hq)

/-- The reference rows of the four sub-blocks: nothing, then rows 15, 31 and 47. -/
def ref0 : FVec F S1x128 .f32 := broadcast S1x128 (Scalar.ofBits .f32 0x00000000#32)
def ref1 (b : FVec F S64x128 .f32) : FVec F S1x128 .f32 := extractStridedSlice S1x128 ![15, 0] b slices_S64x128_o15_0_S1x128
def ref2 (b : FVec F S64x128 .f32) : FVec F S1x128 .f32 := extractStridedSlice S1x128 ![31, 0] b slices_S64x128_o31_0_S1x128
def ref3 (b : FVec F S64x128 .f32) : FVec F S1x128 .f32 := extractStridedSlice S1x128 ![47, 0] b slices_S64x128_o47_0_S1x128
/-- The last row. -/
def lastRow (b : FVec F S64x128 .f32) : FVec F S1x128 .f32 := extractStridedSlice S1x128 ![63, 0] b slices_S64x128_o63_0_S1x128

/-- One reference row over a sub-block. -/
def spread (r : FVec F S1x128 .f32) : FVec F S16x128 .f32 :=
  broadcastTo S16x128 (shapeCast S1x128 r shapeCasts_S1x128_S1x128) broadcasts_S1x128_S16x128

/-- Each row's reference. -/
def refs (b : FVec F S64x128 .f32) : FVec F S64x128 .f32 :=
  concatenate S64x128 0 [⟨S16x128, spread ref0⟩, ⟨S16x128, spread (ref1 b)⟩, ⟨S16x128, spread (ref2 b)⟩, ⟨S16x128, spread (ref3 b)⟩] concatenates_S16x128_S16x128_S16x128_S16x128_S64x128_d0

/-- The queries decayed back to their reference. -/
def qDec (q b : FVec F S64x128 .f32) : FVec F S64x128 .bf16 := truncf .bf16 (mulf q (exp (subf b (refs b)))) bitsLt_bf16_f32

/-- The keys decayed up to the reference `r`, of the rows below `n`. -/
def kDec (n : BitVec 32) (r : FVec F S1x128 .f32) (k b : FVec F S64x128 .f32) : FVec F S64x128 .bf16 :=
  truncf .bf16 (mulf k (exp (select (cmpi .slt (iota .tc S64x128 32 [0] iota_S64x128_d0_w32) (broadcast S64x128 n))
    (subf (broadcastTo S64x128 r broadcasts_S1x128_S64x128) b) (broadcast S64x128 (Scalar.ofBits .f32 0x00000000#32))))) bitsLt_bf16_f32

/-- A sub-block's scores. -/
def scores (q : FVec F S16x128 .bf16) (k : FVec F S64x128 .bf16) : FVec F S16x64 .f32 :=
  matmul dot_S16x128_S64x128_S16x64_1_1_0_0_n_n none q k (constant S16x64 .f32 0x00000000#32)

/-- The chunk's scores, sub-block by sub-block, masked to the lower triangle. -/
def attn (q k b : FVec F S64x128 .f32) : FVec F S64x64 .f32 :=
  select low (concatenate S64x64 0
    [⟨S16x64, scores (extractStridedSlice S16x128 ![0, 0] (qDec q b) slices_S64x128_o0_0_S16x128) (kDec 16#32 ref0 k b)⟩,
     ⟨S16x64, scores (extractStridedSlice S16x128 ![16, 0] (qDec q b) slices_S64x128_o16_0_S16x128) (kDec 32#32 (ref1 b) k b)⟩,
     ⟨S16x64, scores (extractStridedSlice S16x128 ![32, 0] (qDec q b) slices_S64x128_o32_0_S16x128) (kDec 48#32 (ref2 b) k b)⟩,
     ⟨S16x64, scores (extractStridedSlice S16x128 ![48, 0] (qDec q b) slices_S64x128_o48_0_S16x128) (kDec 64#32 (ref3 b) k b)⟩]
    concatenates_S16x64_S16x64_S16x64_S16x64_S64x64_d0) (broadcast S64x64 (Scalar.ofBits .f32 0x00000000#32))

/-- The chunk's mixture before the normalisation: the part inside the chunk and the state's part. -/
def mix (q k b hi : FVec F S64x128 .f32) (st : FVec F S128x128 .f32) : FVec F S64x128 .f32 :=
  addf (matmul dot_S64x64_S64x128_S64x128_1_0_0_1_n_n none (truncf .bf16 (attn q k b) bitsLt_bf16_f32) (truncf .bf16 hi bitsLt_bf16_f32) (constant S64x128 .f32 0x00000000#32))
    (matmul dot_S64x128_S128x128_S64x128_1_1_0_0_n_n none (truncf .bf16 (mulf q (exp b)) bitsLt_bf16_f32) (truncf .bf16 st bitsLt_bf16_f32) (constant S64x128 .f32 0x00000000#32))

/-- The normalisation, the gain and the output gate. -/
def finish (gain : FVec F S1x128 .f32) (hg o : FVec F S64x128 .f32) : FVec F S64x128 .bf16 :=
  truncf .bf16 (mulf (mulf (mulf o (broadcastTo S64x128 (rsqrt (addf (divf (shapeCast S64x1 (multiReduction .add [1] S64 (mulf o o) 0x00000000#32 reduces_S64x128_S64 (.inl rfl) rfl) shapeCasts_S64_S64x1)
    (broadcast S64x1 (Scalar.ofBits .f32 0x43000000#32))) (broadcast S64x1 (Scalar.ofBits .f32 0x358637BD#32)))) broadcasts_S64x1_S64x128))
    (broadcastTo S64x128 gain broadcasts_S1x128_S64x128)) (mulf hg (logistic hg))) bitsLt_bf16_f32

/-- THE CHUNK'S OUTPUT, as stored. -/
def chunkOut (lb gain : FVec F S1x128 .f32) (xq xf xi xg : Vec F S1x64x128 .f32) (st : FVec F S128x128 .f32) : FVec F S1x64x128 .bf16 :=
  shapeCast S1x64x128 (finish gain (rows xg) (mix (query (rows xq)) (key lb (rows xf)) (cum lb (rows xf)) (rows xi) st)) shapeCasts_S64x128_S1x64x128

/-- The state after a chunk, from its keys and cumulative log-decay. -/
def step (k b hi : FVec F S64x128 .f32) (st : FVec F S128x128 .f32) : FVec F S128x128 .f32 :=
  addf (mulf st (broadcastTo S128x128 (exp (lastRow b)) broadcasts_S1x128_S128x128))
    (matmul dot_S128x64_S64x128_S128x128_1_0_0_1_n_n none (truncf .bf16 (transpose S128x64 [1, 0] hi transposes_S64x128_p1_0_S128x64) bitsLt_bf16_f32)
      (truncf .bf16 (mulf k (exp (subf (broadcastTo S64x128 (lastRow b) broadcasts_S1x128_S64x128) b))) bitsLt_bf16_f32) (constant S128x128 .f32 0x00000000#32))

/-- THE STATE AFTER THE CHUNK (rows are the value's coordinates, columns the key's). -/
def chunkSt (lb : FVec F S1x128 .f32) (xf xi : Vec F S1x64x128 .f32) (st : FVec F S128x128 .f32) : FVec F S128x128 .f32 :=
  step (key lb (rows xf)) (cum lb (rows xf)) (rows xi) st

/-! ## A block of four heads and four chunks -/

/-- Where a chunk's rows of one of the four column groups lie in the block. -/
theorem inb_in : ∀ (c h g : Fin 4) (a : Fin 3), (![0, 64 * c.val, 512 * g.val + 128 * h.val] : Fin 3 → ℕ) a + (![1, 64, 128] : Fin 3 → ℕ) a ≤ S1x256x2048.size a := by decide
theorem inb_out : ∀ (c h : Fin 4) (a : Fin 3), (![0, 64 * c.val, 128 * h.val] : Fin 3 → ℕ) a + (![1, 64, 128] : Fin 3 → ℕ) a ≤ S1x256x512.size a := by decide
theorem inb_st : ∀ (h : Fin 4) (a : Fin 3), (![h.val, 0, 0] : Fin 3 → ℕ) a + (![1, 128, 128] : Fin 3 → ℕ) a ≤ S4x128x128.size a := by decide
theorem slices_lb : ∀ h : Fin 4, S1x512.Slices ![0, 128 * h.val] S1x128 := by decide

/-- Chunk `c` of head `h` in column group `g` (queries, gates, values, output gates) of a block. -/
def grp (x : Vec F S1x256x2048 .f32) (c h g : Fin 4) : Vec F S1x64x128 .f32 :=
  View.ld x (Rect.unit (s := S1x256x2048) ![0, 64 * c.val, 512 * g.val + 128 * h.val] ![1, 64, 128] (inb_in c h g))

/-- Head `h`'s lower bound. -/
def lbOf (lg : Vec F S2x512 .f32) (h : Fin 4) : FVec F S1x128 .f32 :=
  extractStridedSlice S1x128 ![0, 128 * h.val] (k0_pay3 (View.ld lg (Rect.unit (s := S2x512) ![0, 0] ![2, 512] inb_S2x512_S2x512_0_0))) (slices_lb h)

/-- The gain row. -/
def gainOf (og : Vec F S1x128 .f32) : FVec F S1x128 .f32 := View.ld og (Rect.unit (s := S1x128) ![0, 0] ![1, 128] inb_S1x128_S1x128_0_0)

/-- Head `h`'s carried state. -/
def stOf (s : Vec F S4x128x128 .f32) (h : Fin 4) : FVec F S128x128 .f32 :=
  shapeCast S128x128 (View.ld s (Rect.unit (s := S4x128x128) ![h.val, 0, 0] ![1, 128, 128] (inb_st h))) shapeCasts_S1x128x128_S128x128

/-- Head `h`'s state after `n` chunks of the block. -/
def stAfter (x : Vec F S1x256x2048 .f32) (lg : Vec F S2x512 .f32) (h : Fin 4) (st : FVec F S128x128 .f32) : ℕ → FVec F S128x128 .f32
  | 0 => st
  | n + 1 => chunkSt (lbOf lg h) (grp x (Fin.ofNat 4 n) h 1) (grp x (Fin.ofNat 4 n) h 2) (stAfter x lg h st n)

/-- Chunk `c` of head `h`'s output. -/
def outOf (x : Vec F S1x256x2048 .f32) (lg : Vec F S2x512 .f32) (og : Vec F S1x128 .f32) (st : FVec F S128x128 .f32) (c h : Fin 4) : FVec F S1x64x128 .bf16 :=
  chunkOut (lbOf lg h) (gainOf og) (grp x c h 0) (grp x c h 1) (grp x c h 2) (grp x c h 3) (stAfter x lg h st c.val)

end Cert.Hgrn
-- ==== Proof.Block.lean ====
module

public import proofs.«01_k».proof.Proof.Chunk
public import Idealize.ShloMosaic.Lib.Pipeline.ReadBack
public import Idealize.ShloMosaic.Lib.Pointwise

/-! What one grid point of the recurrence's kernel leaves: its output block and its four carried states, each a
function of the point's input blocks and of the states before it (zeros at the first point of a batch row). -/

@[expose] public section

set_option maxRecDepth 16384

noncomputable section

namespace Cert.Hgrn

open Cert.KernelIdeal Cert.KernelIdeal.Gen Idealize.ShloMosaic Idealize.ShloMosaic.TcCoe Idealize.SL.Sem

variable {F : FTy → Type} [FloatOps F]

/-- The four states stored, last head first. -/
def stPieces (x : Vec F S1x256x2048 .f32) (lg : Vec F S2x512 .f32) (s : Vec F S4x128x128 .f32) : List (View.Piece (Elt F) S4x128x128 .f32) :=
  List.ofFn fun k : Fin 4 => ⟨Rect.unit (s := S4x128x128) ![k.rev.val, 0, 0] ![1, 128, 128] (inb_st k.rev),
    shapeCast S1x128x128 (stAfter x lg k.rev (stOf s k.rev) 4) shapeCasts_S128x128_S1x128x128⟩

/-- The head of the sixteen tiles' `k`-th store, counted from the last, and its chunk. -/
def hd (k : Fin 16) : Fin 4 := Fin.divNat (m := 4) (n := 4) k.rev
def ch (k : Fin 16) : Fin 4 := Fin.modNat (m := 4) (n := 4) k.rev

/-- The sixteen output tiles stored, last first. -/
def outPieces (x : Vec F S1x256x2048 .f32) (lg : Vec F S2x512 .f32) (og : Vec F S1x128 .f32) (s : Vec F S4x128x128 .f32) : List (View.Piece (Elt F) S1x256x512 .bf16) :=
  List.ofFn fun k : Fin 16 => ⟨Rect.unit (s := S1x256x512) ![0, 64 * (ch k).val, 128 * (hd k).val] ![1, 64, 128] (inb_out (ch k) (hd k)),
    outOf x lg og (stOf s (hd k)) (ch k) (hd k)⟩

/-- The states before the first chunk of a batch row. -/
def zeros : Vec F S4x128x128 .f32 := k0_pay2

section Cases
variable (c : Dev nD) (t : Fin cfg0.N) (x : Vec F S1x256x2048 .f32) (lg : Vec F S2x512 .f32) (og : Vec F S1x128 .f32) (s : Vec F S4x128x128 .f32)

/-- A later point's states. -/
theorem soutB (h0 : ¬cond0_0 (grid0.coords t)) :
    sout0_B_0 c (grid0.coords t) (ms0_0 t) (hs0_0 t) (ms0_1 t) (hs0_1 t) (ms0_2 t) (hs0_2 t) (ms0_3 t) (hs0_3 t) scM0_0 (Memref.isWhole_whole _) h0 x lg og s
      = View.canon (stPieces x lg s) := by
  unfold sout0_B_0
  rw [View.read_writes_eq_canon _ _ _ (scover0_B_0 c _ _ _ _ _ _ _ _ _ _ _ _ _ _ _ _)]
  unfold kernelRun0_B
  dsimp only
  sl_unfold_words
  simp only [View.readAt_eq_ld, (hs0_0 t).read_unread, (hs0_1 t).read_unread, (hs0_2 t).read_unread, (Memref.isWhole_whole _).read_unread]
  rfl

/-- A later point's output. -/
theorem outB (h0 : ¬cond0_0 (grid0.coords t)) :
    out0_B_3 c (grid0.coords t) (ms0_0 t) (hs0_0 t) (ms0_1 t) (hs0_1 t) (ms0_2 t) (hs0_2 t) (ms0_3 t) (hs0_3 t) scM0_0 (Memref.isWhole_whole _) h0 x lg og s
      = View.canon (outPieces x lg og s) := by
  unfold out0_B_3
  rw [View.read_writes_eq_canon _ _ _ (cover0_B_3 c _ _ _ _ _ _ _ _ _ _ _ _ _ _ _ _)]
  unfold kernelRun0_B
  dsimp only
  sl_unfold_words
  simp only [View.readAt_eq_ld, (hs0_0 t).read_unread, (hs0_1 t).read_unread, (hs0_2 t).read_unread, (Memref.isWhole_whole _).read_unread]
  rfl

/-- A first point's states. -/
theorem soutA (h0 : cond0_0 (grid0.coords t)) :
    sout0_A_0 c (grid0.coords t) (ms0_0 t) (hs0_0 t) (ms0_1 t) (hs0_1 t) (ms0_2 t) (hs0_2 t) (ms0_3 t) (hs0_3 t) scM0_0 (Memref.isWhole_whole _) h0 x lg og
      = View.canon (stPieces x lg zeros ++ [⟨Rect.unit (s := S4x128x128) ![0, 0, 0] ![4, 128, 128] inb_S4x128x128_S4x128x128_0_0_0, zeros⟩]) := by
  unfold sout0_A_0
  rw [View.read_writes_eq_canon _ _ _ (scover0_A_0 c _ _ _ _ _ _ _ _ _ _ _ _ _ _ _)]
  unfold kernelRun0_A
  dsimp only
  sl_unfold_words
  simp (disch := decide) only [View.readAt_eq_ld, (hs0_0 t).read_unread, (hs0_1 t).read_unread, (hs0_2 t).read_unread, ↓View.readCov_skip, ↓View.readCov_fill]
  unfold zeros
  generalize (k0_pay2 : FVec F S4x128x128 .f32) = z
  rfl

/-- A first point's output. -/
theorem outA (h0 : cond0_0 (grid0.coords t)) :
    out0_A_3 c (grid0.coords t) (ms0_0 t) (hs0_0 t) (ms0_1 t) (hs0_1 t) (ms0_2 t) (hs0_2 t) (ms0_3 t) (hs0_3 t) scM0_0 (Memref.isWhole_whole _) h0 x lg og
      = View.canon (outPieces x lg og zeros) := by
  unfold out0_A_3
  rw [View.read_writes_eq_canon _ _ _ (cover0_A_3 c _ _ _ _ _ _ _ _ _ _ _ _ _ _ _)]
  unfold kernelRun0_A
  dsimp only
  sl_unfold_words
  simp (disch := decide) only [View.readAt_eq_ld, (hs0_0 t).read_unread, (hs0_1 t).read_unread, (hs0_2 t).read_unread, ↓View.readCov_skip, ↓View.readCov_fill]
  unfold zeros
  generalize (k0_pay2 : FVec F S4x128x128 .f32) = z
  rfl

end Cases

/-! ## Read at an index -/

/-- A point's states, whole. -/
def stBlk (x : Vec F S1x256x2048 .f32) (lg : Vec F S2x512 .f32) (s : Vec F S4x128x128 .f32) : Vec F S4x128x128 .f32 :=
  fun y => stAfter x lg (y 0) (stOf s (y 0)) 4 (ix2 (y 1) (y 2))

/-- A point's output, whole. -/
def outBlk (x : Vec F S1x256x2048 .f32) (lg : Vec F S2x512 .f32) (og : Vec F S1x128 .f32) (s : Vec F S4x128x128 .f32) : Vec F S1x256x512 .bf16 :=
  fun y => outOf x lg og (stOf s (Fin.ofNat 4 ((y 2).val / 128))) (Fin.ofNat 4 ((y 1).val / 64)) (Fin.ofNat 4 ((y 2).val / 128))
    (ix3 0 (Fin.ofNat 64 (y 1).val) (Fin.ofNat 128 (y 2).val))

theorem stPieces_at (x : Vec F S1x256x2048 .f32) (lg : Vec F S2x512 .f32) (s : Vec F S4x128x128 .f32) (L : List (View.Piece (Elt F) S4x128x128 .f32)) :
    View.canon (stPieces x lg s ++ L) = stBlk x lg s := by
  funext y
  refine View.canon_append_of_pieces (stBlk x lg s) L _ ?_ y ?_
  · intro p hp z
    obtain ⟨k, rfl⟩ := (List.mem_ofFn).mp hp
    have hz : (Rect.unit (s := S4x128x128) ![k.rev.val, 0, 0] ![1, 128, 128] (inb_st k.rev)).emb z = (ix3 k.rev (z 1) (z 2) : S4x128x128.Idx) := by
      funext a
      apply Fin.ext
      rw [Rect.emb_apply]
      have h0 : (z 0).val < 1 := (z 0).isLt
      match a with
      | ⟨0, _⟩ => show k.rev.val + 1 * (z 0).val = k.rev.val; omega
      | ⟨1, _⟩ => show 0 + 1 * (z 1).val = (z 1).val; omega
      | ⟨2, _⟩ => show 0 + 1 * (z 2).val = (z 2).val; omega
    rw [hz]
    show shapeCast S1x128x128 (stAfter x lg k.rev (stOf s k.rev) 4) shapeCasts_S128x128_S1x128x128 z = stAfter x lg k.rev (stOf s k.rev) 4 (ix2 (z 1) (z 2))
    pointwise
  · refine ⟨_, (List.mem_ofFn).mpr ⟨Fin.rev (y 0), rfl⟩, ?_⟩
    refine (Rect.mem_set_unit (inb := inb_st _)).mpr fun a => ?_
    have h1 : (y 1).val < 128 := (y 1).isLt
    have h2 : (y 2).val < 128 := (y 2).isLt
    match a with
    | ⟨0, _⟩ => show (Fin.rev (Fin.rev (y 0))).val ≤ (y 0).val ∧ (y 0).val < (Fin.rev (Fin.rev (y 0))).val + 1; rw [Fin.rev_rev]; omega
    | ⟨1, _⟩ => show 0 ≤ (y 1).val ∧ (y 1).val < 0 + 128; omega
    | ⟨2, _⟩ => show 0 ≤ (y 2).val ∧ (y 2).val < 0 + 128; omega

theorem hd_ch (c h : Fin 4) : ∃ k, hd k = h ∧ ch k = c := (by decide : ∀ c h : Fin 4, ∃ k, hd k = h ∧ ch k = c) c h

/-- Each tile is its part of the block. -/
theorem outTile_at (x : Vec F S1x256x2048 .f32) (lg : Vec F S2x512 .f32) (og : Vec F S1x128 .f32) (s : Vec F S4x128x128 .f32) (c h : Fin 4) (z : S1x64x128.Idx) :
    outOf x lg og (stOf s h) c h z = outBlk x lg og s ((Rect.unit (s := S1x256x512) ![0, 64 * c.val, 128 * h.val] ![1, 64, 128] (inb_out c h)).emb z) := by
  have h0 : (z 0).val < 1 := (z 0).isLt
  have h1 : (z 1).val < 64 := (z 1).isLt
  have h2 : (z 2).val < 128 := (z 2).isLt
  have hz : (Rect.unit (s := S1x256x512) ![0, 64 * c.val, 128 * h.val] ![1, 64, 128] (inb_out c h)).emb z
      = (ix3 0 ⟨64 * c.val + (z 1).val, by omega⟩ ⟨128 * h.val + (z 2).val, by omega⟩ : S1x256x512.Idx) := by
    funext a
    apply Fin.ext
    rw [Rect.emb_apply]
    match a with
    | ⟨0, _⟩ => show 0 + 1 * (z 0).val = 0; omega
    | ⟨1, _⟩ => show 64 * c.val + 1 * (z 1).val = 64 * c.val + (z 1).val; omega
    | ⟨2, _⟩ => show 128 * h.val + 1 * (z 2).val = 128 * h.val + (z 2).val; omega
  rw [hz]
  have e1 : Fin.ofNat 4 ((128 * h.val + (z 2).val) / 128) = h := Fin.ext (show (128 * h.val + (z 2).val) / 128 % 4 = h.val by omega)
  have e2 : Fin.ofNat 4 ((64 * c.val + (z 1).val) / 64) = c := Fin.ext (show (64 * c.val + (z 1).val) / 64 % 4 = c.val by omega)
  have e3 : (ix3 0 (Fin.ofNat 64 (64 * c.val + (z 1).val)) (Fin.ofNat 128 (128 * h.val + (z 2).val)) : S1x64x128.Idx) = z := by
    funext a
    apply Fin.ext
    match a with
    | ⟨0, _⟩ => show 0 = (z 0).val; omega
    | ⟨1, _⟩ => show (64 * c.val + (z 1).val) % 64 = (z 1).val; omega
    | ⟨2, _⟩ => show (128 * h.val + (z 2).val) % 128 = (z 2).val; omega
  show outOf x lg og (stOf s h) c h z = outOf x lg og (stOf s (Fin.ofNat 4 ((128 * h.val + (z 2).val) / 128))) (Fin.ofNat 4 ((64 * c.val + (z 1).val) / 64))
    (Fin.ofNat 4 ((128 * h.val + (z 2).val) / 128)) (ix3 0 (Fin.ofNat 64 (64 * c.val + (z 1).val)) (Fin.ofNat 128 (128 * h.val + (z 2).val)))
  rw [e1, e2, e3]

theorem outPieces_at (x : Vec F S1x256x2048 .f32) (lg : Vec F S2x512 .f32) (og : Vec F S1x128 .f32) (s : Vec F S4x128x128 .f32) :
    View.canon (outPieces x lg og s) = outBlk x lg og s := by
  funext y
  rw [← List.append_nil (outPieces x lg og s)]
  refine View.canon_append_of_pieces (outBlk x lg og s) [] _ ?_ y ?_
  · intro p hp z
    obtain ⟨k, rfl⟩ := (List.mem_ofFn).mp hp
    exact outTile_at x lg og s (ch k) (hd k) z
  · have h0 : (y 0).val < 1 := (y 0).isLt
    have h1 : (y 1).val < 256 := (y 1).isLt
    have h2 : (y 2).val < 512 := (y 2).isLt
    obtain ⟨k, hk, ck⟩ := hd_ch ⟨(y 1).val / 64, by omega⟩ ⟨(y 2).val / 128, by omega⟩
    refine ⟨_, (List.mem_ofFn).mpr ⟨k, rfl⟩, ?_⟩
    refine (Rect.mem_set_unit (inb := inb_out _ _)).mpr fun a => ?_
    match a with
    | ⟨0, _⟩ => show 0 ≤ (y 0).val ∧ (y 0).val < 0 + 1; omega
    | ⟨1, _⟩ =>
      show 64 * (ch k).val ≤ (y 1).val ∧ (y 1).val < 64 * (ch k).val + 64
      rw [ck]; show 64 * ((y 1).val / 64) ≤ (y 1).val ∧ (y 1).val < 64 * ((y 1).val / 64) + 64; omega
    | ⟨2, _⟩ =>
      show 128 * (hd k).val ≤ (y 2).val ∧ (y 2).val < 128 * (hd k).val + 128
      rw [hk]; show 128 * ((y 2).val / 128) ≤ (y 2).val ∧ (y 2).val < 128 * ((y 2).val / 128) + 128; omega

end Cert.Hgrn
-- ==== Proof.Spec.lean ====
module

public import Idealize.ShloMosaic.Lib.Pointwise

/-! The recurrence's chunk over the extended reals, as formulas at an index, and the laws by which the
kernel's way of computing it gives the same numbers. No input is restricted: infinite inputs are covered. -/

@[expose] public section

noncomputable section

namespace Cert.Spec

open Idealize.ShloMosaic

/-! ## The formulas -/

/-- The lower bound of the forget gate: the first of the two logits' softmax weights. -/
def bound (l0 l1 : EReal) : EReal :=
  Ideal.div (Ideal.exp (l0 - max l0 l1)) (Ideal.exp (l0 - max l0 l1) + Ideal.exp (l1 - max l0 l1))

/-- The forget gate. -/
def gate (lb x : EReal) : EReal := lb + (1 - lb) * Ideal.logistic x

/-- `x * sigmoid x`. -/
def silu (x : EReal) : EReal := x * Ideal.logistic x

/-- The running sum down a column. -/
def cum (g : Fin 64 → EReal) (t : Fin 64) : EReal := ∑ s : Fin 64, if s ≤ t then g s else 0

/-- The score of position `t` on position `s`. -/
def score (q k b : Fin 64 → Fin 128 → EReal) (t s : Fin 64) : EReal :=
  if s ≤ t then ∑ d : Fin 128, q t d * k s d * Ideal.exp (b t d - b s d) else 0

/-- The mixture at position `t`, value coordinate `e`: the state's part and the chunk's. -/
def mix (q k b v : Fin 64 → Fin 128 → EReal) (S : Fin 128 → Fin 128 → EReal) (t : Fin 64) (e : Fin 128) : EReal :=
  (∑ d : Fin 128, q t d * Ideal.exp (b t d) * S d e) + ∑ s : Fin 64, score q k b t s * v s e

/-- The state after the chunk. -/
def step (k b v : Fin 64 → Fin 128 → EReal) (S : Fin 128 → Fin 128 → EReal) (d e : Fin 128) : EReal :=
  Ideal.exp (b 63 d) * S d e + ∑ s : Fin 64, k s d * Ideal.exp (b 63 d - b s d) * v s e

/-- Normalisation, gain and output gate of one entry, `o` being its row. -/
def finish (o gain : Fin 128 → EReal) (hg : EReal) (e : Fin 128) : EReal :=
  o e * Ideal.rsqrt (Ideal.div (∑ d : Fin 128, o d * o d) (Ideal.ofBits .f32 0x43000000#32) + Ideal.ofBits .f32 0x358637BD#32)
    * gain e * silu hg

/-! ## No gate is `⊤` -/

theorem exp_ne_bot (x : EReal) : Ideal.exp x ≠ ⊥ := by
  induction x with
  | bot => exact EReal.zero_ne_bot
  | top => exact top_ne_bot
  | coe r => exact EReal.coe_ne_bot _

theorem exp_ne_top {x : EReal} (h : x ≠ ⊤) : Ideal.exp x ≠ ⊤ := by
  induction x with
  | bot => exact EReal.zero_ne_top
  | top => exact absurd rfl h
  | coe r => exact EReal.coe_ne_top _

theorem exp_nonneg (x : EReal) : 0 ≤ Ideal.exp x := by
  induction x with
  | bot => exact le_rfl
  | top => exact le_top
  | coe r => exact EReal.coe_nonneg.mpr (Real.exp_pos r).le

/-- A quotient of two reals, the denominator not zero, is a real. -/
theorem div_real (a b : ℝ) (h : b ≠ 0) : Ideal.div a b = ((a * b⁻¹ : ℝ) : EReal) := by
  unfold Ideal.div
  rw [if_neg (by exact_mod_cast h), ← EReal.coe_inv, ← EReal.coe_mul]

theorem logistic_real (x : EReal) : ∃ r : ℝ, Ideal.logistic x = r := by
  unfold Ideal.logistic
  have h0 := exp_nonneg (-x)
  generalize Ideal.exp (-x) = y at h0
  induction y with
  | bot => simp at h0
  | top => exact ⟨0, by rw [EReal.add_top_of_ne_bot (by decide)]; simp [Ideal.div]⟩
  | coe r =>
    have hr : (0 : ℝ) ≤ r := EReal.coe_nonneg.mp h0
    refine ⟨1 * (1 + r)⁻¹, ?_⟩
    rw [← EReal.coe_one, ← EReal.coe_add, div_real _ _ (by positivity)]

theorem bound_ne_top (l0 l1 : EReal) : bound l0 l1 ≠ ⊤ := by
  have key : ∀ l : EReal, l ≤ max l0 l1 → ∃ r : ℝ, 0 ≤ r ∧ Ideal.exp (l - max l0 l1) = r := fun l hl => by
    have ht : l - max l0 l1 ≠ ⊤ := ne_of_lt (lt_of_le_of_lt (EReal.sub_nonpos.mpr hl) (by decide))
    have h1 := exp_ne_top ht
    have h2 := exp_ne_bot (l - max l0 l1)
    have h3 := exp_nonneg (l - max l0 l1)
    generalize Ideal.exp (l - max l0 l1) = y at h1 h2 h3
    induction y with
    | bot => exact absurd rfl h2
    | top => exact absurd rfl h1
    | coe r => exact ⟨r, EReal.coe_nonneg.mp h3, rfl⟩
  obtain ⟨a, ha, ea⟩ := key l0 (le_max_left _ _)
  obtain ⟨b, hb, eb⟩ := key l1 (le_max_right _ _)
  unfold bound
  rw [ea, eb, ← EReal.coe_add]
  by_cases h : a + b = 0
  · obtain ⟨rfl, rfl⟩ : a = 0 ∧ b = 0 := ⟨by linarith, by linarith⟩
    simp [Ideal.div]
  · rw [div_real _ _ h]
    exact EReal.coe_ne_top _

theorem gate_ne_top {lb : EReal} (h : lb ≠ ⊤) (x : EReal) : gate lb x ≠ ⊤ := by
  obtain ⟨r, hr⟩ := logistic_real x
  unfold gate
  rw [hr]
  induction lb with
  | bot => simp
  | top => exact absurd rfl h
  | coe l =>
    rw [← EReal.coe_one, ← EReal.coe_sub, ← EReal.coe_mul, ← EReal.coe_add]
    exact EReal.coe_ne_top _

theorem log_ne_top {x : EReal} (h : x ≠ ⊤) : Ideal.log x ≠ ⊤ := by
  induction x with
  | bot => exact bot_ne_top
  | top => exact absurd rfl h
  | coe r =>
    show (if r ≤ 0 then (⊥ : EReal) else (Real.log r : EReal)) ≠ ⊤
    split
    · exact bot_ne_top
    · exact EReal.coe_ne_top _

/-! ## The running sum -/

/-- A value, what it leaves after itself, and what that leaves: together the value. -/
theorem parts {g : EReal} (h : g ≠ ⊤) : g + (g - g) + ((g - g) - (g - g)) = g := by
  induction g with
  | bot => rfl
  | top => exact absurd rfl h
  | coe r => simp only [← EReal.coe_sub, ← EReal.coe_add, sub_self, add_zero]

theorem cum_add (f g : Fin 64 → EReal) (t : Fin 64) : cum f t + cum g t = cum (fun s => f s + g s) t := by
  unfold cum
  rw [← Finset.sum_add_distrib]
  refine Finset.sum_congr rfl fun s _ => ?_
  split
  · rfl
  · rw [add_zero]

/-- The kernel's three running sums. -/
theorem cum_parts {g : Fin 64 → EReal} (h : ∀ s, g s ≠ ⊤) (t : Fin 64) :
    cum g t + cum (fun s => g s - g s) t + cum (fun s => (g s - g s) - (g s - g s)) t = cum g t := by
  rw [cum_add, cum_add]
  exact congrArg (cum · t) (funext fun s => parts (h s))

/-- A sum of values none of which is `⊤`: a real where all are reals, `⊥` otherwise. -/
theorem sum_cases {ι : Type} (s : Finset ι) (f : ι → EReal) (h : ∀ i ∈ s, f i ≠ ⊤) :
    (∑ i ∈ s, f i ≠ ⊤) ∧ (∑ i ∈ s, f i ≠ ⊥ → ∀ i ∈ s, f i ≠ ⊥) := by
  classical
  induction s using Finset.induction_on with
  | empty => exact ⟨by simp, fun _ i hi => absurd hi (Finset.notMem_empty i)⟩
  | insert a s ha ih =>
    obtain ⟨i1, i2⟩ := ih fun i hi => h i (Finset.mem_insert_of_mem hi)
    have h0 := h a (Finset.mem_insert_self a s)
    rw [Finset.sum_insert ha]
    refine ⟨EReal.add_ne_top h0 i1, fun hne i hi => ?_⟩
    obtain ⟨n1, n2⟩ : f a ≠ ⊥ ∧ ∑ i ∈ s, f i ≠ ⊥ := by
      constructor <;> rintro e <;> apply hne <;> rw [e]
      · exact EReal.bot_add _
      · exact EReal.add_bot _
    rcases Finset.mem_insert.mp hi with rfl | hi
    · exact n1
    · exact i2 n2 i hi

theorem sum_ne_bot {ι : Type} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha]
    exact EReal.add_ne_bot_iff.mpr ⟨h a (Finset.mem_insert_self a s), ih fun i hi => h i (Finset.mem_insert_of_mem hi)⟩

theorem cum_eq_filter (g : Fin 64 → EReal) (t : Fin 64) : cum g t = ∑ s ∈ Finset.univ.filter (· ≤ t), g s :=
  (Finset.sum_filter _ _).symm

theorem cum_ne_top {g : Fin 64 → EReal} (h : ∀ s, g s ≠ ⊤) (t : Fin 64) : cum g t ≠ ⊤ := by
  rw [cum_eq_filter]
  exact (sum_cases _ g fun i _ => h i).1

/-- Where the running sum is a real, every earlier one is. -/
theorem cum_ne_bot {g : Fin 64 → EReal} (h : ∀ s, g s ≠ ⊤) {t u : Fin 64} (hu : u ≤ t) (hb : cum g t ≠ ⊥) : cum g u ≠ ⊥ := by
  rw [cum_eq_filter] at hb ⊢
  refine sum_ne_bot _ _ fun i hi => (sum_cases _ g fun i _ => h i).2 hb i ?_
  simp only [Finset.mem_filter, Finset.mem_univ, true_and] at hi ⊢
  exact hi.trans hu

/-! ## The scores -/

/-- Decaying the query back to a reference and the key up to it decays the key to the query: `b` the log-decay
at the query (`⊥` where the product has vanished), `r` the reference's, `a` the key's. -/
theorem decay {b r a : EReal} (hb : b ≠ ⊤) (hr : r ≠ ⊤) (hra : b ≠ ⊥ → r ≠ ⊥) (ha : a ≠ ⊤) (haa : b ≠ ⊥ → a ≠ ⊥) (q k : EReal) :
    (q * Ideal.exp (b - r)) * (k * Ideal.exp (r - a)) = q * k * Ideal.exp (b - a) := by
  induction b with
  | bot =>
    have e : ∀ x : EReal, Ideal.exp (⊥ - x) = 0 := fun x => by rw [sub_eq_add_neg, EReal.bot_add]; rfl
    rw [e, e, mul_zero, zero_mul, mul_zero]
  | top => exact absurd rfl hb
  | coe b =>
    have hr' := hra (EReal.coe_ne_bot b)
    have ha' := haa (EReal.coe_ne_bot b)
    lift r to ℝ using ⟨hr, hr'⟩
    lift a to ℝ using ⟨ha, ha'⟩
    rw [mul_mul_mul_comm]
    congr 1
    rw [← EReal.coe_sub, ← EReal.coe_sub, ← EReal.coe_sub]
    show ((Real.exp (b - r) : ℝ) : EReal) * ((Real.exp (r - a) : ℝ) : EReal) = ((Real.exp (b - a) : ℝ) : EReal)
    rw [← EReal.coe_mul, ← Real.exp_add]
    congr 2
    ring

/-- One head's chunk in the formulas: log-decay, running sum, key, query of the head's rows. -/
def logDecay (lb : Fin 128 → EReal) (xf : Fin 64 → Fin 128 → EReal) (s : Fin 64) (d : Fin 128) : EReal := Ideal.log (gate (lb d) (xf s d))
def cumOf (lb : Fin 128 → EReal) (xf : Fin 64 → Fin 128 → EReal) (t : Fin 64) (d : Fin 128) : EReal := cum (fun s => logDecay lb xf s d) t
def keyOf (lb : Fin 128 → EReal) (xf : Fin 64 → Fin 128 → EReal) (s : Fin 64) (d : Fin 128) : EReal := 1 - gate (lb d) (xf s d)
def queryOf (xq : Fin 64 → Fin 128 → EReal) (t : Fin 64) (d : Fin 128) : EReal := silu (xq t d)

/-- The state's formula, and the output's. -/
def stFormula (lb : Fin 128 → EReal) (xf xi : Fin 64 → Fin 128 → EReal) (S : Fin 128 → Fin 128 → EReal) : Fin 128 → Fin 128 → EReal :=
  step (keyOf lb xf) (cumOf lb xf) xi S
def outFormula (lb gain : Fin 128 → EReal) (xq xf xi xg : Fin 64 → Fin 128 → EReal) (S : Fin 128 → Fin 128 → EReal) (t : Fin 64) (e : Fin 128) : EReal :=
  finish (mix (queryOf xq) (keyOf lb xf) (cumOf lb xf) xi S t) gain (xg t e) e

/-! ## The whole recurrence

`X` is the projected input (four groups of 512 columns: queries, gates, values, output gates), `L` the two rows of
lower-bound logits, `O` the output gain. -/

/-- The rows of chunk `n` of head `h` in column group `g`. -/
def rowsOf (X : Fin 2 → Fin 8192 → Fin 2048 → EReal) (b : Fin 2) (h g : Fin 4) (n : ℕ) (s : Fin 64) (d : Fin 128) : EReal :=
  X b (Fin.ofNat 8192 (64 * n + s.val)) ⟨512 * g.val + 128 * h.val + d.val, by omega⟩

/-- Head `h`'s lower bound. -/
def lbOf (L : Fin 2 → Fin 512 → EReal) (h : Fin 4) (d : Fin 128) : EReal :=
  bound (L 0 ⟨128 * h.val + d.val, by omega⟩) (L 1 ⟨128 * h.val + d.val, by omega⟩)

theorem lbOf_ne_top (L : Fin 2 → Fin 512 → EReal) (h : Fin 4) (d : Fin 128) : lbOf L h d ≠ ⊤ := bound_ne_top _ _

/-- The state before chunk `n`. -/
def state (X : Fin 2 → Fin 8192 → Fin 2048 → EReal) (L : Fin 2 → Fin 512 → EReal) (b : Fin 2) (h : Fin 4) : ℕ → Fin 128 → Fin 128 → EReal
  | 0 => fun _ _ => 0
  | n + 1 => stFormula (lbOf L h) (rowsOf X b h 1 n) (rowsOf X b h 2 n) (state X L b h n)

/-- The output of chunk `n`, position `t`, value coordinate `e`. -/
def out (X : Fin 2 → Fin 8192 → Fin 2048 → EReal) (L : Fin 2 → Fin 512 → EReal) (O : Fin 128 → EReal) (b : Fin 2) (h : Fin 4) (n : ℕ) : Fin 64 → Fin 128 → EReal :=
  outFormula (lbOf L h) O (rowsOf X b h 0 n) (rowsOf X b h 1 n) (rowsOf X b h 2 n) (rowsOf X b h 3 n) (state X L b h n)

/-- THE RESULT at row `T` of batch `b`, column `j`. -/
def result (X : Fin 2 → Fin 8192 → Fin 2048 → EReal) (L : Fin 2 → Fin 512 → EReal) (O : Fin 128 → EReal) (b : Fin 2) (T : Fin 8192) (j : Fin 512) : EReal :=
  out X L O b ⟨j.val / 128, by omega⟩ (T.val / 64) ⟨T.val % 64, by omega⟩ ⟨j.val % 128, by omega⟩

end Cert.Spec
-- ==== Proof.Read.lean ====
module

public import proofs.«01_k».proof.Proof.Chunk
public import proofs.«01_k».proof.Proof.Spec

/-! The kernel's chunk, read at an index over the extended reals. -/

@[expose] public section

set_option maxRecDepth 16384

noncomputable section

namespace Cert.Hgrn

open Cert.KernelIdeal Cert.KernelIdeal.Gen Idealize.ShloMosaic Idealize.ShloMosaic.TcCoe Idealize.SL.Sem

theorem gate_at (lb : FVec Ideal S1x128 .f32) (hf : FVec Ideal S64x128 .f32) (t : Fin 64) (d : Fin 128) :
    gate lb hf (ix2 t d) = Spec.gate (lb (ix2 0 d)) (hf (ix2 t d)) := by
  pointwise [gate, Spec.gate]

theorem key_at (lb : FVec Ideal S1x128 .f32) (hf : FVec Ideal S64x128 .f32) (t : Fin 64) (d : Fin 128) :
    key lb hf (ix2 t d) = 1 - Spec.gate (lb (ix2 0 d)) (hf (ix2 t d)) := by
  pointwise [key, gate, Spec.gate]

theorem query_at (hq : FVec Ideal S64x128 .f32) (t : Fin 64) (d : Fin 128) : query hq (ix2 t d) = Spec.silu (hq (ix2 t d)) := by
  pointwise [query, Spec.silu]

/-- The triangle's mask at `(t, s)`. -/
theorem low_word : ∀ t s : Fin 64, IntOp.cmpi .sle (BitVec.ofNat 32 s.val) (BitVec.ofNat 32 t.val) = if s ≤ t then 1#1 else 0#1 := by
  decide +kernel

/-- A sub-block's bound on its rows. -/
theorem rows_word (s : Fin 64) (n : ℕ) (hn : n < 65) (h : s.val < n) : IntOp.cmpi .slt (BitVec.ofNat 32 s.val) (BitVec.ofNat 32 n) = 1#1 :=
  (by decide +kernel : ∀ (s : Fin 64) (n : Fin 65), s.val < n.val → IntOp.cmpi .slt (BitVec.ofNat 32 s.val) (BitVec.ofNat 32 n.val) = 1#1) s ⟨n, hn⟩ h

theorem tri_word (t s : Fin 64) : FloatOps.sitofp (F := Ideal) FTy.f32 (BitVec.setWidth 32 (IntOp.cmpi CmpIPredicate.sle (BitVec.ofNat 32 s.val) (BitVec.ofNat 32 t.val)))
    = if s ≤ t then 1 else 0 := by
  rw [low_word]
  split
  · show (((BitVec.setWidth 32 (1#1)).toInt : ℝ) : EReal) = 1
    rw [show (BitVec.setWidth 32 (1#1)).toInt = 1 by decide]; norm_num
  · show (((BitVec.setWidth 32 (0#1)).toInt : ℝ) : EReal) = 0
    rw [show (BitVec.setWidth 32 (0#1)).toInt = 0 by decide]; norm_num

theorem triDot_at (g : FVec Ideal S64x128 .bf16) (t : Fin 64) (d : Fin 128) :
    triDot g (ix2 t d) = Spec.cum (fun s => g (ix2 s d)) t := by
  pointwise [triDot, tri, Spec.cum]
  refine Finset.sum_congr rfl fun s _ => ?_
  rw [tri_word]
  split
  · rw [one_mul]
  · rw [zero_mul]

/-- The running sum, of entries none of which is `⊤`. -/
theorem runSum_at (g : FVec Ideal S64x128 .f32) (d : Fin 128) (h : ∀ s : Fin 64, g (ix2 s d) ≠ ⊤) (t : Fin 64) :
    runSum g (ix2 t d) = Spec.cum (fun s => g (ix2 s d)) t := by
  show triDot (part g) (ix2 t d) + triDot (part (rest g)) (ix2 t d) + triDot (part (rest (rest g))) (ix2 t d) = _
  rw [triDot_at, triDot_at, triDot_at]
  exact Spec.cum_parts h t

/-- The cumulative log-decay. -/
theorem cum_at (lb : FVec Ideal S1x128 .f32) (hf : FVec Ideal S64x128 .f32) (d : Fin 128) (h : lb (ix2 0 d) ≠ ⊤) (t : Fin 64) :
    cum lb hf (ix2 t d) = Spec.cum (fun s => Ideal.log (Spec.gate (lb (ix2 0 d)) (hf (ix2 s d)))) t := by
  have e : ∀ s : Fin 64, log (gate lb hf) (ix2 s d) = Ideal.log (Spec.gate (lb (ix2 0 d)) (hf (ix2 s d))) :=
    fun s => congrArg Ideal.log (gate_at lb hf s d)
  unfold cum
  rw [runSum_at _ d (fun s => by rw [e]; exact Spec.log_ne_top (Spec.gate_ne_top h _)) t]
  exact congrArg (Spec.cum · t) (funext e)

theorem scores_at (q : FVec Ideal S16x128 .bf16) (k : FVec Ideal S64x128 .bf16) (t : Fin 16) (s : Fin 64) :
    scores q k (ix2 t s) = ∑ d : Fin 128, q (ix2 t d) * k (ix2 s d) := by
  pointwise [scores]

/-- One score, before the mask: row `t` of the queries taken back to `r`, the keys up to it. -/
def raw (q k b : FVec Ideal S64x128 .f32) (r : FVec Ideal S1x128 .f32) (t s : Fin 64) : EReal :=
  ∑ d : Fin 128, (q (ix2 t d) * Ideal.exp (b (ix2 t d) - r (ix2 0 d))) * (k (ix2 s d) * Ideal.exp (r (ix2 0 d) - b (ix2 s d)))

theorem sel_one (a b : EReal) : Scalar.select 1#1 a b = a := rfl
theorem sel_zero (a b : EReal) : Scalar.select 0#1 a b = b := rfl

set_option maxHeartbeats 1000000 in
theorem attn_at (q k b : FVec Ideal S64x128 .f32) (t s : Fin 64) :
    attn q k b (ix2 t s) = if s ≤ t then
      (if t.val < 16 then raw q k b ref0 t s else if t.val < 32 then raw q k b (ref1 b) t s else if t.val < 48 then raw q k b (ref2 b) t s else raw q k b (ref3 b) t s)
    else 0 := by
  have w := low_word t s
  pointwise [attn, low, qDec, refs, spread, kDec, scores, raw, ref0, ref1, ref2, ref3]
  rw [w]
  by_cases hst : s ≤ t
  · have hs : s.val ≤ t.val := hst
    have ht := t.isLt
    simp only [if_pos hst, sel_one]
    by_cases h1 : t.val < 16
    · simp only [dif_pos h1, if_pos h1]
      refine Finset.sum_congr rfl fun d _ => ?_
      rw [rows_word s 16 (by decide) (by omega)]
      rw [sel_one, zero_sub, sub_zero]
    by_cases h2 : t.val < 32
    · have e : ∀ h, (⟨16 + (t.val - 16), h⟩ : Fin 64) = t := fun _ => Fin.ext (show 16 + (t.val - 16) = t.val by omega)
      have f : t.val - 16 < 16 := by omega
      simp only [dif_neg h1, dif_pos f, if_neg h1, if_pos h2, e]
      refine Finset.sum_congr rfl fun d _ => ?_
      rw [rows_word s 32 (by decide) (by omega), sel_one]
    by_cases h3 : t.val < 48
    · have f : ¬t.val - 16 < 16 := by omega
      have f' : t.val - 16 - 16 < 16 := by omega
      have o : 32 + (t.val - 16 - 16) = t.val := by omega
      simp only [dif_neg h1, dif_neg f, dif_pos f', if_neg h1, if_neg h2, if_pos h3, o]
      refine Finset.sum_congr rfl fun d _ => ?_
      rw [rows_word s 48 (by decide) (by omega), sel_one]
    · have f : ¬t.val - 16 < 16 := by omega
      have f' : ¬t.val - 16 - 16 < 16 := by omega
      have o : 48 + (t.val - 16 - 16 - 16) = t.val := by omega
      simp only [dif_neg h1, dif_neg f, dif_neg f', if_neg h1, if_neg h2, if_neg h3, o]
      refine Finset.sum_congr rfl fun d _ => ?_
      rw [rows_word s 64 (by decide) (by omega), sel_one]
  · rw [if_neg hst, if_neg hst]
    exact sel_zero _ _

/-- A row the scores may be referred to: its values are never `⊤`, and real wherever row `t`'s are. -/
theorem raw_eq (q k b : FVec Ideal S64x128 .f32) (r : FVec Ideal S1x128 .f32) (g : Fin 64 → Fin 128 → EReal) (hg : ∀ s d, g s d ≠ ⊤)
    (hb : ∀ t d, b (ix2 t d) = Spec.cum (fun s => g s d) t) (t s : Fin 64) (hst : s ≤ t)
    (hr : (∀ d, r (ix2 0 d) = 0) ∨ ∃ u : Fin 64, u ≤ t ∧ ∀ d, r (ix2 0 d) = b (ix2 u d)) :
    raw q k b r t s = ∑ d : Fin 128, q (ix2 t d) * k (ix2 s d) * Ideal.exp (b (ix2 t d) - b (ix2 s d)) := by
  refine Finset.sum_congr rfl fun d _ => ?_
  have top : ∀ u : Fin 64, b (ix2 u d) ≠ ⊤ := fun u => by rw [hb]; exact Spec.cum_ne_top (fun s => hg s d) u
  have bot : ∀ u : Fin 64, u ≤ t → b (ix2 t d) ≠ ⊥ → b (ix2 u d) ≠ ⊥ := fun u hu h => by
    rw [hb] at h ⊢
    exact Spec.cum_ne_bot (fun s => hg s d) hu h
  refine Spec.decay (top t) ?_ ?_ (top s) (bot s hst) _ _
  · rcases hr with h | ⟨u, -, h⟩ <;> rw [h d]
    · exact EReal.zero_ne_top
    · exact top u
  · rcases hr with h | ⟨u, hu, h⟩ <;> rw [h d]
    · exact fun _ => EReal.zero_ne_bot
    · exact bot u hu

/-- THE SCORES are the recurrence's. -/
theorem attn_eq (q k b : FVec Ideal S64x128 .f32) (g : Fin 64 → Fin 128 → EReal) (hg : ∀ s d, g s d ≠ ⊤)
    (hb : ∀ t d, b (ix2 t d) = Spec.cum (fun s => g s d) t) (t s : Fin 64) :
    attn q k b (ix2 t s) = Spec.score (fun t d => q (ix2 t d)) (fun t d => k (ix2 t d)) (fun t d => b (ix2 t d)) t s := by
  rw [attn_at]
  unfold Spec.score
  by_cases hst : s ≤ t
  · rw [if_pos hst, if_pos hst]
    have r0 : ∀ d : Fin 128, ref0 (F := Ideal) (ix2 0 d) = 0 := fun d => by pointwise [ref0]
    have r1 : ∀ d : Fin 128, ref1 b (ix2 0 d) = b (ix2 15 d) := fun d => by pointwise [ref1]
    have r2 : ∀ d : Fin 128, ref2 b (ix2 0 d) = b (ix2 31 d) := fun d => by pointwise [ref2]
    have r3 : ∀ d : Fin 128, ref3 b (ix2 0 d) = b (ix2 47 d) := fun d => by pointwise [ref3]
    split
    · exact raw_eq q k b _ g hg hb t s hst (.inl r0)
    split
    · exact raw_eq q k b _ g hg hb t s hst (.inr ⟨15, show 15 ≤ t.val by omega, r1⟩)
    split
    · exact raw_eq q k b _ g hg hb t s hst (.inr ⟨31, show 31 ≤ t.val by omega, r2⟩)
    · exact raw_eq q k b _ g hg hb t s hst (.inr ⟨47, show 47 ≤ t.val by omega, r3⟩)
  · rw [if_neg hst, if_neg hst]

theorem mix_at (q k b hi : FVec Ideal S64x128 .f32) (st : FVec Ideal S128x128 .f32) (t : Fin 64) (e : Fin 128) :
    mix q k b hi st (ix2 t e) = (∑ s : Fin 64, attn q k b (ix2 t s) * hi (ix2 s e)) + ∑ d : Fin 128, q (ix2 t d) * Ideal.exp (b (ix2 t d)) * st (ix2 e d) := by
  pointwise [mix]

theorem step_at (k b hi : FVec Ideal S64x128 .f32) (st : FVec Ideal S128x128 .f32) (e d : Fin 128) :
    step k b hi st (ix2 e d) = st (ix2 e d) * Ideal.exp (b (ix2 63 d)) + ∑ s : Fin 64, hi (ix2 s e) * (k (ix2 s d) * Ideal.exp (b (ix2 63 d) - b (ix2 s d))) := by
  pointwise [step, lastRow]

theorem finish_at (gain : FVec Ideal S1x128 .f32) (hg o : FVec Ideal S64x128 .f32) (t : Fin 64) (e : Fin 128) :
    finish gain hg o (ix2 t e) = Spec.finish (fun d => o (ix2 t d)) (fun d => gain (ix2 0 d)) (hg (ix2 t e)) e := by
  pointwise [finish, Spec.finish, Spec.silu]

/-- THE CHUNK'S STATE: the kernel keeps the state turned, and adds the same products. -/
theorem chunkSt_at (lb : FVec Ideal S1x128 .f32) (xf xi : Vec Ideal S1x64x128 .f32) (st : FVec Ideal S128x128 .f32)
    (hl : ∀ d : Fin 128, lb (ix2 0 d) ≠ ⊤) (d e : Fin 128) :
    chunkSt lb xf xi st (ix2 e d) = Spec.stFormula (fun d => lb (ix2 0 d)) (fun s d => xf (ix3 0 s d)) (fun s d => xi (ix3 0 s d)) (fun d e => st (ix2 e d)) d e := by
  have r : ∀ (x : Vec Ideal S1x64x128 .f32) (s : Fin 64) (d : Fin 128), rows x (ix2 s d) = x (ix3 0 s d) := fun x s d => by pointwise [rows]
  unfold chunkSt Spec.stFormula Spec.step
  rw [step_at]
  simp only [cum_at _ _ d (hl d), key_at, r]
  rw [mul_comm]
  refine congrArg₂ (· + ·) rfl (Finset.sum_congr rfl fun s _ => ?_)
  rw [mul_comm]
  rfl

/-- THE CHUNK'S OUTPUT. -/
theorem chunkOut_at (lb gain : FVec Ideal S1x128 .f32) (xq xf xi xg : Vec Ideal S1x64x128 .f32) (st : FVec Ideal S128x128 .f32)
    (hl : ∀ d : Fin 128, lb (ix2 0 d) ≠ ⊤) (t : Fin 64) (e : Fin 128) :
    chunkOut lb gain xq xf xi xg st (ix3 0 t e) = Spec.outFormula (fun d => lb (ix2 0 d)) (fun d => gain (ix2 0 d)) (fun s d => xq (ix3 0 s d))
      (fun s d => xf (ix3 0 s d)) (fun s d => xi (ix3 0 s d)) (fun s d => xg (ix3 0 s d)) (fun d e => st (ix2 e d)) t e := by
  have r : ∀ (x : Vec Ideal S1x64x128 .f32) (s : Fin 64) (d : Fin 128), rows x (ix2 s d) = x (ix3 0 s d) := fun x s d => by pointwise [rows]
  have c : chunkOut lb gain xq xf xi xg st (ix3 0 t e) = finish gain (rows xg) (mix (query (rows xq)) (key lb (rows xf)) (cum lb (rows xf)) (rows xi) st) (ix2 t e) := by
    unfold chunkOut
    generalize finish gain (rows xg) (mix (query (rows xq)) (key lb (rows xf)) (cum lb (rows xf)) (rows xi) st) = z
    pointwise
  rw [c, finish_at, r]
  unfold Spec.outFormula
  refine congrArg (fun o => Spec.finish o _ _ e) (funext fun d => ?_)
  rw [mix_at, add_comm]
  unfold Spec.mix
  have hb : ∀ t d, cum lb (rows xf) (ix2 t d) = Spec.cumOf (fun d => lb (ix2 0 d)) (fun s d => xf (ix3 0 s d)) t d := fun t d => by
    rw [cum_at _ _ d (hl d)]
    simp only [r]
    rfl
  have a := attn_eq (query (rows xq)) (key lb (rows xf)) (cum lb (rows xf)) (Spec.logDecay (fun d => lb (ix2 0 d)) (fun s d => xf (ix3 0 s d)))
    (fun s d => Spec.log_ne_top (Spec.gate_ne_top (hl d) _)) hb
  simp only [a, hb, query_at, key_at, r]
  rfl

end Cert.Hgrn
-- ==== Proof.KernelSide.lean ====
module

public import proofs.«01_k».proof.Proof.Block
public import proofs.«01_k».proof.Proof.Read
public import Idealize.ShloMosaic.Lib.Claim
public import Idealize.ShloMosaic.Lib.Pipeline.ValueKit.Tiles
public import Idealize.ShloMosaic.Lib.Pipeline.ValueKit.Point

/-! The recurrence's kernel: what its points leave, and so its output array, is the recurrence's formula. -/

@[expose] public section

set_option maxRecDepth 16384

noncomputable section

namespace Cert.Hgrn

open Cert.KernelIdeal Cert.KernelIdeal.Gen Idealize.ShloMosaic Idealize.ShloMosaic.TcCoe Idealize.SL.Sem

/-- The lower bound of a head, of the two rows of logits. -/
theorem lbOf_at (lg : Vec Ideal S2x512 .f32) (h : Fin 4) (d : Fin 128) :
    lbOf lg h (ix2 0 d) = Spec.lbOf (fun i j => lg (ix2 i j)) h d := by
  have e : View.ld lg (Rect.unit (s := S2x512) ![0, 0] ![2, 512] inb_S2x512_S2x512_0_0) = lg := funext fun i =>
    View.ld_unit_apply_of _ _ _ _ _ i fun a => by match a with | ⟨0, _⟩ => exact (Nat.zero_add _).symm | ⟨1, _⟩ => exact (Nat.zero_add _).symm
  have p : ∀ j : Fin 512, k0_pay3 lg (ix2 0 j) = Spec.bound (lg (ix2 0 j)) (lg (ix2 1 j)) := fun j => by
    pointwise [k0_pay3]
    have b : Ideal.ofBits FTy.f32 0xFF800000#32 = ⊥ := by simp [Ideal.ofBits, Ideal.ieee]
    have f : ∀ g : Fin 2 → EReal, Finset.fold max (Ideal.ofBits FTy.f32 0xFF800000#32) g Finset.univ = max (g 0) (g 1) := fun g => by
      rw [b]
      show max (g 0) (max (g 1) ⊥) = _
      rw [max_bot_right]
    rw [f, Fin.sum_univ_two]
    rfl
  unfold lbOf Spec.lbOf
  rw [e, ← p]
  refine congrArg (k0_pay3 lg) (funext fun a => Fin.ext ?_)
  match a with
  | ⟨0, _⟩ => rfl
  | ⟨1, _⟩ => rfl

theorem gainOf_at (og : Vec Ideal S1x128 .f32) (d : Fin 128) : gainOf og (ix2 0 d) = og (ix2 0 d) :=
  View.ld_unit_apply_of _ _ _ _ _ (ix2 0 d) fun a => by match a with | ⟨0, _⟩ => rfl | ⟨1, _⟩ => exact (Nat.zero_add _).symm

theorem grp_at (x : Vec Ideal S1x256x2048 .f32) (c h g : Fin 4) (s : Fin 64) (d : Fin 128) :
    grp x c h g (ix3 0 s d) = x (ix3 0 ⟨64 * c.val + s.val, by omega⟩ ⟨512 * g.val + 128 * h.val + d.val, by omega⟩) :=
  View.ld_unit_apply_of _ _ _ _ _ _ fun a => by match a with | ⟨0, _⟩ => rfl | ⟨1, _⟩ => rfl | ⟨2, _⟩ => rfl

theorem cast_st (v : FVec Ideal S1x128x128 .f32) (e d : Fin 128) : shapeCast S128x128 v shapeCasts_S1x128x128_S128x128 (ix2 e d) = v (ix3 0 e d) := by
  pointwise

theorem stOf_at (s : Vec Ideal S4x128x128 .f32) (h : Fin 4) (e d : Fin 128) : stOf s h (ix2 e d) = s (ix3 h e d) :=
  (cast_st _ e d).trans (View.ld_unit_apply_of _ _ _ _ _ _ fun a => by match a with | ⟨0, _⟩ => rfl | ⟨1, _⟩ => exact (Nat.zero_add _).symm | ⟨2, _⟩ => exact (Nat.zero_add _).symm)

/-! ## A point's chunks -/

section Point
variable (X : Fin 2 → Fin 8192 → Fin 2048 → EReal) (L : Fin 2 → Fin 512 → EReal) (O : Fin 128 → EReal) (b : Fin 2) (j : ℕ)
  (x : Vec Ideal S1x256x2048 .f32) (lg : Vec Ideal S2x512 .f32) (og : Vec Ideal S1x128 .f32) (s : Vec Ideal S4x128x128 .f32)
  (hx : ∀ (r : Fin 256) (l : Fin 2048), x (ix3 0 r l) = X b (Fin.ofNat 8192 (256 * j + r.val)) l)
  (hl : ∀ i l, lg (ix2 i l) = L i l) (ho : ∀ l, og (ix2 0 l) = O l)
  (hs : ∀ (h : Fin 4) (e d : Fin 128), s (ix3 h e d) = Spec.state X L b h (4 * j) d e)

include hx in
theorem grp_eq (c h g : Fin 4) : (fun (u : Fin 64) (d : Fin 128) => grp x c h g (ix3 0 u d)) = Spec.rowsOf X b h g (4 * j + c.val) := by
  funext u d
  rw [grp_at, hx]
  show X b (Fin.ofNat 8192 (256 * j + (64 * c.val + u.val))) _ = X b (Fin.ofNat 8192 (64 * (4 * j + c.val) + u.val)) _
  rw [show 256 * j + (64 * c.val + u.val) = 64 * (4 * j + c.val) + u.val by omega]

include hl in
theorem lb_eq (h : Fin 4) : (fun d : Fin 128 => lbOf lg h (ix2 0 d)) = Spec.lbOf L h := by
  funext d
  rw [lbOf_at]
  exact congrArg₂ Spec.bound (hl _ _) (hl _ _)

include hl in
theorem lb_ne_top (h : Fin 4) (d : Fin 128) : lbOf lg h (ix2 0 d) ≠ ⊤ := by
  rw [congrFun (lb_eq L lg hl h) d]
  exact Spec.lbOf_ne_top L h d

include hx hl hs in
/-- The state after `n` of the point's chunks. -/
theorem stAfter_eq (h : Fin 4) : ∀ n : ℕ, n ≤ 4 → ∀ e d : Fin 128, stAfter x lg h (stOf s h) n (ix2 e d) = Spec.state X L b h (4 * j + n) d e
  | 0, _, e, d => (stOf_at s h e d).trans (hs h e d)
  | n + 1, hn, e, d => by
    have ih := stAfter_eq h n (by omega)
    have hc : (Fin.ofNat 4 n).val = n := Nat.mod_eq_of_lt (by omega)
    show chunkSt (F := Ideal) _ _ _ _ (ix2 e d) = Spec.stFormula _ _ _ _ d e
    rw [chunkSt_at _ _ _ _ (lb_ne_top L lg hl h), lb_eq L lg hl, grp_eq X b j x hx, grp_eq X b j x hx, hc]
    simp only [ih]
    rfl

include hx hl ho hs in
/-- The output of the point's chunk `c`. -/
theorem outOf_eq (c h : Fin 4) (t : Fin 64) (e : Fin 128) : outOf x lg og (stOf s h) c h (ix3 0 t e) = Spec.out X L O b h (4 * j + c.val) t e := by
  unfold outOf Spec.out
  rw [chunkOut_at _ _ _ _ _ _ _ (lb_ne_top L lg hl h), lb_eq L lg hl, grp_eq X b j x hx, grp_eq X b j x hx, grp_eq X b j x hx, grp_eq X b j x hx]
  simp only [gainOf_at, ho, stAfter_eq X L b j x lg s hx hl hs h c.val (by omega)]

include hx hl hs in
/-- The states the point leaves. -/
theorem stBlk_eq (h : Fin 4) (e d : Fin 128) : stBlk x lg s (ix3 h e d) = Spec.state X L b h (4 * j + 4) d e :=
  stAfter_eq X L b j x lg s hx hl hs h 4 le_rfl e d

include hx hl ho hs in
/-- The output the point leaves, `j` being its place in the batch row. -/
theorem outBlk_eq (hj : j < 32) (r : Fin 256) (l : Fin 512) :
    outBlk x lg og s (ix3 0 r l) = Spec.result X L O b (Fin.ofNat 8192 (256 * j + r.val)) l := by
  have hr := r.isLt
  have hl' := l.isLt
  have e0 : (Fin.ofNat 8192 (256 * j + r.val)).val = 256 * j + r.val := Nat.mod_eq_of_lt (by omega)
  have e1 : (Fin.ofNat 4 (r.val / 64)).val = r.val / 64 := Nat.mod_eq_of_lt (by omega)
  have e2 : Fin.ofNat 4 (l.val / 128) = ⟨l.val / 128, by omega⟩ := Fin.ext (Nat.mod_eq_of_lt (by omega))
  have e3 : Fin.ofNat 64 r.val = ⟨(256 * j + r.val) % 64, by omega⟩ := Fin.ext (show r.val % 64 = (256 * j + r.val) % 64 by omega)
  show outOf x lg og (stOf s (Fin.ofNat 4 (l.val / 128))) (Fin.ofNat 4 (r.val / 64)) (Fin.ofNat 4 (l.val / 128)) (ix3 0 (Fin.ofNat 64 r.val) (Fin.ofNat 128 l.val)) = _
  rw [outOf_eq X L O b j x lg og s hx hl ho hs, e1, e2, e3]
  unfold Spec.result
  simp only [e0]
  rw [show 4 * j + r.val / 64 = (256 * j + r.val) / 64 by omega]
  rfl

end Point

/-! ## The grid's points -/

variable (m : (l : Loc nD τ sig) → Buf (Elt Ideal) l)

/-- The arguments' entries. -/
def argX (c : Dev nD) (b : Fin 2) (r : Fin 8192) (l : Fin 2048) : EReal := m ((c : Thread nD τ).loc main_arg0) (ix3 b r l)
def argL (c : Dev nD) (i : Fin 2) (l : Fin 512) : EReal := m ((c : Thread nD τ).loc main_arg1) (ix2 i l)
def argO (c : Dev nD) (l : Fin 128) : EReal := m ((c : Thread nD τ).loc main_arg2) (ix2 0 l)

theorem idx0 : ∀ t : Fin cfg0.N, win0_0.index t = ![t.val / 32, t.val % 32, 0] := (by decide +kernel : ∀ t : Fin grid0.N, win0_0.index t = ![t.val / 32, t.val % 32, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])

/-- A point's batch row. -/
def bat (t : ℕ) : Fin 2 := Fin.ofNat 2 (t / 32)

theorem blk0 (c : Dev nD) (t : Fin cfg0.N) (r : Fin 256) (l : Fin 2048) :
    iblk m c 0 t (ix3 0 r l) = argX m c (bat t.val) (Fin.ofNat 8192 (256 * (t.val % 32) + r.val)) l := by
  have hN : t.val < 64 := lt_of_lt_of_eq t.isLt N_0
  have e0 : (Fin.ofNat 2 (t.val / 32)).val = t.val / 32 := Nat.mod_eq_of_lt (by omega)
  have e1 : (Fin.ofNat 8192 (256 * (t.val % 32) + r.val)).val = 256 * (t.val % 32) + r.val := Nat.mod_eq_of_lt (by omega)
  unfold argX bat
  blk_ext [iblk, V, idx0 t, e0, e1]

theorem blk1 (c : Dev nD) (t : Fin cfg0.N) (i : Fin 2) (l : Fin 512) : iblk m c 1 t (ix2 i l) = argL m c i l := by
  unfold argL
  blk_ext [iblk, V, idx1 t]

theorem blk2 (c : Dev nD) (t : Fin cfg0.N) (l : Fin 128) : iblk m c 2 t (ix2 0 l) = argO m c l := by
  unfold argO
  blk_ext [iblk, V, idx2 t]

theorem zeros_at (h : Fin 4) (e d : Fin 128) : zeros (F := Ideal) (ix3 h e d) = 0 := by
  pointwise [zeros, k0_pay2]

/-- WHAT EACH POINT LEAVES: the states after its four chunks, and its rows of the result. -/
theorem outs_eq (c : Dev nD) : ∀ (n : ℕ) (hn : n < cfg0.N),
    (∀ (h : Fin 4) (e d : Fin 128), (outsAt0 m c n hn).2 (ix3 h e d) = Spec.state (argX m c) (argL m c) (bat n) h (4 * (n % 32) + 4) d e)
    ∧ ∀ (r : Fin 256) (l : Fin 512), (outsAt0 m c n hn).1 (ix3 0 r l) = Spec.result (argX m c) (argL m c) (argO m c) (bat n) (Fin.ofNat 8192 (256 * (n % 32) + r.val)) l := by
  intro n
  induction n using Nat.strong_induction_on with
  | _ n ih =>
    intro hn
    have hj : n % 32 < 32 := Nat.mod_lt _ (by decide)
    by_cases h0 : n % 32 = 0
    · have hs : ∀ (h : Fin 4) (e d : Fin 128), zeros (F := Ideal) (ix3 h e d) = Spec.state (argX m c) (argL m c) (bat n) h (4 * (n % 32)) d e := fun h e d => by
        rw [h0, zeros_at]
        rfl
      rw [outsAt0_A m c ⟨n, hn⟩ h0]
      dsimp only
      rw [soutA, outA, stPieces_at, outPieces_at]
      exact ⟨stBlk_eq _ _ _ _ _ _ _ (blk0 m c ⟨n, hn⟩) (blk1 m c ⟨n, hn⟩) hs, outBlk_eq _ _ _ _ _ _ _ _ _ (blk0 m c ⟨n, hn⟩) (blk1 m c ⟨n, hn⟩) (blk2 m c ⟨n, hn⟩) hs hj⟩
    · have hp : n - 1 < cfg0.N := lt_of_le_of_lt (Nat.sub_le _ _) hn
      have hb : bat (n - 1) = bat n := congrArg (Fin.ofNat 2) (by omega)
      have hs : ∀ (h : Fin 4) (e d : Fin 128), (outsAt0 m c (n - 1) hp).2 (ix3 h e d) = Spec.state (argX m c) (argL m c) (bat n) h (4 * (n % 32)) d e := fun h e d => by
        rw [(ih (n - 1) (by omega) hp).1 h e d, hb, show 4 * ((n - 1) % 32) + 4 = 4 * (n % 32) by omega]
      rw [outsAt0_B m c ⟨n, hn⟩ h0]
      dsimp only
      rw [soutB, outB, ← List.append_nil (stPieces _ _ _), stPieces_at, outPieces_at]
      exact ⟨stBlk_eq _ _ _ _ _ _ _ (blk0 m c ⟨n, hn⟩) (blk1 m c ⟨n, hn⟩) hs, outBlk_eq _ _ _ _ _ _ _ _ _ (blk0 m c ⟨n, hn⟩) (blk1 m c ⟨n, hn⟩) (blk2 m c ⟨n, hn⟩) hs hj⟩

/-- THE KERNEL'S RESULT is the recurrence's. -/
theorem kernel_at (c : Dev nD) (b : Fin 2) (T : Fin 8192) (l : Fin 512) :
    Value.G3 m c (ix3 b T l) = Spec.result (argX m c) (argL m c) (argO m c) b T l := by
  have hb := b.isLt
  have hT := T.isLt
  have hl := l.isLt
  have hp : Value.pt3Of (ix3 b T l : S2x8192x512.Idx) = 32 * b.val + T.val / 256 := by
    show 32 * (b.val / 1 - 0) + 1 * (T.val / 256 - 0) + 1 * (l.val / 512 - 0) = _
    omega
  have hlt : 32 * b.val + T.val / 256 < cfg0.N := lt_of_lt_of_eq (by omega) N_0.symm
  have hloc : Value.loc3Of (ix3 b T l : S2x8192x512.Idx) = (ix3 0 ⟨T.val % 256, by omega⟩ l : S1x256x512.Idx) := by
    funext a
    apply Fin.ext
    match a with
    | ⟨0, _⟩ => show b.val % 1 = 0; omega
    | ⟨1, _⟩ => rfl
    | ⟨2, _⟩ => show l.val % 512 = l.val; omega
  unfold Value.G3
  rw [dif_pos (by rw [hp]; exact hlt), hloc, Value.fold0_congr m c _ _ _ (by omega) hp, ← Value.outsAt0_sweep m c _ hlt, (outs_eq m c _ hlt).2]
  refine congrArg₂ (fun b T => Spec.result _ _ _ b T l) (Fin.ext ?_) (Fin.ext ?_)
  · show (32 * b.val + T.val / 256) / 32 % 2 = b.val
    omega
  · show (256 * ((32 * b.val + T.val / 256) % 32) + T.val % 256) % 8192 = T.val
    omega

end Cert.Hgrn
-- ==== Proof.Window.lean ====
module

public import proofs.«01_k».proof.Proof.Gen.ReferenceIdeal
public import proofs.«01_k».proof.Proof.Spec
public import Idealize.ShloMosaic.Lib.Pointwise

/-! Window sums over the extended reals, read at an index: jnp's running sum over a chunk's positions is the
recurrence's running sum, and the first row of a two-row running sum is the first row. -/

@[expose] public section

set_option maxRecDepth 16384

noncomputable section

namespace Cert.HgrnRef

open Cert.ReferenceIdeal Cert.ReferenceIdeal.Gen Idealize.ShloMosaic Idealize.ShloMosaic.TcCoe

/-- Adding up along a list is the list's sum. -/
theorem foldl_add_sum {ι : Type} (f : ι → EReal) : ∀ (l : List ι) (a : EReal), l.foldl (fun r n => r + f n) a = a + (l.map f).sum
  | [], a => by simp
  | i :: l, a => by rw [List.foldl_cons, foldl_add_sum f l, List.map_cons, List.sum_cons, add_assoc]

/-- Adding up over a window's positions in order is the sum over the window's indices. -/
theorem foldl_window (W : Shape) (F : W.Idx → EReal) :
    (List.finRange W.numel).foldl (fun r n => r + F (W.rowMajor.symm n)) 0 = ∑ p : W.Idx, F p := by
  rw [foldl_add_sum (fun n => F (W.rowMajor.symm n)), zero_add, ← Fin.sum_univ_def]
  exact Equiv.sum_comp W.rowMajor.symm F

/-- A sum window at an index is the sum over the window's indices of the operand's elements that they meet. -/
theorem reduceWindow_sum {s t : Shape} (window strides lo hi : Fin s.rank → ℕ) (x : s.Idx → EReal)
    (h : s.ReduceWindows window strides lo hi t) (hu : 0 < (⟨0, ![]⟩ : Shape).numel) (j : t.Idx) :
    Host.reduceWindow (u := ⟨0, ![]⟩) (fun a b : EReal => a + b) window strides lo hi x (fun _ => 0) h hu j
      = ∑ p : (⟨s.rank, window⟩ : Shape).Idx,
          if hin : ∀ a : Fin s.rank, lo a ≤ (j (a.cast h.1.symm)).val * strides a + (p a).val ∧ (j (a.cast h.1.symm)).val * strides a + (p a).val - lo a < s.size a
          then x (fun a => ⟨(j (a.cast h.1.symm)).val * strides a + (p a).val - lo a, (hin a).2⟩) else 0 := by
  rw [← foldl_window ⟨s.rank, window⟩]
  refine congrArg (fun f => List.foldl f (0 : EReal) (List.finRange (⟨s.rank, window⟩ : Shape).numel)) (funext fun r => funext fun n => congrArg (r + ·) ?_)
  by_cases hin : ∀ a : Fin s.rank, lo a ≤ (j (a.cast h.1.symm)).val * strides a + ((⟨s.rank, window⟩ : Shape).rowMajor.symm n a).val
    ∧ (j (a.cast h.1.symm)).val * strides a + ((⟨s.rank, window⟩ : Shape).rowMajor.symm n a).val - lo a < s.size a
  · refine (dif_pos hin).trans ?_
    rw [dif_pos hin]
  · refine (dif_neg hin).trans ?_
    rw [dif_neg hin]

/-- The indices of a window that is 64 high along the third axis. -/
def tallEquiv : (⟨4, ![1, 1, 64, 1]⟩ : Shape).Idx ≃ Fin 64 where
  toFun p := p 2
  invFun w := ix4 0 0 w 0
  left_inv p := funext fun a => by
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv _ := rfl

/-- The indices of a window that is two high along the first axis. -/
def pairEquiv : (⟨2, ![2, 1]⟩ : Shape).Idx ≃ Fin 2 where
  toFun p := p 0
  invFun w := ix2 w 0
  left_inv p := funext fun a => by
    match a with
    | ⟨0, _⟩ => rfl
    | ⟨1, _⟩ => exact Subsingleton.elim (α := Fin 1) _ _
  right_inv _ := rfl

/-- A sum over a window that ends at position `t` is the sum over the positions up to `t`. -/
theorem shift_sum (g : Fin 64 → EReal) (t : Fin 64) :
    (∑ w : Fin 64, if h : 63 ≤ t.val + w.val then g ⟨t.val + w.val - 63, by omega⟩ else 0) = Spec.cum g t := by
  unfold Spec.cum
  have e : ∀ w : Fin 64, (if h : 63 ≤ t.val + w.val then g ⟨t.val + w.val - 63, by omega⟩ else 0)
      = if 63 ≤ t.val + w.val then g (Fin.ofNat 64 (t.val + w.val - 63)) else 0 := fun w => by
    by_cases h : 63 ≤ t.val + w.val
    · rw [dif_pos h, if_pos h]
      exact congrArg g (Fin.ext (Nat.mod_eq_of_lt (by omega)).symm)
    · rw [dif_neg h, if_neg h]
  rw [Finset.sum_congr rfl fun w _ => e w, ← Finset.sum_filter, ← Finset.sum_filter]
  refine Finset.sum_nbij' (fun w => Fin.ofNat 64 (t.val + w.val - 63)) (fun s => Fin.ofNat 64 (s.val + 63 - t.val)) ?_ ?_ ?_ ?_ ?_
  · intro w hw
    have h := (Finset.mem_filter.mp hw).2
    refine Finset.mem_filter.mpr ⟨Finset.mem_univ _, Fin.le_def.mpr ?_⟩
    show (t.val + w.val - 63) % 64 ≤ t.val
    omega
  · intro s hs
    have h := Fin.le_def.mp (Finset.mem_filter.mp hs).2
    refine Finset.mem_filter.mpr ⟨Finset.mem_univ _, ?_⟩
    show 63 ≤ t.val + (s.val + 63 - t.val) % 64
    omega
  · intro w hw
    have h := (Finset.mem_filter.mp hw).2
    refine Fin.ext ?_
    show ((t.val + w.val - 63) % 64 + 63 - t.val) % 64 = w.val
    omega
  · intro s hs
    have h := Fin.le_def.mp (Finset.mem_filter.mp hs).2
    refine Fin.ext ?_
    show (t.val + (s.val + 63 - t.val) % 64 - 63) % 64 = s.val
    omega
  · intro w _
    rfl

/-- The running sum over a chunk's 64 positions. -/
theorem runSum_chunk (x : FVec Ideal S2x4x64x128 .f32) (v : FVec Ideal S_ .f32) (hv : ∀ i, v i = (0 : EReal)) (b : Fin 2) (h : Fin 4) (t : Fin 64) (d : Fin 128) :
    Host.reduceWindowAdd ![1, 1, 64, 1] ![1, 1, 1, 1] ![0, 0, 63, 0] ![0, 0, 0, 0] x v
      reduceWindows_S2x4x64x128_S2x4x64x128_w1s1p0_0_w1s1p0_0_w64s1p63_0_w1s1p0_0 h_S_ (ix4 b h t d)
      = Spec.cum (fun s => x (ix4 b h s d)) t := by
  show Host.reduceWindow (u := ⟨0, ![]⟩) (fun a b : EReal => a + b) ![1, 1, 64, 1] ![1, 1, 1, 1] ![0, 0, 63, 0] ![0, 0, 0, 0] x (fun _ => v (Shape.Idx.first h_S_))
    reduceWindows_S2x4x64x128_S2x4x64x128_w1s1p0_0_w1s1p0_0_w64s1p63_0_w1s1p0_0 h_S_ (ix4 b h t d) = _
  rw [hv, reduceWindow_sum, ← shift_sum]
  refine (Equiv.sum_comp tallEquiv.symm _).symm.trans ?_
  refine Finset.sum_congr rfl fun w _ => ?_
  by_cases hw : 63 ≤ t.val + w.val
  · rw [dif_pos hw, dif_pos (fun a => by
      match a with
      | ⟨0, _⟩ => show 0 ≤ b.val * 1 + 0 ∧ b.val * 1 + 0 - 0 < 2; omega
      | ⟨1, _⟩ => show 0 ≤ h.val * 1 + 0 ∧ h.val * 1 + 0 - 0 < 4; omega
      | ⟨2, _⟩ => show 63 ≤ t.val * 1 + w.val ∧ t.val * 1 + w.val - 63 < 64; omega
      | ⟨3, _⟩ => show 0 ≤ d.val * 1 + 0 ∧ d.val * 1 + 0 - 0 < 128; omega)]
    refine congrArg x (funext fun a => Fin.ext ?_)
    match a with
    | ⟨0, _⟩ => show b.val * 1 + 0 - 0 = b.val; omega
    | ⟨1, _⟩ => show h.val * 1 + 0 - 0 = h.val; omega
    | ⟨2, _⟩ => show t.val * 1 + w.val - 63 = t.val + w.val - 63; omega
    | ⟨3, _⟩ => show d.val * 1 + 0 - 0 = d.val; omega
  · rw [dif_neg hw, dif_neg (fun hin => hw ?_)]
    have h2 : 63 ≤ t.val * 1 + w.val := (hin 2).1
    omega

/-- The first row of a two-row running sum. -/
theorem runSum_first (x : FVec Ideal S2x512 .f32) (v : FVec Ideal S_ .f32) (hv : ∀ i, v i = (0 : EReal)) (l : Fin 512) :
    Host.reduceWindowAdd ![2, 1] ![1, 1] ![1, 0] ![0, 0] x v
      reduceWindows_S2x512_S2x512_w2s1p1_0_w1s1p0_0 h_S_ (ix2 0 l) = x (ix2 0 l) := by
  show Host.reduceWindow (u := ⟨0, ![]⟩) (fun a b : EReal => a + b) ![2, 1] ![1, 1] ![1, 0] ![0, 0] x (fun _ => v (Shape.Idx.first h_S_))
    reduceWindows_S2x512_S2x512_w2s1p1_0_w1s1p0_0 h_S_ (ix2 0 l) = _
  rw [hv, reduceWindow_sum]
  refine (Equiv.sum_comp pairEquiv.symm _).symm.trans ?_
  rw [Fin.sum_univ_two]
  rw [dif_neg (fun hin => by
    have h0 : 1 ≤ 0 * 1 + 0 := (hin 0).1
    omega), dif_pos (fun a => by
      match a with
      | ⟨0, _⟩ => show 1 ≤ 0 * 1 + 1 ∧ 0 * 1 + 1 - 1 < 2; omega
      | ⟨1, _⟩ => show 0 ≤ l.val * 1 + 0 ∧ l.val * 1 + 0 - 0 < 512; omega), zero_add]
  refine congrArg x (funext fun a => Fin.ext ?_)
  match a with
  | ⟨0, _⟩ => rfl
  | ⟨1, _⟩ => show l.val * 1 + 0 - 0 = l.val; omega

end Cert.HgrnRef
-- ==== Proof.RefEntry.lean ====
module

public import proofs.«01_k».proof.Proof.Gen.ReferenceIdeal.Run
public import proofs.«01_k».proof.Proof.Window
public import Idealize.ShloMosaic.Lib.Claim

/-! What the reference's recurrence starts from: the queries, keys, values and log decays by chunk and head, the
triangle, a zero state and zero outputs, each as the plain host operations make it, and each read at an index. -/

@[expose] public section

set_option maxRecDepth 16384

noncomputable section

namespace Cert.HgrnRef

open Cert.ReferenceIdeal Cert.ReferenceIdeal.Gen Cert.ReferenceIdeal.Value Idealize.ShloMosaic Idealize.ShloMosaic.TcCoe Idealize.ShloMosaic.StableHlo Idealize.SL.Sem

/-! ## The plain operations -/

/-- The softmax of the two rows of logits, down the rows. -/
def soft (L : FVec Ideal S2x512 .f32) : FVec Ideal S2x512 .f32 :=
  let mx : FVec Ideal S512 .f32 := maximumf (broadcastInDim S512 ![] bcast_S_S512 (constant S_ .f32 0xFF800000#32))
    (Host.reduce FloatOps.maximumf L (constant S_ .f32 0xFF800000#32) reducesTo_S2x512_S512_d0 h_S_)
  let e : FVec Ideal S2x512 .f32 := Host.exp (subf L (broadcastInDim S2x512 ![0, 1] bcast_S1x512_S2x512_0_1 (broadcastInDim S1x512 ![1] bcast_S512_S1x512_1 mx)))
  Host.divf e (broadcastInDim S2x512 ![0, 1] bcast_S1x512_S2x512_0_1 (broadcastInDim S1x512 ![1] bcast_S512_S1x512_1
    (Host.reduceAdd e (constant S_ .f32 0x00000000#32) reducesTo_S2x512_S512_d0 h_S_)))

/-- The lower bounds: the first row of the softmax's running sum. -/
def lbRow (L : FVec Ideal S2x512 .f32) : FVec Ideal S512 .f32 :=
  shapeCast S512 (extractStridedSlice S1x512 ![0, 0]
    (Host.reduceWindowAdd ![2, 1] ![1, 1] ![1, 0] ![0, 0] (soft L) (broadcastInDim S_ ![] bcast_S_S_ (constant S_ .f32 0x00000000#32))
      reduceWindows_S2x512_S2x512_w2s1p1_0_w1s1p0_0 h_S_ : FVec Ideal S2x512 .f32) slices_S2x512_S1x512_0_0) shapeCasts_S1x512_S512

def ones : FVec Ideal S2x8192x512 .f32 := broadcastInDim S2x8192x512 ![] bcast_S_S2x8192x512 (constant S_ .f32 0x3F800000#32)

/-- The sigmoid, written out. -/
def sigm (x : FVec Ideal S2x8192x512 .f32) : FVec Ideal S2x8192x512 .f32 := Host.divf ones (addf ones (Host.exp (Host.negf x)))

/-- A vector over the columns, along every row. -/
def along (v : FVec Ideal S512 .f32) : FVec Ideal S2x8192x512 .f32 :=
  broadcastInDim S2x8192x512 ![0, 1, 2] bcast_S1x1x512_S2x8192x512_0_1_2 (broadcastInDim S1x1x512 ![2] bcast_S512_S1x1x512_2 v)

/-- The forget gates. -/
def gates (X : FVec Ideal S2x8192x2048 .f32) (L : FVec Ideal S2x512 .f32) : FVec Ideal S2x8192x512 .f32 :=
  addf (along (lbRow L)) (mulf (along (subf (broadcastInDim S512 ![] bcast_S_S512 (constant S_ .f32 0x3F800000#32)) (lbRow L)))
    (sigm (extractStridedSlice S2x8192x512 ![0, 0, 512] X slices_S2x8192x2048_S2x8192x512_0_0_512)))

/-- Rows of heads, by chunk and head. -/
def chunks (y : FVec Ideal S2x8192x512 .f32) : FVec Ideal S128x2x4x64x128 .f32 :=
  transpose S128x2x4x64x128 [1, 0, 3, 2, 4] (shapeCast S2x128x64x4x128 (shapeCast S2x8192x4x128 y shapeCasts_S2x8192x512_S2x8192x4x128)
    shapeCasts_S2x8192x4x128_S2x128x64x4x128) transposes_S2x128x64x4x128_S128x2x4x64x128_1_0_3_2_4

/-- The triangle. -/
def tri : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-! ## Read at an index -/

theorem soft_at (L : FVec Ideal S2x512 .f32) (j : Fin 512) : soft L (ix2 0 j) = Spec.bound (L (ix2 0 j)) (L (ix2 1 j)) := by
  pointwise [soft]
  have b : Ideal.ofBits FTy.f32 0xFF800000#32 = ⊥ := by simp [Ideal.ofBits, Ideal.ieee]
  have f : ∀ g : Fin 2 → EReal, max ⊥ (Finset.fold max ⊥ g Finset.univ) = max (g 0) (g 1) := fun g => by
    show max ⊥ (max (g 0) (max (g 1) ⊥)) = _
    rw [max_bot_right, max_bot_left]
  rw [b, f, Fin.sum_univ_two]
  rfl

theorem lbRow_at (L : FVec Ideal S2x512 .f32) (j : Fin 512) : lbRow L (ix1 j) = Spec.bound (L (ix2 0 j)) (L (ix2 1 j)) := by
  rw [← soft_at]
  have hz : ∀ i : S_.Idx, (broadcastInDim S_ ![] bcast_S_S_ (constant S_ .f32 0x00000000#32) : FVec Ideal S_ .f32) i = (0 : EReal) := fun i => by
    pointwise
  rw [← runSum_first (soft L) _ hz j]
  pointwise [lbRow]

theorem gates_at (X : FVec Ideal S2x8192x2048 .f32) (L : FVec Ideal S2x512 .f32) (b : Fin 2) (T : Fin 8192) (j : Fin 512) :
    gates X L (ix3 b T j) = Spec.gate (Spec.bound (L (ix2 0 j)) (L (ix2 1 j))) (X (ix3 b T ⟨512 + j.val, by omega⟩)) := by
  rw [← lbRow_at]
  pointwise [gates, along, sigm, ones, Spec.gate, Ideal.logistic]

theorem chunks_at (y : FVec Ideal S2x8192x512 .f32) (n : Fin 128) (b : Fin 2) (h : Fin 4) (s : Fin 64) (d : Fin 128) :
    chunks y (ix5 n b h s d) = y (ix3 b (Fin.ofNat 8192 (64 * n.val + s.val)) ⟨128 * h.val + d.val, by omega⟩) := by
  pointwise [chunks]
  refine congrArg y (funext fun a => Fin.ext ?_)
  match a with
  | ⟨0, _⟩ => rfl
  | ⟨1, _⟩ =>
    show n.val * 64 + s.val = (64 * n.val + s.val) % 8192
    omega
  | ⟨2, _⟩ =>
    show h.val * 128 + d.val = 128 * h.val + d.val
    omega

theorem tri_at (t s : Fin 64) : tri (ix2 t s) = if s ≤ t then 1#1 else 0#1 := by
  pointwise [tri]
  revert t s
  decide +kernel

/-! ## The loop's entry -/

variable (m : (l : Loc nD τ sig) → Buf (Elt Ideal) l) (c : Dev nD)

/-- The call's arguments. -/
def inX : FVec Ideal S2x8192x2048 .f32 := m (c.tc.loc main_arg0)
def inL : FVec Ideal S2x512 .f32 := m (c.tc.loc main_arg1)
def inO : FVec Ideal S1x128 .f32 := m (c.tc.loc main_arg2)

theorem entry0 : entryContents preI m c (Proc.devRef .tc main_v51_0)
    = chunks (mulf (extractStridedSlice S2x8192x512 ![0, 0, 0] (inX m c) slices_S2x8192x2048_S2x8192x512_0_0_0)
        (sigm (extractStridedSlice S2x8192x512 ![0, 0, 0] (inX m c) slices_S2x8192x2048_S2x8192x512_0_0_0))) := by
  simp only [entryContents, afterL_cons, afterL_nil]
  after_reads_simp
  rfl
theorem entry1 : entryContents preI m c (Proc.devRef .tc main_v51_1) = chunks (subf ones (gates (inX m c) (inL m c))) := by
  simp only [entryContents, afterL_cons, afterL_nil]
  after_reads_simp
  rfl
theorem entry2 : entryContents preI m c (Proc.devRef .tc main_v51_2)
    = chunks (extractStridedSlice S2x8192x512 ![0, 0, 1024] (inX m c) slices_S2x8192x2048_S2x8192x512_0_0_1024) := by
  simp only [entryContents, afterL_cons, afterL_nil]
  after_reads_simp
  rfl
theorem entry3 : entryContents preI m c (Proc.devRef .tc main_v51_3) = chunks (Host.log (gates (inX m c) (inL m c))) := by
  simp only [entryContents, afterL_cons, afterL_nil]
  after_reads_simp
  rfl
theorem entry4 : entryContents preI m c (Proc.devRef .tc main_v51_4) = tri := by
  simp only [entryContents, afterL_cons, afterL_nil]
  after_reads_simp
  rfl
theorem entry5 : entryContents preI m c (Proc.devRef .tc main_v51_5) = (constantI S_ 32 0#32 : IVec S_ 32) := by
  simp only [entryContents, afterL_cons, afterL_nil]
  after_reads_simp
  rfl
theorem entry6 : entryContents preI m c (Proc.devRef .tc main_v51_6)
    = (broadcastInDim S2x4x128x128 ![] bcast_S_S2x4x128x128 (constant S_ .f32 0x00000000#32) : FVec Ideal S2x4x128x128 .f32) := by
  simp only [entryContents, afterL_cons, afterL_nil]
  after_reads_simp
  rfl

end Cert.HgrnRef
-- ==== Proof.RefTrip.lean ====
module

public import proofs.«01_k».proof.Proof.RefEntry
public import Idealize.ShloMosaic.Lib.WordCmp

/-! One trip of the reference's loop, read at an index: the chunk's queries, keys, values and running sums of log
decays, the mixture it writes, and the state it leaves. -/

@[expose] public section

set_option maxRecDepth 16384

noncomputable section

namespace Cert.HgrnRef

open Cert.ReferenceIdeal Cert.ReferenceIdeal.Gen Cert.ReferenceIdeal.Value Idealize.ShloMosaic Idealize.ShloMosaic.TcCoe Idealize.ShloMosaic.WordCmp Idealize.ShloMosaic.StableHlo Idealize.SL.Sem

/-- The start of chunk `w` among the stacked chunks. -/
def starts (w : IVec S_ 32) : Fin 5 → ℤ := fun k =>
  (((![w, constantI S_ 32 0#32, constantI S_ 32 0#32, constantI S_ 32 0#32, constantI S_ 32 0#32] : Fin 5 → (⟨S_, .i32⟩ : BufTy).Contents (Elt Ideal))) k (Shape.Idx.first h_S_)).toInt

theorem starts_eq (n : Fin 128) (a : Fin 5) : starts (fun _ => BitVec.ofNat 32 n.val) a = ((![n.val, 0, 0, 0, 0] : Fin 5 → ℕ) a : ℤ) := by
  match a with
  | ⟨0, _⟩ => exact toInt_ofNat_of_lt (by have := n.isLt; norm_num; omega)
  | ⟨1, _⟩ => rfl
  | ⟨2, _⟩ => rfl
  | ⟨3, _⟩ => rfl
  | ⟨4, _⟩ => rfl

theorem fits (n : Fin 128) : S128x2x4x64x128.Slices (![n.val, 0, 0, 0, 0] : Fin 5 → ℕ) S1x2x4x64x128 :=
  ⟨rfl, fun a => by
    match a with
    | ⟨0, _⟩ => show n.val + 1 ≤ 128; omega
    | ⟨1, _⟩ => exact Nat.le_refl _
    | ⟨2, _⟩ => exact Nat.le_refl _
    | ⟨3, _⟩ => exact Nat.le_refl _
    | ⟨4, _⟩ => exact Nat.le_refl _⟩

/-- Chunk `w` of stacked chunks. -/
def pick (y : FVec Ideal S128x2x4x64x128 .f32) (w : IVec S_ 32) : FVec Ideal S2x4x64x128 .f32 :=
  shapeCast S2x4x64x128 (Host.dynamicSlice S1x2x4x64x128 y (starts w) sliceFits_S128x2x4x64x128_S1x2x4x64x128) shapeCasts_S1x2x4x64x128_S2x4x64x128

theorem pick_at (y : FVec Ideal S128x2x4x64x128 .f32) (n : Fin 128) (b : Fin 2) (h : Fin 4) (t : Fin 64) (d : Fin 128) :
    pick y (fun _ => BitVec.ofNat 32 n.val) (ix4 b h t d) = y (ix5 n b h t d) := by
  unfold pick
  rw [dynamicSlice_eq_extract _ _ _ _ _ (fits n) (starts_eq n)]
  have e : ∀ z : FVec Ideal S1x2x4x64x128 .f32, shapeCast S2x4x64x128 z shapeCasts_S1x2x4x64x128_S2x4x64x128 (ix4 b h t d) = z (ix5 0 b h t d) := fun z => by
    pointwise
  rw [e]
  refine congrArg y (funext fun a => Fin.ext ?_)
  match a with
  | ⟨0, _⟩ => show n.val + 0 = n.val; omega
  | ⟨1, _⟩ => show 0 + b.val = b.val; omega
  | ⟨2, _⟩ => show 0 + h.val = h.val; omega
  | ⟨3, _⟩ => show 0 + t.val = t.val; omega
  | ⟨4, _⟩ => show 0 + d.val = d.val; omega

/-- Chunk `w` replaced. -/
def put (y : FVec Ideal S128x2x4x64x128 .f32) (o : FVec Ideal S2x4x64x128 .f32) (w : IVec S_ 32) : FVec Ideal S128x2x4x64x128 .f32 :=
  Host.dynamicUpdateSlice y (broadcastInDim S1x2x4x64x128 ![1, 2, 3, 4] bcast_S2x4x64x128_S1x2x4x64x128_1_2_3_4 o) (starts w) updateFits_S128x2x4x64x128_S1x2x4x64x128

theorem put_at (y : FVec Ideal S128x2x4x64x128 .f32) (o : FVec Ideal S2x4x64x128 .f32) (n n' : Fin 128) (b : Fin 2) (h : Fin 4) (t : Fin 64) (d : Fin 128) :
    put y o (fun _ => BitVec.ofNat 32 n.val) (ix5 n' b h t d) = if n' = n then o (ix4 b h t d) else y (ix5 n' b h t d) := by
  unfold put
  rw [dynamicUpdateSlice_eq_update _ _ _ _ _ (fits n) (starts_eq n)]
  rw [updateSlice_apply]
  by_cases hn : n' = n
  · subst hn
    rw [if_pos rfl, dif_pos (fun a => by
      match a with
      | ⟨0, _⟩ => show n'.val ≤ n'.val ∧ n'.val < n'.val + 1; omega
      | ⟨1, _⟩ => show 0 ≤ b.val ∧ b.val < 0 + 2; omega
      | ⟨2, _⟩ => show 0 ≤ h.val ∧ h.val < 0 + 4; omega
      | ⟨3, _⟩ => show 0 ≤ t.val ∧ t.val < 0 + 64; omega
      | ⟨4, _⟩ => show 0 ≤ d.val ∧ d.val < 0 + 128; omega)]
    refine congrArg o (funext fun a => Fin.ext ?_)
    match a with
    | ⟨0, _⟩ => rfl
    | ⟨1, _⟩ => rfl
    | ⟨2, _⟩ => rfl
    | ⟨3, _⟩ => rfl
  · rw [if_neg hn, dif_neg fun hin => hn (Fin.ext ?_)]
    have h0 : n.val ≤ n'.val ∧ n'.val < n.val + 1 := hin 0
    omega

/-- The running sums of a chunk's log decays. -/
def runs (g : FVec Ideal S2x4x64x128 .f32) : FVec Ideal S2x4x64x128 .f32 :=
  Host.reduceWindowAdd ![1, 1, 64, 1] ![1, 1, 1, 1] ![0, 0, 63, 0] ![0, 0, 0, 0] g (broadcastInDim S_ ![] bcast_S_S_ (constant S_ .f32 0x00000000#32))
    reduceWindows_S2x4x64x128_S2x4x64x128_w1s1p0_0_w1s1p0_0_w64s1p63_0_w1s1p0_0 h_S_

theorem runs_at (g : FVec Ideal S2x4x64x128 .f32) (b : Fin 2) (h : Fin 4) (t : Fin 64) (d : Fin 128) :
    runs g (ix4 b h t d) = Spec.cum (fun s => g (ix4 b h s d)) t :=
  runSum_chunk g _ (fun i => by pointwise) b h t d

/-- The state after a chunk. -/
def stepH (k v r : FVec Ideal S2x4x64x128 .f32) (S : FVec Ideal S2x4x128x128 .f32) : FVec Ideal S2x4x128x128 .f32 :=
  let last : FVec Ideal S2x4x1x128 .f32 := extractStridedSlice S2x4x1x128 ![0, 0, 63, 0] r slices_S2x4x64x128_S2x4x1x128_0_0_63_0
  addf (mulf (broadcastInDim S2x4x128x128 ![0, 1, 2, 3] bcast_S2x4x128x1_S2x4x128x128_0_1_2_3 (broadcastInDim S2x4x128x1 ![0, 1, 2] bcast_S2x4x128_S2x4x128x1_0_1_2 (Host.exp (shapeCast S2x4x128 last shapeCasts_S2x4x1x128_S2x4x128)))) S)
    (Host.dotGeneral dot_S2x4x64x128_S2x4x64x128_S2x4x128x128_2_2_3_3_01_01 none (mulf k (Host.exp (subf (broadcastInDim S2x4x64x128 ![0, 1, 2, 3] bcast_S2x4x1x128_S2x4x64x128_0_1_2_3 last) r))) v)

theorem stepH_at (k v r : FVec Ideal S2x4x64x128 .f32) (S : FVec Ideal S2x4x128x128 .f32) (b : Fin 2) (h : Fin 4) (d e : Fin 128) :
    stepH k v r S (ix4 b h d e) = Spec.step (fun s d => k (ix4 b h s d)) (fun s d => r (ix4 b h s d)) (fun s d => v (ix4 b h s d))
      (fun d e => S (ix4 b h d e)) d e := by
  pointwise [stepH, Spec.step]

/-- A chunk's decayed scores. -/
def scoreH (q k r : FVec Ideal S2x4x64x128 .f32) (M : IVec S64x64 1) : FVec Ideal S2x4x64x64 .f32 :=
  Host.reduceAdd (mulf (mulf (broadcastInDim S2x4x64x64x128 ![0, 1, 2, 3, 4] bcast_S2x4x64x1x128_S2x4x64x64x128_0_1_2_3_4 (broadcastInDim S2x4x64x1x128 ![0, 1, 2, 4] bcast_S2x4x64x128_S2x4x64x1x128_0_1_2_4 q)) (broadcastInDim S2x4x64x64x128 ![0, 1, 2, 3, 4] bcast_S2x4x1x64x128_S2x4x64x64x128_0_1_2_3_4 (broadcastInDim S2x4x1x64x128 ![0, 1, 3, 4] bcast_S2x4x64x128_S2x4x1x64x128_0_1_3_4 k)))
      (Host.exp (select (broadcastInDim S2x4x64x64x128 ![2, 3, 4] bcast_S64x64x1_S2x4x64x64x128_2_3_4 (broadcastInDim S64x64x1 ![0, 1] bcast_S64x64_S64x64x1_0_1 M)) (subf (broadcastInDim S2x4x64x64x128 ![0, 1, 2, 3, 4] bcast_S2x4x64x1x128_S2x4x64x64x128_0_1_2_3_4 (broadcastInDim S2x4x64x1x128 ![0, 1, 2, 4] bcast_S2x4x64x128_S2x4x64x1x128_0_1_2_4 r)) (broadcastInDim S2x4x64x64x128 ![0, 1, 2, 3, 4] bcast_S2x4x1x64x128_S2x4x64x64x128_0_1_2_3_4 (broadcastInDim S2x4x1x64x128 ![0, 1, 3, 4] bcast_S2x4x64x128_S2x4x1x64x128_0_1_3_4 r))) (broadcastInDim S2x4x64x64x128 ![] bcast_S_S2x4x64x64x128 (id (constant S_ .f32 0xFF800000#32))))))
    (constant S_ .f32 0x00000000#32) reducesTo_S2x4x64x64x128_S2x4x64x64_d4 h_S_

theorem scoreH_at (q k r : FVec Ideal S2x4x64x128 .f32) (b : Fin 2) (h : Fin 4) (t s : Fin 64) :
    scoreH q k r tri (ix4 b h t s) = Spec.score (fun s d => q (ix4 b h s d)) (fun s d => k (ix4 b h s d)) (fun s d => r (ix4 b h s d)) t s := by
  have e : ∀ M : IVec S64x64 1, scoreH q k r M (ix4 b h t s) = ∑ d : Fin 128, q (ix4 b h t d) * k (ix4 b h s d)
      * Ideal.exp (Scalar.select (M (ix2 t s)) (r (ix4 b h t d) - r (ix4 b h s d)) ⊥) := fun M => by
    have bt : Ideal.ofBits FTy.f32 0xFF800000#32 = ⊥ := by simp [Ideal.ofBits, Ideal.ieee]
    rw [← bt]
    pointwise [scoreH]
    rfl
  rw [e, tri_at]
  unfold Spec.score
  by_cases hs : s ≤ t
  · simp only [if_pos hs]
    rfl
  · simp only [if_neg hs]
    refine Finset.sum_eq_zero fun d _ => ?_
    show _ * Ideal.exp ⊥ = 0
    rw [show Ideal.exp ⊥ = 0 from rfl, mul_zero]

/-- A chunk's mixture. -/
def mixH (q k v r : FVec Ideal S2x4x64x128 .f32) (S : FVec Ideal S2x4x128x128 .f32) (M : IVec S64x64 1) : FVec Ideal S2x4x64x128 .f32 :=
  addf (Host.dotGeneral dot_S2x4x64x128_S2x4x128x128_S2x4x64x128_3_2_2_3_01_01 none (mulf q (Host.exp r)) S)
    (Host.dotGeneral dot_S2x4x64x64_S2x4x64x128_S2x4x64x128_3_2_2_3_01_01 none (scoreH q k r M) v)

theorem mixH_at (q k v r : FVec Ideal S2x4x64x128 .f32) (S : FVec Ideal S2x4x128x128 .f32) (b : Fin 2) (h : Fin 4) (t : Fin 64) (e : Fin 128) :
    mixH q k v r S tri (ix4 b h t e) = Spec.mix (fun s d => q (ix4 b h s d)) (fun s d => k (ix4 b h s d)) (fun s d => r (ix4 b h s d)) (fun s d => v (ix4 b h s d))
      (fun d e => S (ix4 b h d e)) t e := by
  have p : mixH q k v r S tri (ix4 b h t e) = (∑ d : Fin 128, q (ix4 b h t d) * Ideal.exp (r (ix4 b h t d)) * S (ix4 b h d e))
      + ∑ s : Fin 64, scoreH q k r tri (ix4 b h t s) * v (ix4 b h s e) := by
    unfold mixH
    generalize scoreH q k r tri = a
    pointwise
  rw [p]
  simp only [scoreH_at]
  rfl

/-! ## The trip's buffers -/

variable (V0 : Valuation τ sig (Elt Ideal))

/-- The trip's chunk number, and its stretches. -/
def at5 : IVec S_ 32 := V0 (Proc.devRef .tc main_v51_5)
def qOf : FVec Ideal S2x4x64x128 .f32 := pick (V0 (Proc.devRef .tc main_v51_0)) (at5 V0)
def kOf : FVec Ideal S2x4x64x128 .f32 := pick (V0 (Proc.devRef .tc main_v51_1)) (at5 V0)
def vOf : FVec Ideal S2x4x64x128 .f32 := pick (V0 (Proc.devRef .tc main_v51_2)) (at5 V0)
def rOf : FVec Ideal S2x4x64x128 .f32 := runs (pick (V0 (Proc.devRef .tc main_v51_3)) (at5 V0))

theorem trip6 : step_main_v51_6 V0 = stepH (kOf V0) (vOf V0) (rOf V0) (V0 (Proc.devRef .tc main_v51_6)) := rfl
theorem trip7 : step_main_v51_7 V0 = put (V0 (Proc.devRef .tc main_v51_7))
    (mixH (qOf V0) (kOf V0) (vOf V0) (rOf V0) (V0 (Proc.devRef .tc main_v51_6)) (V0 (Proc.devRef .tc main_v51_4))) (at5 V0) := by
  unfold step_main_v51_7 put mixH scoreH
  rfl

end Cert.HgrnRef
-- ==== Proof.ReferenceSide.lean ====
module

public import proofs.«01_k».proof.Proof.RefTrip

/-! The reference of the recurrence, trip by trip: after `k` trips the state is the recurrence's and the first `k`
chunks of outputs are its mixtures; so its result is the recurrence's formula. -/

@[expose] public section

set_option maxRecDepth 16384

noncomputable section

namespace Cert.HgrnRef

open Cert.ReferenceIdeal Cert.ReferenceIdeal.Gen Cert.ReferenceIdeal.Value Idealize.ShloMosaic Idealize.ShloMosaic.TcCoe Idealize.ShloMosaic.StableHlo Idealize.SL.Sem

variable (m : (l : Loc nD τ sig) → Buf (Elt Ideal) l) (c : Dev nD)

/-- The call's arguments, at an index. -/
def argX (b : Fin 2) (r : Fin 8192) (l : Fin 2048) : EReal := m (c.tc.loc main_arg0) (ix3 b r l)
def argL (i : Fin 2) (l : Fin 512) : EReal := m (c.tc.loc main_arg1) (ix2 i l)
def argO (l : Fin 128) : EReal := m (c.tc.loc main_arg2) (ix2 0 l)

/-- The buffers before trip `k`. -/
def at_ (k : ℕ) : Valuation τ sig (Elt Ideal) := STEP^[k] (entryContents preI m c)

theorem at_succ (k : ℕ) : at_ m c (k + 1) = STEP (at_ m c k) := Function.iterate_succ_apply' _ _ _

/-- What a trip leaves alone. -/
theorem keep0 : ∀ k, at_ m c k (Proc.devRef .tc main_v51_0) = entryContents preI m c (Proc.devRef .tc main_v51_0)
  | 0 => rfl
  | k + 1 => by rw [at_succ, STEP_main_v51_0]; exact keep0 k
theorem keep1 : ∀ k, at_ m c k (Proc.devRef .tc main_v51_1) = entryContents preI m c (Proc.devRef .tc main_v51_1)
  | 0 => rfl
  | k + 1 => by rw [at_succ, STEP_main_v51_1]; exact keep1 k
theorem keep2 : ∀ k, at_ m c k (Proc.devRef .tc main_v51_2) = entryContents preI m c (Proc.devRef .tc main_v51_2)
  | 0 => rfl
  | k + 1 => by rw [at_succ, STEP_main_v51_2]; exact keep2 k
theorem keep3 : ∀ k, at_ m c k (Proc.devRef .tc main_v51_3) = entryContents preI m c (Proc.devRef .tc main_v51_3)
  | 0 => rfl
  | k + 1 => by rw [at_succ, STEP_main_v51_3]; exact keep3 k
theorem keep4 : ∀ k, at_ m c k (Proc.devRef .tc main_v51_4) = entryContents preI m c (Proc.devRef .tc main_v51_4)
  | 0 => rfl
  | k + 1 => by rw [at_succ, STEP_main_v51_4]; exact keep4 k

/-- The trip's number. -/
theorem count : ∀ k, at5 (at_ m c k) = fun _ => BitVec.ofNat 32 k
  | 0 => entry5 m c
  | k + 1 => by
    unfold at5
    rw [at_succ, STEP_main_v51_5]
    have ih := count k
    show addi (at5 (at_ m c k)) (constantI S_ 32 1#32) = _
    rw [ih]
    funext i
    show BitVec.ofNat 32 k + 1#32 = _
    rw [BitVec.ofNat_add]

/-! ## The chunk's stretches -/

theorem q_at (n : Fin 128) (b : Fin 2) (h : Fin 4) :
    (fun s d => qOf (at_ m c n.val) (ix4 b h s d)) = Spec.queryOf (Spec.rowsOf (argX m c) b h 0 n.val) := by
  funext s d
  unfold qOf
  rw [count, pick_at, keep0, entry0, chunks_at]
  have e : ∀ x : FVec Ideal S2x8192x512 .f32, ∀ i, mulf x (sigm x) i = Spec.silu (x i) := fun x i => by
    pointwise [sigm, ones, Spec.silu, Ideal.logistic]
  rw [e]
  refine congrArg (fun x => Spec.silu (inX m c x)) (funext fun a => Fin.ext ?_)
  match a with
  | ⟨0, _⟩ => exact Nat.zero_add _
  | ⟨1, _⟩ => exact Nat.zero_add _
  | ⟨2, _⟩ =>
    show 0 + (128 * h.val + d.val) = 512 * 0 + 128 * h.val + d.val
    omega

theorem gate_rows (n : ℕ) (b : Fin 2) (h : Fin 4) (s : Fin 64) (d : Fin 128) :
    gates (inX m c) (inL m c) (ix3 b (Fin.ofNat 8192 (64 * n + s.val)) ⟨128 * h.val + d.val, by omega⟩)
      = Spec.gate (Spec.lbOf (argL m c) h d) (Spec.rowsOf (argX m c) b h 1 n s d) := by
  rw [gates_at]
  refine congrArg (fun x => Spec.gate _ (inX m c x)) (funext fun a => Fin.ext ?_)
  match a with
  | ⟨0, _⟩ => rfl
  | ⟨1, _⟩ => rfl
  | ⟨2, _⟩ =>
    show 512 + (128 * h.val + d.val) = 512 * 1 + 128 * h.val + d.val
    omega

theorem k_at (n : Fin 128) (b : Fin 2) (h : Fin 4) :
    (fun s d => kOf (at_ m c n.val) (ix4 b h s d)) = Spec.keyOf (Spec.lbOf (argL m c) h) (Spec.rowsOf (argX m c) b h 1 n.val) := by
  funext s d
  unfold kOf
  rw [count, pick_at, keep1, entry1, chunks_at]
  refine congrArg₂ (fun a b : EReal => a - b) ?_ (gate_rows m c n.val b h s d)
  pointwise [ones]

theorem v_at (n : Fin 128) (b : Fin 2) (h : Fin 4) :
    (fun s d => vOf (at_ m c n.val) (ix4 b h s d)) = Spec.rowsOf (argX m c) b h 2 n.val := by
  funext s d
  unfold vOf
  rw [count, pick_at, keep2, entry2, chunks_at]
  refine congrArg (inX m c) (funext fun a => Fin.ext ?_)
  match a with
  | ⟨0, _⟩ => exact Nat.zero_add _
  | ⟨1, _⟩ => exact Nat.zero_add _
  | ⟨2, _⟩ =>
    show 1024 + (128 * h.val + d.val) = 512 * 2 + 128 * h.val + d.val
    omega

theorem r_at (n : Fin 128) (b : Fin 2) (h : Fin 4) :
    (fun s d => rOf (at_ m c n.val) (ix4 b h s d)) = Spec.cumOf (Spec.lbOf (argL m c) h) (Spec.rowsOf (argX m c) b h 1 n.val) := by
  funext t d
  unfold rOf
  rw [runs_at]
  refine congrArg (fun g => Spec.cum g t) (funext fun s => ?_)
  rw [count, pick_at, keep3, entry3, chunks_at]
  exact congrArg Ideal.log (gate_rows m c n.val b h s d)

/-! ## The state and the outputs -/

/-- The state before trip `k`. -/
theorem state_at (b : Fin 2) (h : Fin 4) : ∀ k : ℕ, k ≤ 128 → ∀ d e : Fin 128,
    at_ m c k (Proc.devRef .tc main_v51_6) (ix4 b h d e) = Spec.state (argX m c) (argL m c) b h k d e
  | 0, _, d, e => by
    show entryContents preI m c (Proc.devRef .tc main_v51_6) (ix4 b h d e) = (0 : EReal)
    rw [entry6]
    pointwise
  | k + 1, hk, d, e => by
    rw [at_succ, STEP_main_v51_6, trip6, stepH_at, k_at m c ⟨k, hk⟩, v_at m c ⟨k, hk⟩, r_at m c ⟨k, hk⟩]
    rw [funext fun d => funext fun e => state_at b h k (by omega) d e]
    rfl

/-- The mixture of chunk `n`. -/
def mixOf (b : Fin 2) (h : Fin 4) (n : ℕ) : Fin 64 → Fin 128 → EReal :=
  Spec.mix (Spec.queryOf (Spec.rowsOf (argX m c) b h 0 n)) (Spec.keyOf (Spec.lbOf (argL m c) h) (Spec.rowsOf (argX m c) b h 1 n))
    (Spec.cumOf (Spec.lbOf (argL m c) h) (Spec.rowsOf (argX m c) b h 1 n)) (Spec.rowsOf (argX m c) b h 2 n) (Spec.state (argX m c) (argL m c) b h n)

/-- The outputs of the chunks before `k`. -/
theorem outs_at (b : Fin 2) (h : Fin 4) : ∀ k : ℕ, k ≤ 128 → ∀ n : Fin 128, n.val < k → ∀ (t : Fin 64) (e : Fin 128),
    at_ m c k (Proc.devRef .tc main_v51_7) (ix5 n b h t e) = mixOf m c b h n.val t e
  | 0, _, n, hn, _, _ => absurd hn (Nat.not_lt_zero _)
  | k + 1, hk, n, hn, t, e => by
    rw [at_succ, STEP_main_v51_7, trip7, keep4, entry4, count m c k]
    refine (put_at _ _ ⟨k, hk⟩ n b h t e).trans ?_
    by_cases hnk : n = ⟨k, hk⟩
    · rw [if_pos hnk, mixH_at, q_at m c ⟨k, hk⟩, k_at m c ⟨k, hk⟩, v_at m c ⟨k, hk⟩, r_at m c ⟨k, hk⟩]
      rw [funext fun d => funext fun e => state_at m c b h k (by omega) d e, hnk]
      rfl
    · rw [if_neg hnk]
      exact outs_at b h k (by omega) n (by have : n.val ≠ k := fun e => hnk (Fin.ext e); omega) t e

/-! ## The result -/

/-- The outputs, by row and head. -/
def rows (o : FVec Ideal S128x2x4x64x128 .f32) : FVec Ideal S2x8192x4x128 .f32 :=
  shapeCast S2x8192x4x128 (transpose S2x128x64x4x128 [1, 0, 3, 2, 4] o transposes_S128x2x4x64x128_S2x128x64x4x128_1_0_3_2_4) shapeCasts_S2x128x64x4x128_S2x8192x4x128

theorem rows_at (o : FVec Ideal S128x2x4x64x128 .f32) (b : Fin 2) (T : Fin 8192) (h : Fin 4) (d : Fin 128) :
    rows o (ix4 b T h d) = o (ix5 ⟨T.val / 64, by omega⟩ b h ⟨T.val % 64, by omega⟩ d) := by
  pointwise [rows]

/-- Normalisation, gain and output gate, of the rows. -/
def fin (o : FVec Ideal S2x8192x4x128 .f32) (O : FVec Ideal S1x128 .f32) (X : FVec Ideal S2x8192x2048 .f32) : FVec Ideal S2x8192x512 .bf16 :=
  let g : FVec Ideal S2x8192x512 .f32 := extractStridedSlice S2x8192x512 ![0, 0, 1536] X slices_S2x8192x2048_S2x8192x512_0_0_1536
  truncf .bf16 (shapeCast S2x8192x512 (mulf (mulf (mulf o (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2
      (Host.reduceAdd (mulf o o) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x358637BD#32))))))
      (broadcastInDim S2x8192x4x128 ![0, 1, 2, 3] bcast_S1x1x1x128_S2x8192x4x128_0_1_2_3 (broadcastInDim S1x1x1x128 ![3] bcast_S128_S1x1x1x128_3 (shapeCast S128 O shapeCasts_S1x128_S128))))
      (shapeCast S2x8192x4x128 (mulf g (sigm g)) shapeCasts_S2x8192x512_S2x8192x4x128)) shapeCasts_S2x8192x4x128_S2x8192x512) bitsLt_bf16_f32

theorem fin_at (o : FVec Ideal S2x8192x4x128 .f32) (O : FVec Ideal S1x128 .f32) (X : FVec Ideal S2x8192x2048 .f32) (b : Fin 2) (T : Fin 8192) (j : Fin 512) :
    fin o O X (ix3 b T j) = Spec.finish (fun d => o (ix4 b T ⟨j.val / 128, by omega⟩ d)) (fun d => O (ix2 0 d))
      (X (ix3 b T ⟨1536 + j.val, by omega⟩)) ⟨j.val % 128, by omega⟩ := by
  pointwise [fin, Spec.finish, Spec.silu, Ideal.logistic, sigm, ones]

theorem out_eq (V0 : Valuation τ sig (Elt Ideal)) : out_main_v73 V0
    = fin (rows (V0 (Proc.devRef .tc main_v51_7))) (V0 (Proc.devRef .tc main_arg2)) (V0 (Proc.devRef .tc main_arg0)) := by
  unfold out_main_v73 fin rows sigm ones
  rfl

/-- THE REFERENCE at an index. -/
theorem reference_at (b : Fin 2) (T : Fin 8192) (j : Fin 512) :
    out_main_v73 (STEP^[128] (entryContents preI m c)) (ix3 b T j) = Spec.result (argX m c) (argL m c) (argO m c) b T j := by
  rw [out_eq, fin_at, iter_main_arg0, iter_main_arg2]
  have e : (fun d => rows ((STEP^[128] (entryContents preI m c)) (Proc.devRef .tc main_v51_7)) (ix4 b T ⟨j.val / 128, by omega⟩ d))
      = mixOf m c b ⟨j.val / 128, by omega⟩ (T.val / 64) ⟨T.val % 64, by omega⟩ := funext fun d => by
    rw [rows_at]
    exact outs_at m c b _ 128 (Nat.le_refl _) ⟨T.val / 64, by omega⟩ (by show T.val / 64 < 128; omega) _ d
  rw [e]
  show Spec.finish _ _ _ _ = Spec.finish _ _ (argX m c b _ _) _
  refine congrArg (fun g => Spec.finish _ _ g _) (congrArg (m (c.tc.loc main_arg0)) (funext fun a => Fin.ext ?_))
  match a with
  | ⟨0, _⟩ => rfl
  | ⟨1, _⟩ =>
    show T.val = (64 * (T.val / 64) + T.val % 64) % 8192
    omega
  | ⟨2, _⟩ =>
    show 1536 + j.val = 512 * 3 + 128 * (j.val / 128) + j.val % 128
    omega

end Cert.HgrnRef
-- ==== Proof.FfnSpec.lean ====
module

public import Idealize.ShloMosaic.Lib.Pointwise

/-! The output projection and the feed-forward block as formulas over the extended reals: a row of the input, of the two
mixers' outputs, and the weights, all as functions of their indices. -/

@[expose] public section

noncomputable section

namespace Cert.Ffn.Spec

open Idealize.ShloMosaic

/-- Where a column of the attention's array stands among the heads in order: the array holds head `4 g + r` as its
    `(2 r + g)`-th. -/
def col (j : Fin 512) : Fin 512 := ⟨64 * (4 * (j.val / 64 % 2) + j.val / 128) + j.val % 64, by omega⟩

/-- The column of the attention's array that holds a place. -/
def place (k : Fin 512) : Fin 512 := ⟨128 * (k.val / 64 % 4) + 64 * (k.val / 256) + k.val % 64, by omega⟩

theorem col_place : ∀ k : Fin 512, col (place k) = k := by decide +kernel
theorem place_col : ∀ j : Fin 512, place (col j) = j := by decide +kernel

/-- The columns and the places, one to one. -/
def colEquiv : Fin 512 ≃ Fin 512 := ⟨col, place, place_col, col_place⟩

/-- The lower half of the projection's rows. -/
def low (j : Fin 512) : Fin 1024 := ⟨j.val, by omega⟩
def high (j : Fin 512) : Fin 1024 := ⟨512 + j.val, by omega⟩

/-- A row with the mixers' outputs projected and added. -/
def mixed (x : Fin 1024 → EReal) (a h : Fin 512 → EReal) (wo : Fin 1024 → Fin 1024 → EReal) (n : Fin 1024) : EReal :=
  x n + ((∑ j : Fin 512, a j * wo (low (col j)) n) + ∑ j : Fin 512, h j * wo (high j) n)

/-- A row normed. -/
def normed (v g : Fin 1024 → EReal) (k : Fin 1024) : EReal :=
  v k * Ideal.rsqrt (Ideal.div (∑ i : Fin 1024, v i * v i) (Ideal.ofBits .f32 0x44800000#32) + Ideal.ofBits .f32 0x358637BD#32) * g k

def gateCol (j : Fin 2816) : Fin 5632 := ⟨j.val, by omega⟩
def upCol (j : Fin 2816) : Fin 5632 := ⟨2816 + j.val, by omega⟩

/-- A normed row's activation. -/
def act (v : Fin 1024 → EReal) (w : Fin 1024 → Fin 5632 → EReal) (j : Fin 2816) : EReal :=
  (∑ k : Fin 1024, v k * w k (gateCol j)) * Ideal.logistic (∑ k : Fin 1024, v k * w k (gateCol j)) * ∑ k : Fin 1024, v k * w k (upCol j)

/-- A row of the result. -/
def result (x : Fin 1024 → EReal) (a h : Fin 512 → EReal) (wo : Fin 1024 → Fin 1024 → EReal) (g : Fin 1024 → EReal)
    (w : Fin 1024 → Fin 5632 → EReal) (d : Fin 2816 → Fin 1024 → EReal) (n : Fin 1024) : EReal :=
  mixed x a h wo n + ∑ j : Fin 2816, act (normed (mixed x a h wo) g) w j * d j n

/-- The feed-forward sum in the kernel's three steps. -/
theorem sum_steps (f : Fin 2816 → EReal) :
    ∑ j : Fin 2816, f j = (∑ j : Fin 1024, f ⟨j.val, by omega⟩) + (∑ j : Fin 1024, f ⟨1024 + j.val, by omega⟩) + ∑ j : Fin 768, f ⟨2048 + j.val, by omega⟩ := by
  rw [show (∑ j : Fin 2816, f j) = ∑ j : Fin (2048 + 768), f j from rfl, Fin.sum_univ_add]
  congr 1
  rw [show (∑ j : Fin 2048, f (Fin.castAdd 768 j)) = ∑ j : Fin (1024 + 1024), f (Fin.castAdd 768 j) from rfl, Fin.sum_univ_add]
  rfl

/-- The mixers' projection as one sum over the heads in order. -/
theorem sum_mix (f : Fin 1024 → EReal) : ∑ k : Fin 1024, f k = (∑ j : Fin 512, f (low (col j))) + ∑ j : Fin 512, f (high j) := by
  have e : ∑ j : Fin 512, f (low (col j)) = ∑ k : Fin 512, f (low k) := Equiv.sum_comp colEquiv fun k => f (low k)
  rw [e]
  exact Fin.sum_univ_add (a := 512) (b := 512) f

end Cert.Ffn.Spec
-- ==== Proof.FfnEntry.lean ====
module

public import proofs.«01_k».proof.Proof.Gen.Kernel2Ideal.Value
public import proofs.«01_k».proof.Proof.FfnSpec
public import Idealize.ShloMosaic.Lib.StableHlo.ReadAt
public import Idealize.ShloMosaic.Lib.Routing.Ops

/-! The arrays the feed-forward call is entered with, entry by entry, in terms of its arguments. -/

@[expose] public section

set_option maxRecDepth 16384

noncomputable section

namespace Cert.Ffn

open Cert.Kernel2Ideal Cert.Kernel2Ideal.Gen Idealize.ShloMosaic Idealize.ShloMosaic.TcCoe Idealize.SL.Sem

variable (m : (l : Loc nD τ sig) → Buf (Elt Ideal) l)

/-- A row's batch row and place. -/
def bat (R : Fin 16384) : Fin 2 := ⟨R.val / 8192, by omega⟩
def pos (R : Fin 16384) : Fin 8192 := ⟨R.val % 8192, by omega⟩

/-- The arguments' entries. -/
def argX (c : Dev nD) (R : Fin 16384) (n : Fin 1024) : EReal := m ((c : Thread nD τ).loc main_arg0) (ix3 (bat R) (pos R) n)
def argA (c : Dev nD) (R : Fin 16384) (j : Fin 512) : EReal := m ((c : Thread nD τ).loc main_arg1) (ix3 (bat R) (pos R) j)
def argH (c : Dev nD) (R : Fin 16384) (j : Fin 512) : EReal := m ((c : Thread nD τ).loc main_arg2) (ix3 (bat R) (pos R) j)
def argWO (c : Dev nD) (k n : Fin 1024) : EReal := m ((c : Thread nD τ).loc main_arg3) (ix3 0 k n)
def argG (c : Dev nD) (n : Fin 1024) : EReal := m ((c : Thread nD τ).loc main_arg4) (ix2 0 n)
def argW (c : Dev nD) (k : Fin 1024) (j : Fin 5632) : EReal := m ((c : Thread nD τ).loc main_arg5) (ix3 0 k j)
def argD (c : Dev nD) (j : Fin 2816) (n : Fin 1024) : EReal := m ((c : Thread nD τ).loc main_arg6) (ix3 0 j n)

theorem entry0 (c : Dev nD) (R : Fin 16384) (n : Fin 1024) : V m c main_v0 (ix2 R n) = argX m c R n := by
  unfold V argX bat pos
  after_reads_at

theorem entry2 (c : Dev nD) (R : Fin 16384) (j : Fin 512) : V m c main_v2 (ix2 R j) = argA m c R j := by
  unfold V argA bat pos
  after_reads_at

theorem entry3 (c : Dev nD) (R : Fin 16384) (j : Fin 512) : V m c main_v3 (ix2 R j) = argH m c R j := by
  unfold V argH bat pos
  after_reads_at

/-- The columns' table. -/
theorem table : ∀ j : Fin 512, lit0 (S512.rowMajor (ix1 j)) = BitVec.ofNat 32 (Spec.col j).val := by decide +kernel

theorem entry10 (c : Dev nD) (j : Fin 512) (n : Fin 1024) : V m c main_v10 (ix2 j n) = argWO m c (Spec.low (Spec.col j)) n := by
  unfold V argWO
  after_reads_simp
  have cut : ∀ (x : FVec Ideal S512x1024 .f32), truncf .bf16 x bitsLt_bf16_f32 (ix2 j n) = x (ix2 j n) := fun _ => rfl
  refine (cut _).trans ?_
  refine (Routing.gather_row gather_S512x1024_S512x1_S512x1024_1_0_n_n_0_1_11024 rfl rfl rfl rfl rfl _ _ j n (Spec.col j) ?_ (by decide)).trans ?_
  · rw [← table j]
    pointwise
  · pointwise [Spec.low]

theorem entry12 (c : Dev nD) (j : Fin 512) (n : Fin 1024) : V m c main_v12 (ix2 j n) = argWO m c (Spec.high j) n := by
  unfold V argWO Spec.high
  after_reads_at

theorem entry14 (c : Dev nD) (n : Fin 1024) : V m c main_v14 (ix2 0 n) = argG m c n := by
  unfold V argG
  after_reads_at

theorem entry16 (c : Dev nD) (k : Fin 1024) (j : Fin 5632) : V m c main_v16 (ix2 k j) = argW m c k j := by
  unfold V argW
  after_reads_at

theorem entry18 (c : Dev nD) (j : Fin 2816) (n : Fin 1024) : V m c main_v18 (ix2 j n) = argD m c j n := by
  unfold V argD
  after_reads_at

end Cert.Ffn
-- ==== Proof.FfnBlock.lean ====
module

public import proofs.«01_k».proof.Proof.Gen.Kernel2Ideal.Value
public import Idealize.ShloMosaic.Lib.Pipeline.ValueKit.Acc

/-! What one point of the feed-forward call's grid writes. -/

@[expose] public section

set_option maxRecDepth 16384

noncomputable section

namespace Cert.Ffn

open Cert.Kernel2Ideal Cert.Kernel2Ideal.Gen Idealize.ShloMosaic Idealize.ShloMosaic.TcCoe Idealize.SL.Sem

variable {F : FTy → Type} [FloatOps F]

section
variable (x0 : Vec F S256x1024 .f32) (x1 : Vec F S256x512 .bf16) (x2 : Vec F S256x512 .bf16) (x3 : Vec F S512x1024 .bf16) (x4 : Vec F S512x1024 .bf16) (x5 : Vec F S1x1024 .f32) (x6 : Vec F S1024x5632 .bf16) (x7 : Vec F S2816x1024 .bf16)

/-- The rows after the mixers' projection, and their normed form. -/
def mixed : FVec F S256x1024 .f32 := k0_pay2 x0 x1 x3 x2 x4
def normed : FVec F S256x1024 .bf16 := k0_pay3 x0 x1 x3 x2 x4 x5

/-- The columns of the two feed-forward matrices that each step takes. -/
def gate0 : Vec F S1024x1024 .bf16 := View.ld x6 (Rect.unit (s := S1024x5632) ![0, 0] S1024x1024.size inb_S1024x5632_S1024x1024_0_0)
def up0 : Vec F S1024x1024 .bf16 := View.ld x6 (Rect.unit (s := S1024x5632) ![0, 2816] S1024x1024.size inb_S1024x5632_S1024x1024_0_2816)
def gate1 : Vec F S1024x1024 .bf16 := View.ld x6 (Rect.unit (s := S1024x5632) ![0, 1024] S1024x1024.size inb_S1024x5632_S1024x1024_0_1024)
def up1 : Vec F S1024x1024 .bf16 := View.ld x6 (Rect.unit (s := S1024x5632) ![0, 3840] S1024x1024.size inb_S1024x5632_S1024x1024_0_3840)
def gate2 : Vec F S1024x768 .bf16 := View.ld x6 (Rect.unit (s := S1024x5632) ![0, 2048] S1024x768.size inb_S1024x5632_S1024x768_0_2048)
def up2 : Vec F S1024x768 .bf16 := View.ld x6 (Rect.unit (s := S1024x5632) ![0, 4864] S1024x768.size inb_S1024x5632_S1024x768_0_4864)
def down0 : Vec F S1024x1024 .bf16 := View.ld x7 (Rect.unit (s := S2816x1024) ![0, 0] S1024x1024.size inb_S2816x1024_S1024x1024_0_0)
def down1 : Vec F S1024x1024 .bf16 := View.ld x7 (Rect.unit (s := S2816x1024) ![1024, 0] S1024x1024.size inb_S2816x1024_S1024x1024_1024_0)
def down2 : Vec F S768x1024 .bf16 := View.ld x7 (Rect.unit (s := S2816x1024) ![2048, 0] S768x1024.size inb_S2816x1024_S768x1024_2048_0)

/-- The rows after one, two and three steps. -/
def after1 : FVec F S256x1024 .f32 :=
  k0_pay5 (normed x0 x1 x2 x3 x4 x5) (k0_pay4 x0 x1 x3 x2 x4 x5 (gate0 x6)) (up0 x6) (mixed x0 x1 x2 x3 x4) (down0 x7)
def after2 : FVec F S256x1024 .f32 := k0_pay6 (normed x0 x1 x2 x3 x4 x5) (gate1 x6) (up1 x6) (after1 x0 x1 x2 x3 x4 x5 x6 x7) (down1 x7)
def after3 : FVec F S256x1024 .f32 :=
  k0_pay1 (normed x0 x1 x2 x3 x4 x5) (k0_pay7 (normed x0 x1 x2 x3 x4 x5) (gate2 x6)) (up2 x6) (after2 x0 x1 x2 x3 x4 x5 x6 x7) (down2 x7)

theorem hz : (![0, 0] : Fin 2 → Nat) = fun _ => 0 := funext fun a => by fin_cases a <;> rfl

/-- What a point writes: its rows after the three steps. -/
theorem out_eq (c : Dev nD) (t : Fin cfg0.N) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) x0 x1 x2 x3 x4 x5 x6 x7
      = after3 x0 x1 x2 x3 x4 x5 x6 x7 := by
  unfold out0_A_8
  rw [View.read_writes_junk_eq_canon]
  unfold kernelRun0_A
  dsimp only
  refine (View.canon_cons_unit_lit' (S := S256x1024) _ _ _ (by decide)).trans ?_
  sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.readCov_cons_unit_lit', View.ld_unit_lit']
  rfl
end

end Cert.Ffn
-- ==== Proof.FfnRead.lean ====
module

public import proofs.«01_k».proof.Proof.FfnBlock
public import proofs.«01_k».proof.Proof.FfnSpec
public import Idealize.ShloMosaic.Lib.Pipeline.ValueKit.Tiles

/-! What one point of the feed-forward call's grid writes, read at an index over the extended reals. -/

@[expose] public section

set_option maxRecDepth 16384

noncomputable section

namespace Cert.Ffn

open Cert.Kernel2Ideal Cert.Kernel2Ideal.Gen Idealize.ShloMosaic Idealize.ShloMosaic.TcCoe Idealize.SL.Sem

theorem mixed_read (v0 : Vec Ideal S256x1024 .f32) (v2 : Vec Ideal S256x512 .bf16) (v4 : Vec Ideal S512x1024 .bf16) (v8 : Vec Ideal S256x512 .bf16) (v10 : Vec Ideal S512x1024 .bf16) (r : Fin 256) (n : Fin 1024) :
    k0_pay2 v0 v2 v4 v8 v10 (ix2 r n) = v0 (ix2 r n) + (∑ j : Fin 512, v2 (ix2 r j) * v4 (ix2 j n)) + ∑ j : Fin 512, v8 (ix2 r j) * v10 (ix2 j n) := by
  pointwise [k0_pay2]

theorem normed_read (v0 : Vec Ideal S256x1024 .f32) (v2 : Vec Ideal S256x512 .bf16) (v4 : Vec Ideal S512x1024 .bf16) (v8 : Vec Ideal S256x512 .bf16) (v10 : Vec Ideal S512x1024 .bf16) (g : Vec Ideal S1x1024 .f32) (r : Fin 256) (k : Fin 1024) :
    k0_pay3 v0 v2 v4 v8 v10 g (ix2 r k) = Spec.normed (fun n => k0_pay2 v0 v2 v4 v8 v10 (ix2 r n)) (fun n => g (ix2 0 n)) k := by
  unfold k0_pay3
  generalize k0_pay2 v0 v2 v4 v8 v10 = v
  pointwise [Spec.normed]

theorem gate_read (v0 : Vec Ideal S256x1024 .f32) (v2 : Vec Ideal S256x512 .bf16) (v4 : Vec Ideal S512x1024 .bf16) (v8 : Vec Ideal S256x512 .bf16) (v10 : Vec Ideal S512x1024 .bf16) (g : Vec Ideal S1x1024 .f32) (w : Vec Ideal S1024x1024 .bf16) (r : Fin 256) (j : Fin 1024) :
    k0_pay4 v0 v2 v4 v8 v10 g w (ix2 r j) = ∑ k : Fin 1024, k0_pay3 v0 v2 v4 v8 v10 g (ix2 r k) * w (ix2 k j) := by
  unfold k0_pay4
  generalize k0_pay3 v0 v2 v4 v8 v10 g = v
  pointwise

theorem step1_read (h : FVec Ideal S256x1024 .bf16) (g : FVec Ideal S256x1024 .f32) (u : Vec Ideal S1024x1024 .bf16) (x : Vec Ideal S256x1024 .f32) (d : Vec Ideal S1024x1024 .bf16) (r : Fin 256) (n : Fin 1024) :
    k0_pay5 h g u x d (ix2 r n) = x (ix2 r n) + ∑ j : Fin 1024, g (ix2 r j) * Ideal.logistic (g (ix2 r j)) * (∑ k : Fin 1024, h (ix2 r k) * u (ix2 k j)) * d (ix2 j n) := by
  pointwise [k0_pay5]

theorem step2_read (h : FVec Ideal S256x1024 .bf16) (g : FVec Ideal S1024x1024 .bf16) (u : Vec Ideal S1024x1024 .bf16) (x : Vec Ideal S256x1024 .f32) (d : Vec Ideal S1024x1024 .bf16) (r : Fin 256) (n : Fin 1024) :
    k0_pay6 h g u x d (ix2 r n) = x (ix2 r n) + ∑ j : Fin 1024, (∑ k : Fin 1024, h (ix2 r k) * g (ix2 k j)) * Ideal.logistic (∑ k : Fin 1024, h (ix2 r k) * g (ix2 k j)) * (∑ k : Fin 1024, h (ix2 r k) * u (ix2 k j)) * d (ix2 j n) := by
  pointwise [k0_pay6]

theorem step3_read (h : FVec Ideal S256x1024 .bf16) (g : FVec Ideal S1024x768 .bf16) (u : Vec Ideal S1024x768 .bf16) (x : Vec Ideal S256x1024 .f32) (d : Vec Ideal S768x1024 .bf16) (r : Fin 256) (n : Fin 1024) :
    k0_pay1 h (k0_pay7 h g) u x d (ix2 r n) = x (ix2 r n) + ∑ j : Fin 768, (∑ k : Fin 1024, h (ix2 r k) * g (ix2 k j)) * Ideal.logistic (∑ k : Fin 1024, h (ix2 r k) * g (ix2 k j)) * (∑ k : Fin 1024, h (ix2 r k) * u (ix2 k j)) * d (ix2 j n) := by
  pointwise [k0_pay1, k0_pay7]

section
variable (X : Fin 1024 → EReal) (A H : Fin 512 → EReal) (WO : Fin 1024 → Fin 1024 → EReal) (G : Fin 1024 → EReal) (W : Fin 1024 → Fin 5632 → EReal) (D : Fin 2816 → Fin 1024 → EReal) (r : Fin 256)
  (x0 : Vec Ideal S256x1024 .f32) (x1 : Vec Ideal S256x512 .bf16) (x2 : Vec Ideal S256x512 .bf16) (x3 : Vec Ideal S512x1024 .bf16) (x4 : Vec Ideal S512x1024 .bf16) (x5 : Vec Ideal S1x1024 .f32) (x6 : Vec Ideal S1024x5632 .bf16) (x7 : Vec Ideal S2816x1024 .bf16)
  (h0 : ∀ n, x0 (ix2 r n) = X n) (h1 : ∀ j, x1 (ix2 r j) = A j) (h2 : ∀ j, x2 (ix2 r j) = H j)
  (h3 : ∀ j n, x3 (ix2 j n) = WO (Spec.low (Spec.col j)) n) (h4 : ∀ j n, x4 (ix2 j n) = WO (Spec.high j) n) (h5 : ∀ n, x5 (ix2 0 n) = G n)
  (h6 : ∀ k j, x6 (ix2 k j) = W k j) (h7 : ∀ j n, x7 (ix2 j n) = D j n)

include h0 h1 h2 h3 h4 in
theorem mixed_at (n : Fin 1024) : k0_pay2 x0 x1 x3 x2 x4 (ix2 r n) = Spec.mixed X A H WO n := by
  rw [mixed_read]
  simp only [h0, h1, h2, h3, h4]
  exact add_assoc _ _ _

include h0 h1 h2 h3 h4 h5 in
theorem normed_at (k : Fin 1024) : k0_pay3 x0 x1 x3 x2 x4 x5 (ix2 r k) = Spec.normed (Spec.mixed X A H WO) G k := by
  rw [normed_read]
  simp only [mixed_at X A H WO r x0 x1 x2 x3 x4 h0 h1 h2 h3 h4, h5]

include h6 in
theorem gate0_at (k j : Fin 1024) : gate0 x6 (ix2 k j) = W k (Spec.gateCol ⟨j.val, by omega⟩) :=
  (View.ld_unit_apply_of _ _ _ _ _ (ix2 k ⟨j.val, by omega⟩) fun a => by match a with | ⟨0, _⟩ => exact (Nat.zero_add _).symm | ⟨1, _⟩ => exact (Nat.zero_add _).symm).trans (h6 _ _)
include h6 in
theorem up0_at (k j : Fin 1024) : up0 x6 (ix2 k j) = W k (Spec.upCol ⟨j.val, by omega⟩) :=
  (View.ld_unit_apply_of _ _ _ _ _ (ix2 k ⟨2816 + j.val, by omega⟩) fun a => by match a with | ⟨0, _⟩ => exact (Nat.zero_add _).symm | ⟨1, _⟩ => rfl).trans (h6 _ _)
include h6 in
theorem gate1_at (k j : Fin 1024) : gate1 x6 (ix2 k j) = W k (Spec.gateCol ⟨1024 + j.val, by omega⟩) :=
  (View.ld_unit_apply_of _ _ _ _ _ (ix2 k ⟨1024 + j.val, by omega⟩) fun a => by match a with | ⟨0, _⟩ => exact (Nat.zero_add _).symm | ⟨1, _⟩ => rfl).trans (h6 _ _)
include h6 in
theorem up1_at (k j : Fin 1024) : up1 x6 (ix2 k j) = W k (Spec.upCol ⟨1024 + j.val, by omega⟩) :=
  (View.ld_unit_apply_of _ _ _ _ _ (ix2 k ⟨2816 + (1024 + j.val), by omega⟩) fun a => by match a with | ⟨0, _⟩ => exact (Nat.zero_add _).symm | ⟨1, _⟩ => show 2816 + (1024 + j.val) = 3840 + j.val; omega).trans (h6 _ _)
include h6 in
theorem gate2_at (k : Fin 1024) (j : Fin 768) : gate2 x6 (ix2 k j) = W k (Spec.gateCol ⟨2048 + j.val, by omega⟩) :=
  (View.ld_unit_apply_of _ _ _ _ _ (ix2 k ⟨2048 + j.val, by omega⟩) fun a => by match a with | ⟨0, _⟩ => exact (Nat.zero_add _).symm | ⟨1, _⟩ => rfl).trans (h6 _ _)
include h6 in
theorem up2_at (k : Fin 1024) (j : Fin 768) : up2 x6 (ix2 k j) = W k (Spec.upCol ⟨2048 + j.val, by omega⟩) :=
  (View.ld_unit_apply_of _ _ _ _ _ (ix2 k ⟨2816 + (2048 + j.val), by omega⟩) fun a => by match a with | ⟨0, _⟩ => exact (Nat.zero_add _).symm | ⟨1, _⟩ => show 2816 + (2048 + j.val) = 4864 + j.val; omega).trans (h6 _ _)
include h7 in
theorem down0_at (j n : Fin 1024) : down0 x7 (ix2 j n) = D ⟨j.val, by omega⟩ n :=
  (View.ld_unit_apply_of _ _ _ _ _ (ix2 ⟨j.val, by omega⟩ n) fun a => by match a with | ⟨0, _⟩ => exact (Nat.zero_add _).symm | ⟨1, _⟩ => exact (Nat.zero_add _).symm).trans (h7 _ _)
include h7 in
theorem down1_at (j n : Fin 1024) : down1 x7 (ix2 j n) = D ⟨1024 + j.val, by omega⟩ n :=
  (View.ld_unit_apply_of _ _ _ _ _ (ix2 ⟨1024 + j.val, by omega⟩ n) fun a => by match a with | ⟨0, _⟩ => rfl | ⟨1, _⟩ => exact (Nat.zero_add _).symm).trans (h7 _ _)
include h7 in
theorem down2_at (j : Fin 768) (n : Fin 1024) : down2 x7 (ix2 j n) = D ⟨2048 + j.val, by omega⟩ n :=
  (View.ld_unit_apply_of _ _ _ _ _ (ix2 ⟨2048 + j.val, by omega⟩ n) fun a => by match a with | ⟨0, _⟩ => rfl | ⟨1, _⟩ => exact (Nat.zero_add _).symm).trans (h7 _ _)

include h0 h1 h2 h3 h4 h5 h6 h7 in
/-- A row of what a point writes is the row's result. -/
theorem row_at (n : Fin 1024) : after3 x0 x1 x2 x3 x4 x5 x6 x7 (ix2 r n) = Spec.result X A H WO G W D n := by
  unfold after3 after2 after1 normed mixed
  rw [step3_read, step2_read, step1_read]
  simp only [gate_read, gate0_at W x6 h6, up0_at W x6 h6, gate1_at W x6 h6, up1_at W x6 h6, gate2_at W x6 h6, up2_at W x6 h6,
    down0_at D x7 h7, down1_at D x7 h7, down2_at D x7 h7, mixed_at X A H WO r x0 x1 x2 x3 x4 h0 h1 h2 h3 h4, normed_at X A H WO G r x0 x1 x2 x3 x4 x5 h0 h1 h2 h3 h4 h5]
  unfold Spec.result
  rw [Spec.sum_steps, add_assoc, add_assoc, add_assoc]
  rfl
end

end Cert.Ffn
-- ==== Proof.FfnKernel.lean ====
module

public import proofs.«01_k».proof.Proof.FfnEntry
public import proofs.«01_k».proof.Proof.FfnRead

/-! The feed-forward call's result array: every row is the row's result, of the arguments. -/

@[expose] public section

set_option maxRecDepth 16384

noncomputable section

namespace Cert.Ffn

open Cert.Kernel2Ideal Cert.Kernel2Ideal.Gen Cert.Kernel2Ideal.Value Idealize.ShloMosaic Idealize.ShloMosaic.TcCoe Idealize.SL.Sem

variable (m : (l : Loc nD τ sig) → Buf (Elt Ideal) l) (ρ : Dev nD → PrngReg)

/-- The windows' block indices: the rows move with the point, the weights stay. -/
theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![t.val, 0] := (by decide +kernel : ∀ t : Fin grid0.N, win0_8.index t = ![t.val, 0])

/-- A point's row among all rows. -/
def rowOf (t : Fin cfg0.N) (r : Fin 256) : Fin 16384 := ⟨256 * t.val + r.val, by have h : t.val < 64 := t.isLt; omega⟩

theorem emb0 (t : Fin cfg0.N) (r : Fin 256) (n : Fin 1024) : ((cfg0.win 0).blk t).view.emb (ix2 r n) = ix2 (rowOf t r) n := by
  funext a; apply Fin.ext
  match a with
  | ⟨0, _⟩ => show win0_0.index t (0 : Fin 2) * 256 + 1 * r.val = 256 * t.val + r.val; rw [idx0]; show t.val * 256 + 1 * r.val = _; omega
  | ⟨1, _⟩ => show win0_0.index t (1 : Fin 2) * 1024 + 1 * n.val = n.val; rw [idx0]; show 0 * 1024 + 1 * n.val = _; omega
theorem emb1 (t : Fin cfg0.N) (r : Fin 256) (j : Fin 512) : ((cfg0.win 1).blk t).view.emb (ix2 r j) = ix2 (rowOf t r) j := by
  funext a; apply Fin.ext
  match a with
  | ⟨0, _⟩ => show win0_1.index t (0 : Fin 2) * 256 + 1 * r.val = 256 * t.val + r.val; rw [idx1]; show t.val * 256 + 1 * r.val = _; omega
  | ⟨1, _⟩ => show win0_1.index t (1 : Fin 2) * 512 + 1 * j.val = j.val; rw [idx1]; show 0 * 512 + 1 * j.val = _; omega
theorem emb2 (t : Fin cfg0.N) (r : Fin 256) (j : Fin 512) : ((cfg0.win 2).blk t).view.emb (ix2 r j) = ix2 (rowOf t r) j := by
  funext a; apply Fin.ext
  match a with
  | ⟨0, _⟩ => show win0_2.index t (0 : Fin 2) * 256 + 1 * r.val = 256 * t.val + r.val; rw [idx2]; show t.val * 256 + 1 * r.val = _; omega
  | ⟨1, _⟩ => show win0_2.index t (1 : Fin 2) * 512 + 1 * j.val = j.val; rw [idx2]; show 0 * 512 + 1 * j.val = _; omega
theorem emb3 (t : Fin cfg0.N) (j : Fin 512) (n : Fin 1024) : ((cfg0.win 3).blk t).view.emb (ix2 j n) = ix2 j n := by
  funext a; apply Fin.ext
  match a with
  | ⟨0, _⟩ => show win0_3.index t (0 : Fin 2) * 512 + 1 * j.val = j.val; rw [idx3]; show 0 * 512 + 1 * j.val = _; omega
  | ⟨1, _⟩ => show win0_3.index t (1 : Fin 2) * 1024 + 1 * n.val = n.val; rw [idx3]; show 0 * 1024 + 1 * n.val = _; omega
theorem emb4 (t : Fin cfg0.N) (j : Fin 512) (n : Fin 1024) : ((cfg0.win 4).blk t).view.emb (ix2 j n) = ix2 j n := by
  funext a; apply Fin.ext
  match a with
  | ⟨0, _⟩ => show win0_4.index t (0 : Fin 2) * 512 + 1 * j.val = j.val; rw [idx4]; show 0 * 512 + 1 * j.val = _; omega
  | ⟨1, _⟩ => show win0_4.index t (1 : Fin 2) * 1024 + 1 * n.val = n.val; rw [idx4]; show 0 * 1024 + 1 * n.val = _; omega
theorem emb5 (t : Fin cfg0.N) (n : Fin 1024) : ((cfg0.win 5).blk t).view.emb (ix2 0 n) = ix2 0 n := by
  funext a; apply Fin.ext
  match a with
  | ⟨0, _⟩ => show win0_5.index t (0 : Fin 2) * 1 + 1 * 0 = 0; rw [idx5]; rfl
  | ⟨1, _⟩ => show win0_5.index t (1 : Fin 2) * 1024 + 1 * n.val = n.val; rw [idx5]; show 0 * 1024 + 1 * n.val = _; omega
theorem emb6 (t : Fin cfg0.N) (k : Fin 1024) (j : Fin 5632) : ((cfg0.win 6).blk t).view.emb (ix2 k j) = ix2 k j := by
  funext a; apply Fin.ext
  match a with
  | ⟨0, _⟩ => show win0_6.index t (0 : Fin 2) * 1024 + 1 * k.val = k.val; rw [idx6]; show 0 * 1024 + 1 * k.val = _; omega
  | ⟨1, _⟩ => show win0_6.index t (1 : Fin 2) * 5632 + 1 * j.val = j.val; rw [idx6]; show 0 * 5632 + 1 * j.val = _; omega
theorem emb7 (t : Fin cfg0.N) (j : Fin 2816) (n : Fin 1024) : ((cfg0.win 7).blk t).view.emb (ix2 j n) = ix2 j n := by
  funext a; apply Fin.ext
  match a with
  | ⟨0, _⟩ => show win0_7.index t (0 : Fin 2) * 2816 + 1 * j.val = j.val; rw [idx7]; show 0 * 2816 + 1 * j.val = _; omega
  | ⟨1, _⟩ => show win0_7.index t (1 : Fin 2) * 1024 + 1 * n.val = n.val; rw [idx7]; show 0 * 1024 + 1 * n.val = _; omega
theorem emb8 (t : Fin cfg0.N) (r : Fin 256) (n : Fin 1024) : ((cfg0.win 8).blk t).view.emb (ix2 r n) = ix2 (rowOf t r) n := by
  funext a; apply Fin.ext
  match a with
  | ⟨0, _⟩ => show win0_8.index t (0 : Fin 2) * 256 + 1 * r.val = 256 * t.val + r.val; rw [idx8]; show t.val * 256 + 1 * r.val = _; omega
  | ⟨1, _⟩ => show win0_8.index t (1 : Fin 2) * 1024 + 1 * n.val = n.val; rw [idx8]; show 0 * 1024 + 1 * n.val = _; omega

/-- The result array. -/
def G (c : Dev nD) : FVec Ideal S16384x1024 .f32 := fun i =>
  Spec.result (argX m c (i 0)) (argA m c (i 0)) (argH m c (i 0)) (argWO m c) (argG m c) (argW m c) (argD m c) (i 1)

theorem flushed8_eq (c : Dev nD) (t : Fin cfg0.N) : (dats m 0 c).flushed 8 t = ((cfg0.win 8).blk t).view.read (Elt Ideal) (G m c) := by
  rw [flushed8_A, out_eq]
  funext i
  obtain ⟨r, n, rfl⟩ : ∃ (r : Fin 256) (n : Fin 1024), i = ix2 r n := ⟨i 0, i 1, (ix2_eta i).symm⟩
  show after3 _ _ _ _ _ _ _ _ (ix2 r n) = G m c (((cfg0.win 8).blk t).view.emb (ix2 r n))
  rw [emb8]
  refine row_at (argX m c (rowOf t r)) (argA m c (rowOf t r)) (argH m c (rowOf t r)) (argWO m c) (argG m c) (argW m c) (argD m c) r _ _ _ _ _ _ _ _ ?_ ?_ ?_ ?_ ?_ ?_ ?_ ?_ n
  · intro n; show V m c main_v0 (((cfg0.win 0).blk t).view.emb (ix2 r n)) = _; rw [emb0, entry0]
  · intro j; show V m c main_v2 (((cfg0.win 1).blk t).view.emb (ix2 r j)) = _; rw [emb1, entry2]
  · intro j; show V m c main_v3 (((cfg0.win 2).blk t).view.emb (ix2 r j)) = _; rw [emb2, entry3]
  · intro j n; show V m c main_v10 (((cfg0.win 3).blk t).view.emb (ix2 j n)) = _; rw [emb3, entry10]
  · intro j n; show V m c main_v12 (((cfg0.win 4).blk t).view.emb (ix2 j n)) = _; rw [emb4, entry12]
  · intro n; show V m c main_v14 (((cfg0.win 5).blk t).view.emb (ix2 0 n)) = _; rw [emb5, entry14]
  · intro k j; show V m c main_v16 (((cfg0.win 6).blk t).view.emb (ix2 k j)) = _; rw [emb6, entry16]
  · intro j n; show V m c main_v18 (((cfg0.win 7).blk t).view.emb (ix2 j n)) = _; rw [emb7, entry18]

theorem covered8 (i : S16384x1024.Idx) : ∃ t : Fin cfg0.N, (cfg0.win 8).flush t = true ∧ i ∈ ((cfg0.win 8).blk t).view.set := by
  obtain ⟨R, n, rfl⟩ : ∃ (R : Fin 16384) (n : Fin 1024), i = ix2 R n := ⟨i 0, i 1, (ix2_eta i).symm⟩
  have hR : R.val / 256 < cfg0.N := by show R.val / 256 < 64; omega
  refine ⟨⟨R.val / 256, hR⟩, flush0_8 _, ?_⟩
  have h := ((cfg0.win 8).blk ⟨R.val / 256, hR⟩).view.emb_mem_set (ix2 (⟨R.val % 256, by omega⟩ : Fin 256) n)
  rw [emb8] at h
  have e : rowOf ⟨R.val / 256, hR⟩ ⟨R.val % 256, by omega⟩ = R := Fin.ext (by show 256 * (R.val / 256) + R.val % 256 = R.val; omega)
  rwa [e] at h

theorem final8 (c : Dev nD) : (dats m 0 c).arrAt 8 cfg0.N = G m c :=
  (dats m 0 c).arrAt_eq_of_cover 8 (G m c) (fun t _ => flushed8_eq m c t) covered8

end Cert.Ffn
-- ==== Proof.FfnReference.lean ====
module

public import proofs.«01_k».proof.Proof.Gen.Reference2Ideal.Run
public import proofs.«01_k».proof.Proof.FfnSpec

/-! The feed-forward call's reference, stage by stage: every row is the row's result, of the arguments. -/

@[expose] public section

set_option maxRecDepth 16384

noncomputable section

namespace Cert.FfnRef

open Cert.Ffn Cert.Reference2Ideal Cert.Reference2Ideal.Gen Cert.Reference2Ideal.Value Idealize.ShloMosaic Idealize.ShloMosaic.TcCoe Idealize.SL.Sem

/-! ## The stages -/

/-- The two mixers' outputs side by side, the attention's heads put in order. -/
def mix (a h : FVec Ideal S2x8192x512 .bf16) : FVec Ideal S2x8192x1024 .f32 :=
  concatenate S2x8192x1024 2 [⟨S2x8192x512, (shapeCast _ (transpose S2x8192x2x4x64 [0, 1, 3, 2, 4] (shapeCast _ (extf .f32 a bitsLt_bf16_f32) shapeCasts_S2x8192x512_S2x8192x4x2x64) transposes_S2x8192x4x2x64_S2x8192x2x4x64_0_1_3_2_4) shapeCasts_S2x8192x2x4x64_S2x8192x512)⟩, ⟨S2x8192x512, (extf .f32 h bitsLt_bf16_f32)⟩] concatenates_S2x8192x512_S2x8192x512_S2x8192x1024_d2

/-- The residual with the projection added. -/
def proj (x : FVec Ideal S2x8192x1024 .f32) (a h : FVec Ideal S2x8192x512 .bf16) (w : FVec Ideal S1x1024x1024 .f32) : FVec Ideal S2x8192x1024 .f32 :=
  addf x (Host.dotGeneral dot_S2x8192x1024_S1024x1024_S2x8192x1024_2_0_01_1_n_n none (mix a h) (shapeCast _ w shapeCasts_S1x1024x1024_S1024x1024))

/-- Root-mean-square norm with a gain. -/
def norm (v : FVec Ideal S2x8192x1024 .f32) (g : FVec Ideal S1x1024 .f32) : FVec Ideal S2x8192x1024 .f32 :=
  mulf (mulf v (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf v v) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))

/-- Gates and ups in one array. -/
def both (v : FVec Ideal S2x8192x1024 .f32) (w : FVec Ideal S1x1024x5632 .f32) : FVec Ideal S2x8192x5632 .f32 :=
  Host.dotGeneral dot_S2x8192x1024_S1024x5632_S2x8192x5632_2_0_01_1_n_n none v (shapeCast _ w shapeCasts_S1x1024x5632_S1024x5632)

/-- `silu gate * up`. -/
def activ (u : FVec Ideal S2x8192x5632 .f32) : FVec Ideal S2x8192x2816 .f32 :=
  mulf (mulf (extractStridedSlice S2x8192x2816 ![0, 0, 0] u slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] u slices_S2x8192x5632_S2x8192x2816_0_0_0)))))) (extractStridedSlice S2x8192x2816 ![0, 0, 2816] u slices_S2x8192x5632_S2x8192x2816_0_0_2816)

def finish (x : FVec Ideal S2x8192x1024 .f32) (u : FVec Ideal S2x8192x2816 .f32) (d : FVec Ideal S1x2816x1024 .f32) : FVec Ideal S16384x1024 .f32 :=
  shapeCast _ (addf x (Host.dotGeneral dot_S2x8192x2816_S2816x1024_S2x8192x1024_2_0_01_1_n_n none u (shapeCast _ d shapeCasts_S1x2816x1024_S2816x1024))) shapeCasts_S2x8192x1024_S16384x1024

/-! ## The stages at an index -/

theorem mix_low (a h : FVec Ideal S2x8192x512 .bf16) (b : Fin 2) (T : Fin 8192) (j : Fin 512) :
    mix a h (ix3 b T (Spec.low (Spec.col j))) = a (ix3 b T j) := by
  have hc : (Spec.low (Spec.col j)).val < 512 := (Spec.col j).isLt
  pointwise [mix]
  rw [dif_pos hc]
  refine congrArg a (funext fun q => Fin.ext ?_)
  match q with
  | ⟨0, _⟩ => rfl
  | ⟨1, _⟩ => rfl
  | ⟨2, _⟩ =>
    show (Spec.low (Spec.col j)).val / 64 % 4 * 128 + (Spec.low (Spec.col j)).val / 256 * 64 + (Spec.low (Spec.col j)).val % 64 = j.val
    exact (by decide +kernel : ∀ j : Fin 512, (Spec.low (Spec.col j)).val / 64 % 4 * 128 + (Spec.low (Spec.col j)).val / 256 * 64 + (Spec.low (Spec.col j)).val % 64 = j.val) j

theorem mix_high (a h : FVec Ideal S2x8192x512 .bf16) (b : Fin 2) (T : Fin 8192) (j : Fin 512) :
    mix a h (ix3 b T (Spec.high j)) = h (ix3 b T j) := by
  have hc : ¬ (Spec.high j).val < 512 := by show ¬ 512 + j.val < 512; omega
  pointwise [mix]
  rw [dif_neg hc]
  refine congrArg h (funext fun q => Fin.ext ?_)
  match q with
  | ⟨0, _⟩ => rfl
  | ⟨1, _⟩ => rfl
  | ⟨2, _⟩ =>
    show 512 + j.val - 512 = j.val
    omega

theorem proj_at (x : FVec Ideal S2x8192x1024 .f32) (a h : FVec Ideal S2x8192x512 .bf16) (w : FVec Ideal S1x1024x1024 .f32) (b : Fin 2) (T : Fin 8192) (n : Fin 1024) :
    proj x a h w (ix3 b T n) = Spec.mixed (fun n => x (ix3 b T n)) (fun j => a (ix3 b T j)) (fun j => h (ix3 b T j)) (fun k n => w (ix3 0 k n)) n := by
  have e : ∀ M : FVec Ideal S2x8192x1024 .f32, addf x (Host.dotGeneral dot_S2x8192x1024_S1024x1024_S2x8192x1024_2_0_01_1_n_n none M (shapeCast _ w shapeCasts_S1x1024x1024_S1024x1024)) (ix3 b T n)
      = x (ix3 b T n) + ∑ k : Fin 1024, M (ix3 b T k) * w (ix3 0 k n) := fun M => by pointwise
  unfold proj Spec.mixed
  rw [e, Spec.sum_mix]
  simp only [mix_low, mix_high]

theorem norm_at (v : FVec Ideal S2x8192x1024 .f32) (g : FVec Ideal S1x1024 .f32) (b : Fin 2) (T : Fin 8192) (n : Fin 1024) :
    norm v g (ix3 b T n) = Spec.normed (fun n => v (ix3 b T n)) (fun n => g (ix2 0 n)) n := by
  pointwise [norm, Spec.normed]

theorem both_at (v : FVec Ideal S2x8192x1024 .f32) (w : FVec Ideal S1x1024x5632 .f32) (b : Fin 2) (T : Fin 8192) (j : Fin 5632) :
    both v w (ix3 b T j) = ∑ k : Fin 1024, v (ix3 b T k) * w (ix3 0 k j) := by
  pointwise [both]

theorem activ_at (u : FVec Ideal S2x8192x5632 .f32) (b : Fin 2) (T : Fin 8192) (j : Fin 2816) :
    activ u (ix3 b T j) = u (ix3 b T (Spec.gateCol j)) * Ideal.logistic (u (ix3 b T (Spec.gateCol j))) * u (ix3 b T (Spec.upCol j)) := by
  pointwise [activ, Ideal.logistic, Spec.gateCol, Spec.upCol]

theorem finish_at (x : FVec Ideal S2x8192x1024 .f32) (u : FVec Ideal S2x8192x2816 .f32) (d : FVec Ideal S1x2816x1024 .f32) (R : Fin 16384) (n : Fin 1024) :
    finish x u d (ix2 R n) = x (ix3 ⟨R.val / 8192, by omega⟩ ⟨R.val % 8192, by omega⟩ n)
      + ∑ j : Fin 2816, u (ix3 ⟨R.val / 8192, by omega⟩ ⟨R.val % 8192, by omega⟩ j) * d (ix3 0 j n) := by
  pointwise [finish]

/-! ## The reference -/

variable (m : (l : Loc nD τ sig) → Buf (Elt Ideal) l)

theorem res_eq (c : Dev nD) : res_main_v32 m c =
    let x := proj (m (c.tc.loc main_arg0)) (m (c.tc.loc main_arg1)) (m (c.tc.loc main_arg2)) (m (c.tc.loc main_arg3))
    finish x (activ (both (norm x (m (c.tc.loc main_arg4))) (m (c.tc.loc main_arg5)))) (m (c.tc.loc main_arg6)) := by
  unfold res_main_v32 finish activ both norm proj mix
  rfl

/-- THE REFERENCE at an index. -/
theorem reference_at (c : Dev nD) (R : Fin 16384) (n : Fin 1024) : res_main_v32 m c (ix2 R n) =
    Spec.result (fun n => m (c.tc.loc main_arg0) (ix3 ⟨R.val / 8192, by omega⟩ ⟨R.val % 8192, by omega⟩ n))
      (fun j => m (c.tc.loc main_arg1) (ix3 ⟨R.val / 8192, by omega⟩ ⟨R.val % 8192, by omega⟩ j))
      (fun j => m (c.tc.loc main_arg2) (ix3 ⟨R.val / 8192, by omega⟩ ⟨R.val % 8192, by omega⟩ j))
      (fun k n => m (c.tc.loc main_arg3) (ix3 0 k n)) (fun n => m (c.tc.loc main_arg4) (ix2 0 n))
      (fun k j => m (c.tc.loc main_arg5) (ix3 0 k j)) (fun j n => m (c.tc.loc main_arg6) (ix3 0 j n)) n := by
  rw [res_eq]
  dsimp only
  rw [finish_at]
  unfold Spec.result Spec.act
  simp only [activ_at, both_at, norm_at, proj_at]

end Cert.FfnRef
-- ==== Proof.ProjSpec.lean ====
module

public import proofs.«01_k».proof.Proof.FfnSpec
public import Idealize.ShloMosaic.Lib.IdealHost

/-! The input projection as formulas over the extended reals: a row of the input, the norm's gain and one column of the
weights; and the heads' norms, as the call takes them and as the reference does. -/

@[expose] public section

noncomputable section

namespace Cert.Proj.Spec

open Idealize.ShloMosaic

/-- A row normed and projected on one column of the weights. -/
def proj (v g w : Fin 1024 → EReal) : EReal := ∑ k : Fin 1024, Cert.Ffn.Spec.normed v g k * w k

/-- The columns of a column's head, two heads of 64 columns side by side. -/
def half (j : Fin 128) (e : Fin 64) : Fin 128 := ⟨64 * (j.val / 64) + e.val, by omega⟩

/-- An entry `x` of the head `u` normed, with gain `g`. -/
def headNorm (u : Fin 64 → EReal) (g x : EReal) : EReal :=
  x * Ideal.rsqrt (Ideal.div (∑ e : Fin 64, u e * u e) (Ideal.ofBits .f32 0x42800000#32) + Ideal.ofBits .f32 0x358637BD#32) * g

/-- The same as the call takes it: the squares in a first part and a remainder, each summed against `b`. -/
def pairNorm (v : Fin 128 → EReal) (b : Fin 128 → EReal) (g x : EReal) : EReal :=
  x * Ideal.rsqrt (((∑ k : Fin 128, v k * v k * b k) + ∑ k : Fin 128, (v k * v k - v k * v k) * b k)
    * Ideal.ofBits .f32 0x3C800000#32 + Ideal.ofBits .f32 0x358637BD#32) * g

/-! ## The constants -/

theorem lit_64 : Ideal.ofBits .f32 0x42800000#32 = ((64 : ℝ) : EReal) := by
  simp [Ideal.ofBits, Ideal.ieee, -EReal.coe_mul]; norm_num
theorem lit_64th : Ideal.ofBits .f32 0x3C800000#32 = ((1 / 64 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_eps : ∃ r : ℝ, 0 < r ∧ Ideal.ofBits .f32 0x358637BD#32 = (r : EReal) := by
  refine ⟨_, ?_, by simp [Ideal.ofBits, Ideal.ieee, -EReal.coe_mul]; rfl⟩
  norm_num

/-! ## Finite values -/

/-- A value that is no infinity. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : Nat} {f : Fin n → EReal} (h : ∀ i, IsReal (f i)) : IsReal (∑ i, f i) := by
  choose r hr using h
  refine ⟨∑ i, r i, ?_⟩
  simp only [hr]
  exact (map_sum (⟨⟨fun x : ℝ => (x : EReal), EReal.coe_zero⟩, EReal.coe_add⟩ : ℝ →+ EReal) r Finset.univ).symm

theorem isReal_of_abs_lt {x : EReal} (h₁ : x ≠ ⊤) (h₂ : x ≠ ⊥) : IsReal x := ⟨x.toReal, (EReal.coe_toReal h₁ h₂).symm⟩

theorem sq_nonneg (x : EReal) : 0 ≤ x * x := by
  induction x with
  | bot => exact (EReal.bot_mul_bot).symm ▸ le_top
  | top => exact (EReal.top_mul_top).symm ▸ le_top
  | coe r => rw [← EReal.coe_mul]; exact_mod_cast mul_self_nonneg r

theorem IsReal.of_sq {x : EReal} (h : x * x ≠ ⊤) : IsReal x := by
  induction x with
  | bot => exact absurd EReal.bot_mul_bot h
  | top => exact absurd EReal.top_mul_top h
  | coe r => exact ⟨r, rfl⟩

/-- A normed row is finite where the gain is: an infinite entry makes the row's root-mean-square infinite, and the row zero. -/
theorem isReal_normed {v g : Fin 1024 → EReal} (hg : ∀ k, IsReal (g k)) (k : Fin 1024) : IsReal (Cert.Ffn.Spec.normed v g k) := by
  unfold Cert.Ffn.Spec.normed
  refine IsReal.mul ?_ (hg k)
  rw [lit_1024, Ideal.div_coe (by norm_num)]
  obtain ⟨ε, hε, e⟩ := lit_eps
  rw [e]
  by_cases hS : (∑ i : Fin 1024, v i * v i) = ⊤
  · rw [hS, EReal.top_mul_coe_of_pos (by norm_num), EReal.top_add_coe, Ideal.rsqrt_top, mul_zero]
    exact ⟨0, rfl⟩
  · have hv : ∀ i, IsReal (v i) := fun i => IsReal.of_sq fun h => hS (top_le_iff.1 (h ▸ Finset.single_le_sum (f := fun i => v i * v i) (fun i _ => sq_nonneg (v i)) (Finset.mem_univ i)))
    obtain ⟨s, hs⟩ := IsReal.sum fun i => (hv i).mul (hv i)
    have h0 : 0 ≤ s := by
      have : (0 : EReal) ≤ ∑ i : Fin 1024, v i * v i := Finset.sum_nonneg fun i _ => sq_nonneg (v i)
      rw [hs] at this
      exact_mod_cast this
    rw [hs, ← EReal.coe_mul, ← EReal.coe_add, Ideal.rsqrt_coe]
    have hp : 0 < s * (1 / 1024) + ε := by positivity
    rw [if_neg (not_lt.2 hp.le), if_neg hp.ne']
    exact (hv k).mul ⟨_, rfl⟩

theorem isReal_proj {v g w : Fin 1024 → EReal} (hg : ∀ k, IsReal (g k)) (hw : ∀ k, IsReal (w k)) : IsReal (proj v g w) :=
  IsReal.sum fun k => (isReal_normed hg k).mul (hw k)

/-- Where no entry is infinite the remainders are zero, and the sum is over the entry's own head: the two norms agree. -/
theorem pairNorm_eq (v b : Fin 128 → EReal) (g x : EReal) (j : Fin 128) (hv : ∀ k, IsReal (v k))
    (hb : ∀ k : Fin 128, b k = if k.val / 64 = j.val / 64 then 1 else 0) :
    pairNorm v b g x = headNorm (fun e => v (half j e)) g x := by
  unfold pairNorm headNorm
  rw [lit_64, Ideal.div_coe (by norm_num), lit_64th]
  have h0 : (∑ k : Fin 128, (v k * v k - v k * v k) * b k) = 0 := Finset.sum_eq_zero fun k _ => by
    obtain ⟨r, hr⟩ := (hv k).mul (hv k)
    rw [hr, ← EReal.coe_sub, sub_self, EReal.coe_zero, zero_mul]
  have h1 : (∑ k : Fin 128, v k * v k * b k) = ∑ e : Fin 64, v (half j e) * v (half j e) := by
    rw [show (∑ k : Fin 128, v k * v k * b k) = ∑ k : Fin (64 + 64), v k * v k * b k from rfl, Fin.sum_univ_add]
    rcases (by omega : j.val / 64 = 0 ∨ j.val / 64 = 1) with h | h
    · rw [show (∑ i : Fin 64, v (Fin.natAdd 64 i) * v (Fin.natAdd 64 i) * b (Fin.natAdd 64 i)) = 0 from Finset.sum_eq_zero fun i _ => by
        rw [hb, if_neg (by show ¬ (64 + i.val) / 64 = _; omega), mul_zero], add_zero]
      refine Finset.sum_congr rfl fun i _ => ?_
      rw [hb, if_pos (by show i.val / 64 = _; omega), mul_one,
        show half j i = Fin.castAdd 64 i from Fin.ext (by show 64 * (j.val / 64) + i.val = i.val; omega)]
    · rw [show (∑ i : Fin 64, v (Fin.castAdd 64 i) * v (Fin.castAdd 64 i) * b (Fin.castAdd 64 i)) = 0 from Finset.sum_eq_zero fun i _ => by
        rw [hb, if_neg (by show ¬ i.val / 64 = _; omega), mul_zero], zero_add]
      refine Finset.sum_congr rfl fun i _ => ?_
      rw [hb, if_pos (by show (64 + i.val) / 64 = _; omega), mul_one,
        show half j i = Fin.natAdd 64 i from Fin.ext (by show 64 * (j.val / 64) + i.val = 64 + i.val; omega)]
  rw [h0, add_zero, h1]

end Cert.Proj.Spec

namespace Cert.Proj

/-- A row's batch row and place. -/
def bat (R : Fin 16384) : Fin 2 := ⟨R.val / 8192, by omega⟩
def pos (R : Fin 16384) : Fin 8192 := ⟨R.val % 8192, by omega⟩

end Cert.Proj
-- ==== Proof.ProjOnes.lean ====
module

public import proofs.«01_k».proof.Kernel3Ideal
public import Idealize.ShloMosaic.Lib.Pointwise

/-! The input projection's table of ones: 1 where the two columns are of one head. -/

@[expose] public section

set_option maxRecDepth 16384

noncomputable section

namespace Cert.Proj

open Cert.Kernel3Ideal Idealize.ShloMosaic

/-- The two heads' table of ones. -/
theorem ones : ∀ k j : Fin 128, lit1 (S128x128.rowMajor (ix2 k j)) = if k.val / 64 = j.val / 64 then 0x3F80#16 else 0x0000#16 := by
  decide +kernel

end Cert.Proj
-- ==== Proof.ProjEntry.lean ====
module

public import proofs.«01_k».proof.Proof.Gen.Kernel3Ideal.Value
public import proofs.«01_k».proof.Proof.ProjSpec
public import proofs.«01_k».proof.Proof.ProjOnes
public import Idealize.ShloMosaic.Lib.StableHlo.ReadAt
public import Idealize.ShloMosaic.Lib.Routing.Ops
public import Idealize.ShloMosaic.Lib.IdealHost

/-! The arrays the input projection is entered with, entry by entry, in terms of its arguments. -/

@[expose] public section

set_option maxRecDepth 16384

noncomputable section

namespace Cert.Proj

open Cert.Kernel3Ideal Cert.Kernel3Ideal.Gen Idealize.ShloMosaic Idealize.ShloMosaic.TcCoe Idealize.SL.Sem

/-- `table[:, idx]` over the columns of a `[B, nb]` table: where `idx` holds a column number `b < nb` at `(c, 0)`, entry
    `(y, c)` of the result is the table's entry `(y, b)`. -/
theorem gather_col {α : Type} {nb B n : Nat} (d : GatherDims (Routing.shape2 B nb) (Routing.shape2 n 1) (Routing.shape2 B n)) (hoff : d.offsetDims = [0])
    (hcoll : d.collapsedSliceDims = [1]) (hob : d.operandBatchingDims = [])
    (hsim : d.startIndexMap = [1]) (hivd : d.indexVectorDim = 1) (x : (Routing.shape2 B nb).Idx → α) (idx : IVec (Routing.shape2 n 1) 32)
    (y : Fin B) (c : Fin n) (b : Fin nb) (hb : idx (ix2 c (0 : Fin 1)) = BitVec.ofNat 32 b.val) (hnb : nb < 2 ^ 31) :
    Host.gather d x idx (ix2 y c) = x (ix2 y b) := by
  unfold Host.gather
  refine congrArg x (funext fun a => Fin.ext ?_)
  have hbN : ∀ a', a' ∉ d.operandBatchingDims := fun a' => by rw [hob]; exact List.not_mem_nil
  have h01 : ∀ L : List (Fin 2), L = [1] → (0 : Fin 2) ∉ L := fun L h => by rw [h]; decide
  have hk1 : ∀ k ∈ d.batchDims, k = (1 : Fin 2) := fun k hk => by
    have hk' : k ∉ d.offsetDims := of_decide_eq_true (List.mem_filter.1 hk).2
    rw [hoff] at hk'
    have h1 : k.val ≠ 0 := fun e => hk' (List.mem_singleton.2 (Fin.ext e))
    have h2 : k.val < 2 := k.isLt
    exact Fin.ext (by show k.val = 1; omega)
  have hk0 : ∀ k ∈ d.offsetDims, k = (0 : Fin 2) := fun k hk => by rw [hoff] at hk; exact List.mem_singleton.1 hk
  have e0 : ∀ X : Fin 2, X = 0 → (ix2 y c X).val = y.val := fun X h => by subst h; rfl
  have e1 : ∀ X : Fin 2, X = 1 → (ix2 y c X).val = c.val := fun X h => by subst h; rfl
  match a with
  | ⟨0, _⟩ =>
    have hk : (0 : Fin 2) ∈ d.sKept := (d.mem_sKept 0).2 ⟨h01 _ hcoll, hbN 0⟩
    have hm : (0 : Fin 2) ∉ d.startIndexMap := h01 _ hsim
    show d.start (ix2 y c) idx 0 + d.batchCoord (ix2 y c) 0 + d.offCoord (ix2 y c) 0 = y.val
    rw [d.batchCoord_eq_zero _ _ (hbN 0), Nat.add_zero]
    unfold GatherDims.start GatherDims.offCoord
    rw [dif_neg hm, dif_pos hk, Nat.zero_add]
    exact e0 _ (hk0 _ (List.getElem_mem _))
  | ⟨1, _⟩ =>
    have hk : (1 : Fin 2) ∉ d.sKept := fun h => ((d.mem_sKept 1).1 h).1 (by rw [hcoll]; exact List.mem_singleton.2 rfl)
    have hm : (1 : Fin 2) ∈ d.startIndexMap := by rw [hsim]; exact List.mem_singleton.2 rfl
    have hsl : d.sliceSizes 1 = 1 := d.slice_collapsed 1 (by rw [hcoll]; exact List.mem_singleton.2 rfl)
    show d.start (ix2 y c) idx 1 + d.batchCoord (ix2 y c) 1 + d.offCoord (ix2 y c) 1 = b.val
    rw [d.batchCoord_eq_zero _ _ (hbN 1), d.offCoord_eq_zero _ _ hk]
    simp only [Nat.add_zero]
    unfold GatherDims.start
    rw [dif_pos hm]
    have hsi : d.siIdx (ix2 y c) ⟨d.startIndexMap.idxOf 1, List.idxOf_lt_length_iff.2 hm⟩ = ix2 c (0 : Fin 1) := by
      funext b'
      apply Fin.ext
      match b' with
      | ⟨0, _⟩ =>
        unfold GatherDims.siIdx
        rw [dif_neg (by rw [hivd]; exact Nat.zero_ne_one)]
        unfold GatherDims.siCoord
        simp only [Fin.val_cast]
        exact e1 _ (hk1 _ (List.getElem_mem _))
      | ⟨1, _⟩ =>
        unfold GatherDims.siIdx
        rw [dif_pos (by rw [hivd])]
        show List.idxOf (1 : Fin 2) d.startIndexMap = 0
        rw [hsim]; simp
    have hbl := b.isLt
    rw [hsi, hb, hsl, StableHlo.Predicate.toInt_ofNat_small _ (by omega)]
    show min ((b.val : Int)).toNat (nb - 1) = b.val
    omega

variable (m : (l : Loc nD τ sig) → Buf (Elt Ideal) l)

/-- The arguments' entries: the input, the norm's gain, the weights, the queries' gain, the keys' gains. -/
def argX (c : Dev nD) (R : Fin 16384) (n : Fin 1024) : EReal := m ((c : Thread nD τ).loc main_arg0) (ix3 (bat R) (pos R) n)
def argG (c : Dev nD) (n : Fin 1024) : EReal := m ((c : Thread nD τ).loc main_arg1) (ix2 0 n)
def argW (c : Dev nD) (k : Fin 1024) (n : Fin 3352) : EReal := m ((c : Thread nD τ).loc main_arg2) (ix3 0 k n)
def argQ (c : Dev nD) (e : Fin 64) : EReal := m ((c : Thread nD τ).loc main_arg3) (ix2 0 e)
def argK (c : Dev nD) (i : Fin 3) (e : Fin 64) : EReal := m ((c : Thread nD τ).loc main_arg4) (ix3 0 i e)

theorem entry20 (c : Dev nD) (R : Fin 16384) (n : Fin 1024) : V m c main_v20 (ix2 R n) = argX m c R n := by
  unfold V argX bat pos
  after_reads_at

theorem entry22 (c : Dev nD) (n : Fin 1024) : V m c main_v22 (ix2 0 n) = argG m c n := by
  unfold V argG
  after_reads_at

theorem entry19 (c : Dev nD) (j : Fin 128) : V m c main_v19 (ix2 0 j) = argQ m c ⟨j.val % 64, by omega⟩ * Ideal.ofBits .f32 0x3E000000#32 := by
  unfold V argQ
  after_reads_at

theorem entry28 (c : Dev nD) (j : Fin 128) : V m c main_v28 (ix2 0 j) = argK m c 1 ⟨j.val % 64, by omega⟩ := by
  unfold V argK
  after_reads_at

theorem entry34 (c : Dev nD) (j : Fin 128) : V m c main_v34 (ix2 0 j) = argK m c 2 ⟨j.val % 64, by omega⟩ := by
  unfold V argK
  after_reads_at

theorem entryCst (c : Dev nD) (k j : Fin 128) : V m c main_cst (ix2 k j) = if k.val / 64 = j.val / 64 then (1 : EReal) else 0 := by
  unfold V
  after_reads_simp
  show Ideal.ofBits .bf16 (lit1 (S128x128.rowMajor (ix2 k j))) = _
  rw [ones]
  split
  · exact Ideal.ofBits_one_bf16
  · exact Ideal.ofBits_zero_bf16

/-- The columns' table. -/
theorem table : ∀ j : Fin 512, lit0 (S512.rowMajor (ix1 j)) = BitVec.ofNat 32 (Cert.Ffn.Spec.col j).val := by decide +kernel

/-- The weights as the call takes them: the queries' columns with their heads two by two, the keys' and values', the
    recurrence's, the gates', and zeros. -/
def argP (c : Dev nD) (k : Fin 1024) (n : Fin 3456) : EReal :=
  if h : n.val < 512 then argW m c k ⟨(Cert.Ffn.Spec.col ⟨n.val, h⟩).val, by omega⟩
  else if h : n.val < 1280 then argW m c k ⟨n.val, by omega⟩
  else if h : n.val < 3328 then argW m c k ⟨n.val + 24, by omega⟩
  else if h : n.val < 3352 then argW m c k ⟨n.val - 2048, by omega⟩
  else 0

theorem entry12 (c : Dev nD) (k : Fin 1024) (n : Fin 3456) : V m c main_v12 (ix2 k n) = argP m c k n := by
  unfold V argP argW
  after_reads_simp
  have cut : ∀ (x : FVec Ideal S1024x3456 .f32), truncf .bf16 x bitsLt_bf16_f32 (ix2 k n) = x (ix2 k n) := fun _ => rfl
  refine (cut _).trans ?_
  pointwise
  by_cases h1 : n.val < 512
  · rw [dif_pos h1, dif_pos h1]
    after_reads_simp
    refine (gather_col gather_S1024x512_S512x1_S1024x512_0_1_n_n_1_1_10241 rfl rfl rfl rfl rfl _ _ k ⟨n.val, h1⟩ (Cert.Ffn.Spec.col ⟨n.val, h1⟩) ?_ (by decide)).trans ?_
    · rw [← table]
      pointwise
    · pointwise
  rw [dif_neg h1, dif_neg h1]
  by_cases h2 : n.val < 1280
  · rw [dif_pos (show n.val - 512 < 768 by omega), dif_pos h2]
    after_reads_simp
    pointwise
    exact congrArg (fun n : Fin 3352 => m ((c : Thread nD τ).loc main_arg2) (ix3 0 k n)) (Fin.ext (by show 512 + (n.val - 512) = n.val; omega))
  rw [dif_neg (show ¬ n.val - 512 < 768 by omega), dif_neg h2]
  by_cases h3 : n.val < 3328
  · rw [dif_pos (show n.val - 512 - 768 < 2048 by omega), dif_pos h3]
    after_reads_simp
    pointwise
    exact congrArg (fun n : Fin 3352 => m ((c : Thread nD τ).loc main_arg2) (ix3 0 k n)) (Fin.ext (by show 1304 + (n.val - 512 - 768) = n.val + 24; omega))
  rw [dif_neg (show ¬ n.val - 512 - 768 < 2048 by omega), dif_neg h3]
  by_cases h4 : n.val < 3352
  · rw [dif_pos (show n.val - 512 - 768 - 2048 < 24 by omega), dif_pos h4]
    after_reads_simp
    pointwise
    exact congrArg (fun n : Fin 3352 => m ((c : Thread nD τ).loc main_arg2) (ix3 0 k n)) (Fin.ext (by show 1280 + (n.val - 512 - 768 - 2048) = n.val - 2048; omega))
  rw [dif_neg (show ¬ n.val - 512 - 768 - 2048 < 24 by omega), dif_neg h4]
  after_reads_simp
  pointwise

end Cert.Proj
-- ==== Proof.ProjRead.lean ====
module

public import proofs.«01_k».proof.Proof.Gen.Kernel3Ideal.Value
public import proofs.«01_k».proof.Proof.ProjSpec
public import Idealize.ShloMosaic.Lib.Pipeline.ValueKit.Acc
public import Idealize.ShloMosaic.Lib.Pipeline.ValueKit.Tiles

/-! What one point of the input projection's grid writes, read at an index over the extended reals. -/

@[expose] public section

set_option maxRecDepth 16384

noncomputable section

namespace Cert.Proj

open Cert.Kernel3Ideal Cert.Kernel3Ideal.Gen Idealize.ShloMosaic Idealize.ShloMosaic.TcCoe Idealize.SL.Sem

/-- Column `j` of the 128 from column `o` on. -/
def at128 (o : Nat) (ho : o + 128 ≤ 3456) (j : Fin 128) : Fin 3456 := ⟨o + j.val, by omega⟩

theorem proj_read (x : Vec Ideal S256x1024 .f32) (g : Vec Ideal S1x1024 .f32) (w : Vec Ideal S1024x3456 .bf16) (r : Fin 256) (n : Fin 3456) :
    k0_pay2 x g w (ix2 r n) = Spec.proj (fun k => x (ix2 r k)) (fun k => g (ix2 0 k)) (fun k => w (ix2 k n)) := by
  pointwise [k0_pay2, Spec.proj, Cert.Ffn.Spec.normed]

theorem q0_read (x : Vec Ideal S256x1024 .f32) (g : Vec Ideal S1x1024 .f32) (w : Vec Ideal S1024x3456 .bf16) (b : Vec Ideal S128x128 .bf16) (q : Vec Ideal S1x128 .f32) (r : Fin 256) (j : Fin 128) :
    k0_pay3 x g w b q (ix2 r j) = Spec.pairNorm (fun k => k0_pay2 x g w (ix2 r (at128 0 (by decide) k))) (fun k => b (ix2 k j)) (q (ix2 0 j)) (k0_pay2 x g w (ix2 r (at128 0 (by decide) j))) := by
  unfold k0_pay3
  generalize k0_pay2 x g w = y
  pointwise [Spec.pairNorm, at128]

theorem q1_read (y : FVec Ideal S256x3456 .f32) (b : Vec Ideal S128x128 .bf16) (q : Vec Ideal S1x128 .f32) (r : Fin 256) (j : Fin 128) :
    k0_pay4 y b q (ix2 r j) = Spec.pairNorm (fun k => y (ix2 r (at128 128 (by decide) k))) (fun k => b (ix2 k j)) (q (ix2 0 j)) (y (ix2 r (at128 128 (by decide) j))) := by
  pointwise [k0_pay4, Spec.pairNorm, at128]

theorem q2_read (y : FVec Ideal S256x3456 .f32) (b : Vec Ideal S128x128 .bf16) (q : Vec Ideal S1x128 .f32) (r : Fin 256) (j : Fin 128) :
    k0_pay5 y b q (ix2 r j) = Spec.pairNorm (fun k => y (ix2 r (at128 256 (by decide) k))) (fun k => b (ix2 k j)) (q (ix2 0 j)) (y (ix2 r (at128 256 (by decide) j))) := by
  pointwise [k0_pay5, Spec.pairNorm, at128]

theorem q3_read (y : FVec Ideal S256x3456 .f32) (b : Vec Ideal S128x128 .bf16) (q : Vec Ideal S1x128 .f32) (r : Fin 256) (j : Fin 128) :
    k0_pay6 y b q (ix2 r j) = Spec.pairNorm (fun k => y (ix2 r (at128 384 (by decide) k))) (fun k => b (ix2 k j)) (q (ix2 0 j)) (y (ix2 r (at128 384 (by decide) j))) := by
  pointwise [k0_pay6, Spec.pairNorm, at128]

theorem ks_read (y : FVec Ideal S256x3456 .f32) (b : Vec Ideal S128x128 .bf16) (q : Vec Ideal S1x128 .f32) (r : Fin 256) (j : Fin 128) :
    k0_pay12 (k0_pay9 y) (k0_pay10 q) (k0_pay11 y b) (Scalar.ofBits .f32 0x3C800000#32) (ix2 r j)
      = Spec.pairNorm (fun k => y (ix2 r (at128 768 (by decide) k))) (fun k => b (ix2 k j)) (q (ix2 0 j)) (y (ix2 r (at128 768 (by decide) j))) := by
  pointwise [k0_pay12, k0_pay9, k0_pay10, k0_pay11, Spec.pairNorm, at128]

theorem kw_read (y : FVec Ideal S256x3456 .f32) (b : Vec Ideal S128x128 .bf16) (q : Vec Ideal S1x128 .f32) (r : Fin 256) (j : Fin 128) :
    k0_pay14 y b q (ix2 r j) = Spec.pairNorm (fun k => y (ix2 r (at128 1024 (by decide) k))) (fun k => b (ix2 k j)) (q (ix2 0 j)) (y (ix2 r (at128 1024 (by decide) j))) := by
  pointwise [k0_pay14, Spec.pairNorm, at128]

theorem kc_read (y : FVec Ideal S256x3456 .f32) (r : Fin 256) (j : Fin 128) : k0_pay7 y (ix2 r j) = y (ix2 r (at128 512 (by decide) j)) := by
  pointwise [k0_pay7, at128]
theorem vc_read (y : FVec Ideal S256x3456 .f32) (r : Fin 256) (j : Fin 128) : k0_pay8 y (ix2 r j) = y (ix2 r (at128 640 (by decide) j)) := by
  pointwise [k0_pay8, at128]
theorem vs_read (y : FVec Ideal S256x3456 .f32) (r : Fin 256) (j : Fin 128) : k0_pay13 y (ix2 r j) = y (ix2 r (at128 896 (by decide) j)) := by
  pointwise [k0_pay13, at128]
theorem vw_read (y : FVec Ideal S256x3456 .f32) (r : Fin 256) (j : Fin 128) : k0_pay15 y (ix2 r j) = y (ix2 r (at128 1152 (by decide) j)) := by
  pointwise [k0_pay15, at128]
theorem gate_read (y : FVec Ideal S256x3456 .f32) (r : Fin 256) (j : Fin 128) : k0_pay1 y (ix2 r j) = Ideal.logistic (y (ix2 r (at128 3328 (by decide) j))) := by
  pointwise [k0_pay1, at128]
theorem ph_read (y : FVec Ideal S256x3456 .f32) (r : Fin 256) (j : Fin 2048) : k0_pay16 y (ix2 r j) = y (ix2 r ⟨1280 + j.val, by omega⟩) := by
  pointwise [k0_pay16]

end Cert.Proj
-- ==== Proof.ProjKernel.lean ====
module

public import proofs.«01_k».proof.Proof.ProjEntry
public import proofs.«01_k».proof.Proof.ProjRead

/-! The input projection's nine result arrays, entry by entry, of the arguments. -/

@[expose] public section

set_option maxRecDepth 16384

noncomputable section

namespace Cert.Proj

open Cert.Kernel3Ideal Cert.Kernel3Ideal.Gen Cert.Kernel3Ideal.Value Idealize.ShloMosaic Idealize.ShloMosaic.TcCoe Idealize.SL.Sem

/-! ## A point's blocks -/

section
variable (x0 : Vec Ideal S256x1024 .f32) (x1 : Vec Ideal S1x1024 .f32) (x2 : Vec Ideal S1024x3456 .bf16) (x3 : Vec Ideal S128x128 .bf16) (x4 x5 x6 : Vec Ideal S1x128 .f32)

theorem y_eq : k0_pay17 x0 x1 x2 x3 x4 x5 x6 = k0_pay2 x0 x1 x2 := by
  unfold k0_pay17
  simp (disch := decide) only [View.ld_unit_lit']

theorem out8_eq : out0_8 x0 x1 x2 x3 x4 x5 x6 = k0_pay7 (k0_pay2 x0 x1 x2) := by
  unfold out0_8
  refine (View.canon_cons_unit_lit' (S := S256x128) _ _ _ (by decide)).trans ?_
  simp (disch := decide) only [y_eq, View.ld_unit_lit']

theorem out9_eq : out0_9 x0 x1 x2 x3 x4 x5 x6 = k0_pay8 (k0_pay2 x0 x1 x2) := by
  unfold out0_9
  refine (View.canon_cons_unit_lit' (S := S256x128) _ _ _ (by decide)).trans ?_
  simp (disch := decide) only [y_eq, View.ld_unit_lit']

theorem out10_eq : out0_10 x0 x1 x2 x3 x4 x5 x6 = k0_pay12 (k0_pay9 (k0_pay2 x0 x1 x2)) (k0_pay10 x5) (k0_pay11 (k0_pay2 x0 x1 x2) x3) (Scalar.ofBits .f32 0x3C800000#32) := by
  unfold out0_10
  refine (View.canon_cons_unit_lit' (S := S256x128) _ _ _ (by decide)).trans ?_
  simp (disch := decide) only [y_eq, View.ld_unit_lit']

theorem out11_eq : out0_11 x0 x1 x2 x3 x4 x5 x6 = k0_pay13 (k0_pay2 x0 x1 x2) := by
  unfold out0_11
  refine (View.canon_cons_unit_lit' (S := S256x128) _ _ _ (by decide)).trans ?_
  simp (disch := decide) only [y_eq, View.ld_unit_lit']

theorem out12_eq : out0_12 x0 x1 x2 x3 x4 x5 x6 = k0_pay14 (k0_pay2 x0 x1 x2) x3 x6 := by
  unfold out0_12
  refine (View.canon_cons_unit_lit' (S := S256x128) _ _ _ (by decide)).trans ?_
  simp (disch := decide) only [y_eq, View.ld_unit_lit']

theorem out13_eq : out0_13 x0 x1 x2 x3 x4 x5 x6 = k0_pay15 (k0_pay2 x0 x1 x2) := by
  unfold out0_13
  refine (View.canon_cons_unit_lit' (S := S256x128) _ _ _ (by decide)).trans ?_
  simp (disch := decide) only [y_eq, View.ld_unit_lit']

theorem out14_eq : out0_14 x0 x1 x2 x3 x4 x5 x6 = k0_pay1 (k0_pay2 x0 x1 x2) := by
  unfold out0_14
  refine (View.canon_cons_unit_lit' (S := S256x128) _ _ _ (by decide)).trans ?_
  simp (disch := decide) only [y_eq, View.ld_unit_lit']

theorem out15_eq : out0_15 x0 x1 x2 x3 x4 x5 x6 = k0_pay16 (k0_pay2 x0 x1 x2) := by
  unfold out0_15
  refine (View.canon_cons_unit_lit' (S := S256x2048) _ _ _ (by decide)).trans ?_
  simp (disch := decide) only [y_eq, View.ld_unit_lit']

/-- A query entry of a point's block: its head's pair of 128 columns. -/
def pairAt (y : FVec Ideal S256x3456 .f32) (b : Vec Ideal S128x128 .bf16) (q : Vec Ideal S1x128 .f32) (r : Fin 256) (j : Fin 512) : EReal :=
  Spec.pairNorm (fun k => y (ix2 r ⟨128 * (j.val / 128) + k.val, by omega⟩)) (fun k => b (ix2 k ⟨j.val % 128, by omega⟩))
    (q (ix2 0 ⟨j.val % 128, by omega⟩)) (y (ix2 r ⟨j.val, by omega⟩))

/-- Column `j` of the `n`-th 128. -/
theorem pairAt_of (y : FVec Ideal S256x3456 .f32) (b : Vec Ideal S128x128 .bf16) (q : Vec Ideal S1x128 .f32) (r : Fin 256) (j : Fin 128)
    (o n : Nat) (ho : o + 128 ≤ 3456) (hn : n < 4) (e : o = 128 * n) (i : Fin 512) (hi : i.val = o + j.val) :
    Spec.pairNorm (fun k => y (ix2 r (at128 o ho k))) (fun k => b (ix2 k j)) (q (ix2 0 j)) (y (ix2 r (at128 o ho j))) = pairAt y b q r i := by
  subst e
  unfold pairAt at128
  have h1 : i.val / 128 = n := by omega
  have h2 : (⟨i.val % 128, by omega⟩ : Fin 128) = j := Fin.ext (by show i.val % 128 = j.val; omega)
  simp only [h1, h2]
  simp only [hi]

theorem out7_at (r : Fin 256) (j : Fin 512) : out0_7 x0 x1 x2 x3 x4 x5 x6 (ix2 r j) = pairAt (k0_pay2 x0 x1 x2) x3 x4 r j := by
  unfold out0_7
  simp (disch := decide) only [y_eq, View.ld_unit_lit']
  refine View.canon_apply_of_pieces (Val := Elt Ideal) (fun i => pairAt (k0_pay2 x0 x1 x2) x3 x4 (i 0) (i 1) : Vec Ideal S256x512 .bf16) _ ?_ (ix2 r j) (cover0_7 _ _ _ _ _)
  intro pc hpc
  rcases List.mem_cons.mp hpc with rfl | hpc
  · intro x
    obtain ⟨r, j, rfl⟩ : ∃ (r : Fin 256) (j : Fin 128), x = ix2 r j := ⟨x 0, x 1, (ix2_eta x).symm⟩
    refine (q3_read _ _ _ r j).trans ((pairAt_of _ _ _ r j 384 3 (by decide) (by decide) rfl ⟨384 + j.val, by omega⟩ rfl).trans ?_)
    exact congrArg₂ (pairAt _ _ _) (Fin.ext (by show r.val = 0 + 1 * r.val; omega)) (Fin.ext (by show 384 + j.val = 384 + 1 * j.val; omega))
  rcases List.mem_cons.mp hpc with rfl | hpc
  · intro x
    obtain ⟨r, j, rfl⟩ : ∃ (r : Fin 256) (j : Fin 128), x = ix2 r j := ⟨x 0, x 1, (ix2_eta x).symm⟩
    refine (q2_read _ _ _ r j).trans ((pairAt_of _ _ _ r j 256 2 (by decide) (by decide) rfl ⟨256 + j.val, by omega⟩ rfl).trans ?_)
    exact congrArg₂ (pairAt _ _ _) (Fin.ext (by show r.val = 0 + 1 * r.val; omega)) (Fin.ext (by show 256 + j.val = 256 + 1 * j.val; omega))
  rcases List.mem_cons.mp hpc with rfl | hpc
  · intro x
    obtain ⟨r, j, rfl⟩ : ∃ (r : Fin 256) (j : Fin 128), x = ix2 r j := ⟨x 0, x 1, (ix2_eta x).symm⟩
    refine (q1_read _ _ _ r j).trans ((pairAt_of _ _ _ r j 128 1 (by decide) (by decide) rfl ⟨128 + j.val, by omega⟩ rfl).trans ?_)
    exact congrArg₂ (pairAt _ _ _) (Fin.ext (by show r.val = 0 + 1 * r.val; omega)) (Fin.ext (by show 128 + j.val = 128 + 1 * j.val; omega))
  rcases List.mem_cons.mp hpc with rfl | hpc
  · intro x
    obtain ⟨r, j, rfl⟩ : ∃ (r : Fin 256) (j : Fin 128), x = ix2 r j := ⟨x 0, x 1, (ix2_eta x).symm⟩
    refine (q0_read _ _ _ _ _ r j).trans ((pairAt_of _ _ _ r j 0 0 (by decide) (by decide) rfl ⟨0 + j.val, by omega⟩ rfl).trans ?_)
    exact congrArg₂ (pairAt _ _ _) (Fin.ext (by show r.val = 0 + 1 * r.val; omega)) (Fin.ext (by show 0 + j.val = 0 + 1 * j.val; omega))
  nomatch hpc
end

/-! ## The windows -/

variable (m : (l : Loc nD τ sig) → Buf (Elt Ideal) l) (ρ : Dev nD → PrngReg)

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])
theorem idx9 : ∀ t : Fin cfg0.N, win0_9.index t = ![t.val, 0] := (by decide +kernel : ∀ t : Fin grid0.N, win0_9.index t = ![t.val, 0])
theorem idx10 : ∀ t : Fin cfg0.N, win0_10.index t = ![t.val, 0] := (by decide +kernel : ∀ t : Fin grid0.N, win0_10.index t = ![t.val, 0])
theorem idx11 : ∀ t : Fin cfg0.N, win0_11.index t = ![t.val, 0] := (by decide +kernel : ∀ t : Fin grid0.N, win0_11.index t = ![t.val, 0])
theorem idx12 : ∀ t : Fin cfg0.N, win0_12.index t = ![t.val, 0] := (by decide +kernel : ∀ t : Fin grid0.N, win0_12.index t = ![t.val, 0])
theorem idx13 : ∀ t : Fin cfg0.N, win0_13.index t = ![t.val, 0] := (by decide +kernel : ∀ t : Fin grid0.N, win0_13.index t = ![t.val, 0])
theorem idx14 : ∀ t : Fin cfg0.N, win0_14.index t = ![t.val, 0] := (by decide +kernel : ∀ t : Fin grid0.N, win0_14.index t = ![t.val, 0])
theorem idx15 : ∀ t : Fin cfg0.N, win0_15.index t = ![t.val, 0] := (by decide +kernel : ∀ t : Fin grid0.N, win0_15.index t = ![t.val, 0])

/-- A point's row among all rows. -/
def rowOf (t : Fin cfg0.N) (r : Fin 256) : Fin 16384 := ⟨256 * t.val + r.val, by have h : t.val < 64 := t.isLt; omega⟩

theorem emb0 (t : Fin cfg0.N) (r : Fin 256) (n : Fin 1024) : ((cfg0.win 0).blk t).view.emb (ix2 r n) = ix2 (rowOf t r) n := by
  funext a; apply Fin.ext
  match a with
  | ⟨0, _⟩ => show win0_0.index t (0 : Fin 2) * 256 + 1 * r.val = 256 * t.val + r.val; rw [idx0]; show t.val * 256 + 1 * r.val = _; omega
  | ⟨1, _⟩ => show win0_0.index t (1 : Fin 2) * 1024 + 1 * n.val = n.val; rw [idx0]; show 0 * 1024 + 1 * n.val = _; omega
theorem emb1 (t : Fin cfg0.N) (k : Fin 1) (n : Fin 1024) : ((cfg0.win 1).blk t).view.emb (ix2 k n) = ix2 k n := by
  funext a; apply Fin.ext
  match a with
  | ⟨0, _⟩ => show win0_1.index t (0 : Fin 2) * 1 + 1 * k.val = k.val; rw [idx1]; show 0 * 1 + 1 * k.val = _; omega
  | ⟨1, _⟩ => show win0_1.index t (1 : Fin 2) * 1024 + 1 * n.val = n.val; rw [idx1]; show 0 * 1024 + 1 * n.val = _; omega
theorem emb2 (t : Fin cfg0.N) (k : Fin 1024) (n : Fin 3456) : ((cfg0.win 2).blk t).view.emb (ix2 k n) = ix2 k n := by
  funext a; apply Fin.ext
  match a with
  | ⟨0, _⟩ => show win0_2.index t (0 : Fin 2) * 1024 + 1 * k.val = k.val; rw [idx2]; show 0 * 1024 + 1 * k.val = _; omega
  | ⟨1, _⟩ => show win0_2.index t (1 : Fin 2) * 3456 + 1 * n.val = n.val; rw [idx2]; show 0 * 3456 + 1 * n.val = _; omega
theorem emb3 (t : Fin cfg0.N) (k : Fin 128) (n : Fin 128) : ((cfg0.win 3).blk t).view.emb (ix2 k n) = ix2 k n := by
  funext a; apply Fin.ext
  match a with
  | ⟨0, _⟩ => show win0_3.index t (0 : Fin 2) * 128 + 1 * k.val = k.val; rw [idx3]; show 0 * 128 + 1 * k.val = _; omega
  | ⟨1, _⟩ => show win0_3.index t (1 : Fin 2) * 128 + 1 * n.val = n.val; rw [idx3]; show 0 * 128 + 1 * n.val = _; omega
theorem emb4 (t : Fin cfg0.N) (k : Fin 1) (n : Fin 128) : ((cfg0.win 4).blk t).view.emb (ix2 k n) = ix2 k n := by
  funext a; apply Fin.ext
  match a with
  | ⟨0, _⟩ => show win0_4.index t (0 : Fin 2) * 1 + 1 * k.val = k.val; rw [idx4]; show 0 * 1 + 1 * k.val = _; omega
  | ⟨1, _⟩ => show win0_4.index t (1 : Fin 2) * 128 + 1 * n.val = n.val; rw [idx4]; show 0 * 128 + 1 * n.val = _; omega
theorem emb5 (t : Fin cfg0.N) (k : Fin 1) (n : Fin 128) : ((cfg0.win 5).blk t).view.emb (ix2 k n) = ix2 k n := by
  funext a; apply Fin.ext
  match a with
  | ⟨0, _⟩ => show win0_5.index t (0 : Fin 2) * 1 + 1 * k.val = k.val; rw [idx5]; show 0 * 1 + 1 * k.val = _; omega
  | ⟨1, _⟩ => show win0_5.index t (1 : Fin 2) * 128 + 1 * n.val = n.val; rw [idx5]; show 0 * 128 + 1 * n.val = _; omega
theorem emb6 (t : Fin cfg0.N) (k : Fin 1) (n : Fin 128) : ((cfg0.win 6).blk t).view.emb (ix2 k n) = ix2 k n := by
  funext a; apply Fin.ext
  match a with
  | ⟨0, _⟩ => show win0_6.index t (0 : Fin 2) * 1 + 1 * k.val = k.val; rw [idx6]; show 0 * 1 + 1 * k.val = _; omega
  | ⟨1, _⟩ => show win0_6.index t (1 : Fin 2) * 128 + 1 * n.val = n.val; rw [idx6]; show 0 * 128 + 1 * n.val = _; omega
theorem emb7 (t : Fin cfg0.N) (r : Fin 256) (n : Fin 512) : ((cfg0.win 7).blk t).view.emb (ix2 r n) = ix2 (rowOf t r) n := by
  funext a; apply Fin.ext
  match a with
  | ⟨0, _⟩ => show win0_7.index t (0 : Fin 2) * 256 + 1 * r.val = 256 * t.val + r.val; rw [idx7]; show t.val * 256 + 1 * r.val = _; omega
  | ⟨1, _⟩ => show win0_7.index t (1 : Fin 2) * 512 + 1 * n.val = n.val; rw [idx7]; show 0 * 512 + 1 * n.val = _; omega
theorem emb8 (t : Fin cfg0.N) (r : Fin 256) (n : Fin 128) : ((cfg0.win 8).blk t).view.emb (ix2 r n) = ix2 (rowOf t r) n := by
  funext a; apply Fin.ext
  match a with
  | ⟨0, _⟩ => show win0_8.index t (0 : Fin 2) * 256 + 1 * r.val = 256 * t.val + r.val; rw [idx8]; show t.val * 256 + 1 * r.val = _; omega
  | ⟨1, _⟩ => show win0_8.index t (1 : Fin 2) * 128 + 1 * n.val = n.val; rw [idx8]; show 0 * 128 + 1 * n.val = _; omega
theorem emb9 (t : Fin cfg0.N) (r : Fin 256) (n : Fin 128) : ((cfg0.win 9).blk t).view.emb (ix2 r n) = ix2 (rowOf t r) n := by
  funext a; apply Fin.ext
  match a with
  | ⟨0, _⟩ => show win0_9.index t (0 : Fin 2) * 256 + 1 * r.val = 256 * t.val + r.val; rw [idx9]; show t.val * 256 + 1 * r.val = _; omega
  | ⟨1, _⟩ => show win0_9.index t (1 : Fin 2) * 128 + 1 * n.val = n.val; rw [idx9]; show 0 * 128 + 1 * n.val = _; omega
theorem emb10 (t : Fin cfg0.N) (r : Fin 256) (n : Fin 128) : ((cfg0.win 10).blk t).view.emb (ix2 r n) = ix2 (rowOf t r) n := by
  funext a; apply Fin.ext
  match a with
  | ⟨0, _⟩ => show win0_10.index t (0 : Fin 2) * 256 + 1 * r.val = 256 * t.val + r.val; rw [idx10]; show t.val * 256 + 1 * r.val = _; omega
  | ⟨1, _⟩ => show win0_10.index t (1 : Fin 2) * 128 + 1 * n.val = n.val; rw [idx10]; show 0 * 128 + 1 * n.val = _; omega
theorem emb11 (t : Fin cfg0.N) (r : Fin 256) (n : Fin 128) : ((cfg0.win 11).blk t).view.emb (ix2 r n) = ix2 (rowOf t r) n := by
  funext a; apply Fin.ext
  match a with
  | ⟨0, _⟩ => show win0_11.index t (0 : Fin 2) * 256 + 1 * r.val = 256 * t.val + r.val; rw [idx11]; show t.val * 256 + 1 * r.val = _; omega
  | ⟨1, _⟩ => show win0_11.index t (1 : Fin 2) * 128 + 1 * n.val = n.val; rw [idx11]; show 0 * 128 + 1 * n.val = _; omega
theorem emb12 (t : Fin cfg0.N) (r : Fin 256) (n : Fin 128) : ((cfg0.win 12).blk t).view.emb (ix2 r n) = ix2 (rowOf t r) n := by
  funext a; apply Fin.ext
  match a with
  | ⟨0, _⟩ => show win0_12.index t (0 : Fin 2) * 256 + 1 * r.val = 256 * t.val + r.val; rw [idx12]; show t.val * 256 + 1 * r.val = _; omega
  | ⟨1, _⟩ => show win0_12.index t (1 : Fin 2) * 128 + 1 * n.val = n.val; rw [idx12]; show 0 * 128 + 1 * n.val = _; omega
theorem emb13 (t : Fin cfg0.N) (r : Fin 256) (n : Fin 128) : ((cfg0.win 13).blk t).view.emb (ix2 r n) = ix2 (rowOf t r) n := by
  funext a; apply Fin.ext
  match a with
  | ⟨0, _⟩ => show win0_13.index t (0 : Fin 2) * 256 + 1 * r.val = 256 * t.val + r.val; rw [idx13]; show t.val * 256 + 1 * r.val = _; omega
  | ⟨1, _⟩ => show win0_13.index t (1 : Fin 2) * 128 + 1 * n.val = n.val; rw [idx13]; show 0 * 128 + 1 * n.val = _; omega
theorem emb14 (t : Fin cfg0.N) (r : Fin 256) (n : Fin 128) : ((cfg0.win 14).blk t).view.emb (ix2 r n) = ix2 (rowOf t r) n := by
  funext a; apply Fin.ext
  match a with
  | ⟨0, _⟩ => show win0_14.index t (0 : Fin 2) * 256 + 1 * r.val = 256 * t.val + r.val; rw [idx14]; show t.val * 256 + 1 * r.val = _; omega
  | ⟨1, _⟩ => show win0_14.index t (1 : Fin 2) * 128 + 1 * n.val = n.val; rw [idx14]; show 0 * 128 + 1 * n.val = _; omega
theorem emb15 (t : Fin cfg0.N) (r : Fin 256) (n : Fin 2048) : ((cfg0.win 15).blk t).view.emb (ix2 r n) = ix2 (rowOf t r) n := by
  funext a; apply Fin.ext
  match a with
  | ⟨0, _⟩ => show win0_15.index t (0 : Fin 2) * 256 + 1 * r.val = 256 * t.val + r.val; rw [idx15]; show t.val * 256 + 1 * r.val = _; omega
  | ⟨1, _⟩ => show win0_15.index t (1 : Fin 2) * 2048 + 1 * n.val = n.val; rw [idx15]; show 0 * 2048 + 1 * n.val = _; omega

theorem blk0 (c : Dev nD) (t : Fin cfg0.N) (r : Fin 256) (n : Fin 1024) : iblk m c 0 t (ix2 r n) = argX m c (rowOf t r) n := by
  show V m c main_v20 (((cfg0.win 0).blk t).view.emb (ix2 r n)) = _; rw [emb0, entry20]
theorem blk1 (c : Dev nD) (t : Fin cfg0.N) (n : Fin 1024) : iblk m c 1 t (ix2 0 n) = argG m c n := by
  show V m c main_v22 (((cfg0.win 1).blk t).view.emb (ix2 0 n)) = _; rw [emb1, entry22]
theorem blk2 (c : Dev nD) (t : Fin cfg0.N) (k : Fin 1024) (n : Fin 3456) : iblk m c 2 t (ix2 k n) = argP m c k n := by
  show V m c main_v12 (((cfg0.win 2).blk t).view.emb (ix2 k n)) = _; rw [emb2, entry12]
theorem blk3 (c : Dev nD) (t : Fin cfg0.N) (k j : Fin 128) : iblk m c 3 t (ix2 k j) = if k.val / 64 = j.val / 64 then (1 : EReal) else 0 := by
  show V m c main_cst (((cfg0.win 3).blk t).view.emb (ix2 k j)) = _; rw [emb3, entryCst]
theorem blk4 (c : Dev nD) (t : Fin cfg0.N) (j : Fin 128) : iblk m c 4 t (ix2 0 j) = argQ m c ⟨j.val % 64, by omega⟩ * Ideal.ofBits .f32 0x3E000000#32 := by
  show V m c main_v19 (((cfg0.win 4).blk t).view.emb (ix2 0 j)) = _; rw [emb4, entry19]
theorem blk5 (c : Dev nD) (t : Fin cfg0.N) (j : Fin 128) : iblk m c 5 t (ix2 0 j) = argK m c 1 ⟨j.val % 64, by omega⟩ := by
  show V m c main_v28 (((cfg0.win 5).blk t).view.emb (ix2 0 j)) = _; rw [emb5, entry28]
theorem blk6 (c : Dev nD) (t : Fin cfg0.N) (j : Fin 128) : iblk m c 6 t (ix2 0 j) = argK m c 2 ⟨j.val % 64, by omega⟩ := by
  show V m c main_v34 (((cfg0.win 6).blk t).view.emb (ix2 0 j)) = _; rw [emb6, entry34]

/-- A row projected on one of the call's columns. -/
def Y (c : Dev nD) (R : Fin 16384) (n : Fin 3456) : EReal := Spec.proj (argX m c R) (argG m c) fun k => argP m c k n

theorem y_at (c : Dev nD) (t : Fin cfg0.N) (r : Fin 256) (n : Fin 3456) : k0_pay2 (iblk m c 0 t) (iblk m c 1 t) (iblk m c 2 t) (ix2 r n) = Y m c (rowOf t r) n := by
  refine (proj_read _ _ _ r n).trans ?_
  unfold Y
  simp only [blk0, blk1, blk2]

/-- The table's column of the pair's own head. -/
def own (j k : Fin 128) : EReal := if k.val / 64 = j.val / 64 then 1 else 0

/-! ## The result arrays -/

def G7 (c : Dev nD) : FVec Ideal S16384x512 .bf16 := fun i =>
  Spec.pairNorm (fun k => Y m c (i 0) ⟨128 * ((i 1).val / 128) + k.val, by have h : (i 1).val < 512 := (i 1).isLt; omega⟩) (own ⟨(i 1).val % 128, by omega⟩)
    (argQ m c ⟨(i 1).val % 128 % 64, by omega⟩ * Ideal.ofBits .f32 0x3E000000#32) (Y m c (i 0) ⟨(i 1).val, by have h : (i 1).val < 512 := (i 1).isLt; omega⟩)
def G8 (c : Dev nD) : FVec Ideal S16384x128 .f32 := fun i => Y m c (i 0) (at128 512 (by decide) (i 1))
def G9 (c : Dev nD) : FVec Ideal S16384x128 .f32 := fun i => Y m c (i 0) (at128 640 (by decide) (i 1))
def G10 (c : Dev nD) : FVec Ideal S16384x128 .bf16 := fun i => Spec.pairNorm (fun k => Y m c (i 0) (at128 768 (by decide) k)) (own (i 1)) (argK m c 1 ⟨(i 1).val % 64, by omega⟩) (Y m c (i 0) (at128 768 (by decide) (i 1)))
def G11 (c : Dev nD) : FVec Ideal S16384x128 .bf16 := fun i => Y m c (i 0) (at128 896 (by decide) (i 1))
def G12 (c : Dev nD) : FVec Ideal S16384x128 .bf16 := fun i => Spec.pairNorm (fun k => Y m c (i 0) (at128 1024 (by decide) k)) (own (i 1)) (argK m c 2 ⟨(i 1).val % 64, by omega⟩) (Y m c (i 0) (at128 1024 (by decide) (i 1)))
def G13 (c : Dev nD) : FVec Ideal S16384x128 .bf16 := fun i => Y m c (i 0) (at128 1152 (by decide) (i 1))
def G14 (c : Dev nD) : FVec Ideal S16384x128 .f32 := fun i => Ideal.logistic (Y m c (i 0) (at128 3328 (by decide) (i 1)))
def G15 (c : Dev nD) : FVec Ideal S16384x2048 .f32 := fun i => Y m c (i 0) ⟨1280 + (i 1).val, by have h : (i 1).val < 2048 := (i 1).isLt; omega⟩

theorem flushed7_eq (c : Dev nD) (t : Fin cfg0.N) : (dats m 0 c).flushed 7 t = ((cfg0.win 7).blk t).view.read (Elt Ideal) (G7 m c) := by
  rw [flushed7]
  funext i
  obtain ⟨r, n, rfl⟩ : ∃ (r : Fin 256) (n : Fin 512), i = ix2 r n := ⟨i 0, i 1, (ix2_eta i).symm⟩
  show out0_7 (F := Ideal) _ _ _ _ _ _ _ (ix2 r n) = G7 m c (((cfg0.win 7).blk t).view.emb (ix2 r n))
  rw [emb7, out7_at]
  unfold pairAt
  simp only [y_at, blk3, blk4]
  rfl

theorem flushed8_eq (c : Dev nD) (t : Fin cfg0.N) : (dats m 0 c).flushed 8 t = ((cfg0.win 8).blk t).view.read (Elt Ideal) (G8 m c) := by
  rw [flushed8, out8_eq]
  funext i
  obtain ⟨r, n, rfl⟩ : ∃ (r : Fin 256) (n : Fin 128), i = ix2 r n := ⟨i 0, i 1, (ix2_eta i).symm⟩
  show (k0_pay7 (k0_pay2 _ _ _)) (ix2 r n) = G8 m c (((cfg0.win 8).blk t).view.emb (ix2 r n))
  rw [emb8, kc_read]
  simp only [y_at]
  rfl

theorem flushed9_eq (c : Dev nD) (t : Fin cfg0.N) : (dats m 0 c).flushed 9 t = ((cfg0.win 9).blk t).view.read (Elt Ideal) (G9 m c) := by
  rw [flushed9, out9_eq]
  funext i
  obtain ⟨r, n, rfl⟩ : ∃ (r : Fin 256) (n : Fin 128), i = ix2 r n := ⟨i 0, i 1, (ix2_eta i).symm⟩
  show (k0_pay8 (k0_pay2 _ _ _)) (ix2 r n) = G9 m c (((cfg0.win 9).blk t).view.emb (ix2 r n))
  rw [emb9, vc_read]
  simp only [y_at]
  rfl

theorem flushed10_eq (c : Dev nD) (t : Fin cfg0.N) : (dats m 0 c).flushed 10 t = ((cfg0.win 10).blk t).view.read (Elt Ideal) (G10 m c) := by
  rw [flushed10, out10_eq]
  funext i
  obtain ⟨r, n, rfl⟩ : ∃ (r : Fin 256) (n : Fin 128), i = ix2 r n := ⟨i 0, i 1, (ix2_eta i).symm⟩
  show (k0_pay12 (k0_pay9 (k0_pay2 _ _ _)) (k0_pay10 _) (k0_pay11 (k0_pay2 _ _ _) _) (Scalar.ofBits .f32 0x3C800000#32)) (ix2 r n) = G10 m c (((cfg0.win 10).blk t).view.emb (ix2 r n))
  rw [emb10, ks_read]
  simp only [y_at, blk3, blk5]
  rfl

theorem flushed11_eq (c : Dev nD) (t : Fin cfg0.N) : (dats m 0 c).flushed 11 t = ((cfg0.win 11).blk t).view.read (Elt Ideal) (G11 m c) := by
  rw [flushed11, out11_eq]
  funext i
  obtain ⟨r, n, rfl⟩ : ∃ (r : Fin 256) (n : Fin 128), i = ix2 r n := ⟨i 0, i 1, (ix2_eta i).symm⟩
  show (k0_pay13 (k0_pay2 _ _ _)) (ix2 r n) = G11 m c (((cfg0.win 11).blk t).view.emb (ix2 r n))
  rw [emb11, vs_read]
  simp only [y_at]
  rfl

theorem flushed12_eq (c : Dev nD) (t : Fin cfg0.N) : (dats m 0 c).flushed 12 t = ((cfg0.win 12).blk t).view.read (Elt Ideal) (G12 m c) := by
  rw [flushed12, out12_eq]
  funext i
  obtain ⟨r, n, rfl⟩ : ∃ (r : Fin 256) (n : Fin 128), i = ix2 r n := ⟨i 0, i 1, (ix2_eta i).symm⟩
  show (k0_pay14 (k0_pay2 _ _ _) _ _) (ix2 r n) = G12 m c (((cfg0.win 12).blk t).view.emb (ix2 r n))
  rw [emb12, kw_read]
  simp only [y_at, blk3, blk6]
  rfl

theorem flushed13_eq (c : Dev nD) (t : Fin cfg0.N) : (dats m 0 c).flushed 13 t = ((cfg0.win 13).blk t).view.read (Elt Ideal) (G13 m c) := by
  rw [flushed13, out13_eq]
  funext i
  obtain ⟨r, n, rfl⟩ : ∃ (r : Fin 256) (n : Fin 128), i = ix2 r n := ⟨i 0, i 1, (ix2_eta i).symm⟩
  show (k0_pay15 (k0_pay2 _ _ _)) (ix2 r n) = G13 m c (((cfg0.win 13).blk t).view.emb (ix2 r n))
  rw [emb13, vw_read]
  simp only [y_at]
  rfl

theorem flushed14_eq (c : Dev nD) (t : Fin cfg0.N) : (dats m 0 c).flushed 14 t = ((cfg0.win 14).blk t).view.read (Elt Ideal) (G14 m c) := by
  rw [flushed14, out14_eq]
  funext i
  obtain ⟨r, n, rfl⟩ : ∃ (r : Fin 256) (n : Fin 128), i = ix2 r n := ⟨i 0, i 1, (ix2_eta i).symm⟩
  show (k0_pay1 (k0_pay2 _ _ _)) (ix2 r n) = G14 m c (((cfg0.win 14).blk t).view.emb (ix2 r n))
  rw [emb14, gate_read]
  simp only [y_at]
  rfl

theorem flushed15_eq (c : Dev nD) (t : Fin cfg0.N) : (dats m 0 c).flushed 15 t = ((cfg0.win 15).blk t).view.read (Elt Ideal) (G15 m c) := by
  rw [flushed15, out15_eq]
  funext i
  obtain ⟨r, n, rfl⟩ : ∃ (r : Fin 256) (n : Fin 2048), i = ix2 r n := ⟨i 0, i 1, (ix2_eta i).symm⟩
  show (k0_pay16 (k0_pay2 _ _ _)) (ix2 r n) = G15 m c (((cfg0.win 15).blk t).view.emb (ix2 r n))
  rw [emb15, ph_read]
  simp only [y_at]
  rfl

theorem covered7 (i : S16384x512.Idx) : ∃ t : Fin cfg0.N, (cfg0.win 7).flush t = true ∧ i ∈ ((cfg0.win 7).blk t).view.set := by
  obtain ⟨R, n, rfl⟩ : ∃ (R : Fin 16384) (n : Fin 512), i = ix2 R n := ⟨i 0, i 1, (ix2_eta i).symm⟩
  have hR : R.val / 256 < cfg0.N := by show R.val / 256 < 64; omega
  refine ⟨⟨R.val / 256, hR⟩, flush0_7 _, ?_⟩
  have h := ((cfg0.win 7).blk ⟨R.val / 256, hR⟩).view.emb_mem_set (ix2 (⟨R.val % 256, by omega⟩ : Fin 256) n)
  rw [emb7] at h
  have e : rowOf ⟨R.val / 256, hR⟩ ⟨R.val % 256, by omega⟩ = R := Fin.ext (by show 256 * (R.val / 256) + R.val % 256 = R.val; omega)
  rwa [e] at h
theorem final7 (c : Dev nD) : (dats m 0 c).arrAt 7 cfg0.N = G7 m c :=
  (dats m 0 c).arrAt_eq_of_cover 7 (G7 m c) (fun t _ => flushed7_eq m c t) covered7

theorem covered8 (i : S16384x128.Idx) : ∃ t : Fin cfg0.N, (cfg0.win 8).flush t = true ∧ i ∈ ((cfg0.win 8).blk t).view.set := by
  obtain ⟨R, n, rfl⟩ : ∃ (R : Fin 16384) (n : Fin 128), i = ix2 R n := ⟨i 0, i 1, (ix2_eta i).symm⟩
  have hR : R.val / 256 < cfg0.N := by show R.val / 256 < 64; omega
  refine ⟨⟨R.val / 256, hR⟩, flush0_8 _, ?_⟩
  have h := ((cfg0.win 8).blk ⟨R.val / 256, hR⟩).view.emb_mem_set (ix2 (⟨R.val % 256, by omega⟩ : Fin 256) n)
  rw [emb8] at h
  have e : rowOf ⟨R.val / 256, hR⟩ ⟨R.val % 256, by omega⟩ = R := Fin.ext (by show 256 * (R.val / 256) + R.val % 256 = R.val; omega)
  rwa [e] at h
theorem final8 (c : Dev nD) : (dats m 0 c).arrAt 8 cfg0.N = G8 m c :=
  (dats m 0 c).arrAt_eq_of_cover 8 (G8 m c) (fun t _ => flushed8_eq m c t) covered8

theorem covered9 (i : S16384x128.Idx) : ∃ t : Fin cfg0.N, (cfg0.win 9).flush t = true ∧ i ∈ ((cfg0.win 9).blk t).view.set := by
  obtain ⟨R, n, rfl⟩ : ∃ (R : Fin 16384) (n : Fin 128), i = ix2 R n := ⟨i 0, i 1, (ix2_eta i).symm⟩
  have hR : R.val / 256 < cfg0.N := by show R.val / 256 < 64; omega
  refine ⟨⟨R.val / 256, hR⟩, flush0_9 _, ?_⟩
  have h := ((cfg0.win 9).blk ⟨R.val / 256, hR⟩).view.emb_mem_set (ix2 (⟨R.val % 256, by omega⟩ : Fin 256) n)
  rw [emb9] at h
  have e : rowOf ⟨R.val / 256, hR⟩ ⟨R.val % 256, by omega⟩ = R := Fin.ext (by show 256 * (R.val / 256) + R.val % 256 = R.val; omega)
  rwa [e] at h
theorem final9 (c : Dev nD) : (dats m 0 c).arrAt 9 cfg0.N = G9 m c :=
  (dats m 0 c).arrAt_eq_of_cover 9 (G9 m c) (fun t _ => flushed9_eq m c t) covered9

theorem covered10 (i : S16384x128.Idx) : ∃ t : Fin cfg0.N, (cfg0.win 10).flush t = true ∧ i ∈ ((cfg0.win 10).blk t).view.set := by
  obtain ⟨R, n, rfl⟩ : ∃ (R : Fin 16384) (n : Fin 128), i = ix2 R n := ⟨i 0, i 1, (ix2_eta i).symm⟩
  have hR : R.val / 256 < cfg0.N := by show R.val / 256 < 64; omega
  refine ⟨⟨R.val / 256, hR⟩, flush0_10 _, ?_⟩
  have h := ((cfg0.win 10).blk ⟨R.val / 256, hR⟩).view.emb_mem_set (ix2 (⟨R.val % 256, by omega⟩ : Fin 256) n)
  rw [emb10] at h
  have e : rowOf ⟨R.val / 256, hR⟩ ⟨R.val % 256, by omega⟩ = R := Fin.ext (by show 256 * (R.val / 256) + R.val % 256 = R.val; omega)
  rwa [e] at h
theorem final10 (c : Dev nD) : (dats m 0 c).arrAt 10 cfg0.N = G10 m c :=
  (dats m 0 c).arrAt_eq_of_cover 10 (G10 m c) (fun t _ => flushed10_eq m c t) covered10

theorem covered11 (i : S16384x128.Idx) : ∃ t : Fin cfg0.N, (cfg0.win 11).flush t = true ∧ i ∈ ((cfg0.win 11).blk t).view.set := by
  obtain ⟨R, n, rfl⟩ : ∃ (R : Fin 16384) (n : Fin 128), i = ix2 R n := ⟨i 0, i 1, (ix2_eta i).symm⟩
  have hR : R.val / 256 < cfg0.N := by show R.val / 256 < 64; omega
  refine ⟨⟨R.val / 256, hR⟩, flush0_11 _, ?_⟩
  have h := ((cfg0.win 11).blk ⟨R.val / 256, hR⟩).view.emb_mem_set (ix2 (⟨R.val % 256, by omega⟩ : Fin 256) n)
  rw [emb11] at h
  have e : rowOf ⟨R.val / 256, hR⟩ ⟨R.val % 256, by omega⟩ = R := Fin.ext (by show 256 * (R.val / 256) + R.val % 256 = R.val; omega)
  rwa [e] at h
theorem final11 (c : Dev nD) : (dats m 0 c).arrAt 11 cfg0.N = G11 m c :=
  (dats m 0 c).arrAt_eq_of_cover 11 (G11 m c) (fun t _ => flushed11_eq m c t) covered11

theorem covered12 (i : S16384x128.Idx) : ∃ t : Fin cfg0.N, (cfg0.win 12).flush t = true ∧ i ∈ ((cfg0.win 12).blk t).view.set := by
  obtain ⟨R, n, rfl⟩ : ∃ (R : Fin 16384) (n : Fin 128), i = ix2 R n := ⟨i 0, i 1, (ix2_eta i).symm⟩
  have hR : R.val / 256 < cfg0.N := by show R.val / 256 < 64; omega
  refine ⟨⟨R.val / 256, hR⟩, flush0_12 _, ?_⟩
  have h := ((cfg0.win 12).blk ⟨R.val / 256, hR⟩).view.emb_mem_set (ix2 (⟨R.val % 256, by omega⟩ : Fin 256) n)
  rw [emb12] at h
  have e : rowOf ⟨R.val / 256, hR⟩ ⟨R.val % 256, by omega⟩ = R := Fin.ext (by show 256 * (R.val / 256) + R.val % 256 = R.val; omega)
  rwa [e] at h
theorem final12 (c : Dev nD) : (dats m 0 c).arrAt 12 cfg0.N = G12 m c :=
  (dats m 0 c).arrAt_eq_of_cover 12 (G12 m c) (fun t _ => flushed12_eq m c t) covered12

theorem covered13 (i : S16384x128.Idx) : ∃ t : Fin cfg0.N, (cfg0.win 13).flush t = true ∧ i ∈ ((cfg0.win 13).blk t).view.set := by
  obtain ⟨R, n, rfl⟩ : ∃ (R : Fin 16384) (n : Fin 128), i = ix2 R n := ⟨i 0, i 1, (ix2_eta i).symm⟩
  have hR : R.val / 256 < cfg0.N := by show R.val / 256 < 64; omega
  refine ⟨⟨R.val / 256, hR⟩, flush0_13 _, ?_⟩
  have h := ((cfg0.win 13).blk ⟨R.val / 256, hR⟩).view.emb_mem_set (ix2 (⟨R.val % 256, by omega⟩ : Fin 256) n)
  rw [emb13] at h
  have e : rowOf ⟨R.val / 256, hR⟩ ⟨R.val % 256, by omega⟩ = R := Fin.ext (by show 256 * (R.val / 256) + R.val % 256 = R.val; omega)
  rwa [e] at h
theorem final13 (c : Dev nD) : (dats m 0 c).arrAt 13 cfg0.N = G13 m c :=
  (dats m 0 c).arrAt_eq_of_cover 13 (G13 m c) (fun t _ => flushed13_eq m c t) covered13

theorem covered14 (i : S16384x128.Idx) : ∃ t : Fin cfg0.N, (cfg0.win 14).flush t = true ∧ i ∈ ((cfg0.win 14).blk t).view.set := by
  obtain ⟨R, n, rfl⟩ : ∃ (R : Fin 16384) (n : Fin 128), i = ix2 R n := ⟨i 0, i 1, (ix2_eta i).symm⟩
  have hR : R.val / 256 < cfg0.N := by show R.val / 256 < 64; omega
  refine ⟨⟨R.val / 256, hR⟩, flush0_14 _, ?_⟩
  have h := ((cfg0.win 14).blk ⟨R.val / 256, hR⟩).view.emb_mem_set (ix2 (⟨R.val % 256, by omega⟩ : Fin 256) n)
  rw [emb14] at h
  have e : rowOf ⟨R.val / 256, hR⟩ ⟨R.val % 256, by omega⟩ = R := Fin.ext (by show 256 * (R.val / 256) + R.val % 256 = R.val; omega)
  rwa [e] at h
theorem final14 (c : Dev nD) : (dats m 0 c).arrAt 14 cfg0.N = G14 m c :=
  (dats m 0 c).arrAt_eq_of_cover 14 (G14 m c) (fun t _ => flushed14_eq m c t) covered14

theorem covered15 (i : S16384x2048.Idx) : ∃ t : Fin cfg0.N, (cfg0.win 15).flush t = true ∧ i ∈ ((cfg0.win 15).blk t).view.set := by
  obtain ⟨R, n, rfl⟩ : ∃ (R : Fin 16384) (n : Fin 2048), i = ix2 R n := ⟨i 0, i 1, (ix2_eta i).symm⟩
  have hR : R.val / 256 < cfg0.N := by show R.val / 256 < 64; omega
  refine ⟨⟨R.val / 256, hR⟩, flush0_15 _, ?_⟩
  have h := ((cfg0.win 15).blk ⟨R.val / 256, hR⟩).view.emb_mem_set (ix2 (⟨R.val % 256, by omega⟩ : Fin 256) n)
  rw [emb15] at h
  have e : rowOf ⟨R.val / 256, hR⟩ ⟨R.val % 256, by omega⟩ = R := Fin.ext (by show 256 * (R.val / 256) + R.val % 256 = R.val; omega)
  rwa [e] at h
theorem final15 (c : Dev nD) : (dats m 0 c).arrAt 15 cfg0.N = G15 m c :=
  (dats m 0 c).arrAt_eq_of_cover 15 (G15 m c) (fun t _ => flushed15_eq m c t) covered15

end Cert.Proj
-- ==== Proof.ProjReference.lean ====
module

public import proofs.«01_k».proof.Proof.Gen.Reference3Ideal.Run
public import proofs.«01_k».proof.Proof.ProjSpec

/-! The input projection's reference, stage by stage, read at an index. -/

@[expose] public section

set_option maxRecDepth 16384

noncomputable section

namespace Cert.ProjRef

open Cert.Proj Cert.Reference3Ideal Cert.Reference3Ideal.Gen Cert.Reference3Ideal.Value Idealize.ShloMosaic Idealize.ShloMosaic.TcCoe Idealize.SL.Sem

/-! ## The stages -/

/-- The normed rows projected on all columns. -/
def projAll (x : FVec Ideal S2x8192x1024 .f32) (g : FVec Ideal S1x1024 .f32) (w : FVec Ideal S1x1024x3352 .f32) : FVec Ideal S2x8192x3352 .f32 :=
  Host.dotGeneral dot_S2x8192x1024_S1024x3352_S2x8192x3352_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) (shapeCast _ w shapeCasts_S1x1024x3352_S1024x3352)

/-- The eight query heads normed, and the keys' two. -/
def norm8 (u : FVec Ideal S2x8192x8x64 .f32) (g : FVec Ideal S64 .f32) : FVec Ideal S2x8192x8x64 .f32 :=
  mulf (mulf u (broadcastInDim S2x8192x8x64 ![0, 1, 2, 3] bcast_S2x8192x8x1_S2x8192x8x64_0_1_2_3 (Host.rsqrt (addf (Host.divf (broadcastInDim S2x8192x8x1 ![0, 1, 2] bcast_S2x8192x8_S2x8192x8x1_0_1_2 (Host.reduceAdd (mulf u u) (constant S_ .f32 0x00000000#32) reducesTo_S2x8192x8x64_S2x8192x8_d3 h_S_)) (broadcastInDim S2x8192x8x1 ![] bcast_S_S2x8192x8x1 (constant S_ .f32 0x42800000#32))) (broadcastInDim S2x8192x8x1 ![] bcast_S_S2x8192x8x1 (constant S_ .f32 0x358637BD#32)))))) (broadcastInDim S2x8192x8x64 ![0, 1, 2, 3] bcast_S1x1x1x64_S2x8192x8x64_0_1_2_3 (broadcastInDim S1x1x1x64 ![3] bcast_S64_S1x1x1x64_3 g))
def norm2 (u : FVec Ideal S2x8192x2x64 .f32) (g : FVec Ideal S64 .f32) : FVec Ideal S2x8192x2x64 .f32 :=
  mulf (mulf u (broadcastInDim S2x8192x2x64 ![0, 1, 2, 3] bcast_S2x8192x2x1_S2x8192x2x64_0_1_2_3 (Host.rsqrt (addf (Host.divf (broadcastInDim S2x8192x2x1 ![0, 1, 2] bcast_S2x8192x2_S2x8192x2x1_0_1_2 (Host.reduceAdd (mulf u u) (constant S_ .f32 0x00000000#32) reducesTo_S2x8192x2x64_S2x8192x2_d3 h_S_)) (broadcastInDim S2x8192x2x1 ![] bcast_S_S2x8192x2x1 (constant S_ .f32 0x42800000#32))) (broadcastInDim S2x8192x2x1 ![] bcast_S_S2x8192x2x1 (constant S_ .f32 0x358637BD#32)))))) (broadcastInDim S2x8192x2x64 ![0, 1, 2, 3] bcast_S1x1x1x64_S2x8192x2x64_0_1_2_3 (broadcastInDim S1x1x1x64 ![3] bcast_S64_S1x1x1x64_3 g))

/-- The queries' columns as heads, and the normed heads scaled, two by two, as rows. -/
def heads (p : FVec Ideal S2x8192x3352 .f32) : FVec Ideal S2x8192x8x64 .f32 :=
  shapeCast _ (extractStridedSlice S2x8192x512 ![0, 0, 0] p slices_S2x8192x3352_S2x8192x512_0_0_0) shapeCasts_S2x8192x512_S2x8192x8x64
def queries (u : FVec Ideal S2x8192x8x64 .f32) : FVec Ideal S16384x512 .bf16 :=
  truncf .bf16 (shapeCast _ (transpose S2x8192x4x2x64 [0, 1, 3, 2, 4] (shapeCast _ (mulf u (broadcastInDim S2x8192x8x64 ![] bcast_S_S2x8192x8x64 (constant S_ .f32 0x3E000000#32))) shapeCasts_S2x8192x8x64_S2x8192x2x4x64) transposes_S2x8192x2x4x64_S2x8192x4x2x64_0_1_3_2_4) shapeCasts_S2x8192x4x2x64_S16384x512) bitsLt_bf16_f32

def keys768 (p : FVec Ideal S2x8192x3352 .f32) : FVec Ideal S2x8192x2x64 .f32 :=
  shapeCast _ (extractStridedSlice S2x8192x128 ![0, 0, 768] p slices_S2x8192x3352_S2x8192x128_0_0_768) shapeCasts_S2x8192x128_S2x8192x2x64
def keys1024 (p : FVec Ideal S2x8192x3352 .f32) : FVec Ideal S2x8192x2x64 .f32 :=
  shapeCast _ (extractStridedSlice S2x8192x128 ![0, 0, 1024] p slices_S2x8192x3352_S2x8192x128_0_0_1024) shapeCasts_S2x8192x128_S2x8192x2x64
def keyRows (u : FVec Ideal S2x8192x2x64 .f32) : FVec Ideal S16384x128 .bf16 :=
  truncf .bf16 (shapeCast _ u shapeCasts_S2x8192x2x64_S16384x128) bitsLt_bf16_f32

/-- The gains of the queries' heads and of the two keys'. -/
def gainsQ (q : FVec Ideal S1x64 .f32) : FVec Ideal S64 .f32 := shapeCast _ q shapeCasts_S1x64_S64
def gains1 (k : FVec Ideal S1x3x64 .f32) : FVec Ideal S64 .f32 := shapeCast _ (extractStridedSlice S1x1x64 ![0, 1, 0] k slices_S1x3x64_S1x1x64_0_1_0) shapeCasts_S1x1x64_S64
def gains2 (k : FVec Ideal S1x3x64 .f32) : FVec Ideal S64 .f32 := shapeCast _ (extractStridedSlice S1x1x64 ![0, 2, 0] k slices_S1x3x64_S1x1x64_0_2_0) shapeCasts_S1x1x64_S64

/-- 128 of the columns as rows, and the gates' and the recurrence's. -/
def rows512 (p : FVec Ideal S2x8192x3352 .f32) : FVec Ideal S16384x128 .f32 :=
  shapeCast _ (extractStridedSlice S2x8192x128 ![0, 0, 512] p slices_S2x8192x3352_S2x8192x128_0_0_512) shapeCasts_S2x8192x128_S16384x128
def rows640 (p : FVec Ideal S2x8192x3352 .f32) : FVec Ideal S16384x128 .f32 :=
  shapeCast _ (extractStridedSlice S2x8192x128 ![0, 0, 640] p slices_S2x8192x3352_S2x8192x128_0_0_640) shapeCasts_S2x8192x128_S16384x128
def rows896 (p : FVec Ideal S2x8192x3352 .f32) : FVec Ideal S16384x128 .bf16 :=
  truncf .bf16 (shapeCast _ (extractStridedSlice S2x8192x128 ![0, 0, 896] p slices_S2x8192x3352_S2x8192x128_0_0_896) shapeCasts_S2x8192x128_S16384x128) bitsLt_bf16_f32
def rows1152 (p : FVec Ideal S2x8192x3352 .f32) : FVec Ideal S16384x128 .bf16 :=
  truncf .bf16 (shapeCast _ (extractStridedSlice S2x8192x128 ![0, 0, 1152] p slices_S2x8192x3352_S2x8192x128_0_0_1152) shapeCasts_S2x8192x128_S16384x128) bitsLt_bf16_f32
def gates (p : FVec Ideal S2x8192x3352 .f32) : FVec Ideal S16384x128 .f32 :=
  shapeCast _ (Host.divf (broadcastInDim S2x8192x128 ![] bcast_S_S2x8192x128 (constant S_ .f32 0x3F800000#32)) (addf (broadcastInDim S2x8192x128 ![] bcast_S_S2x8192x128 (constant S_ .f32 0x3F800000#32)) (Host.exp (Host.negf (pad S2x8192x128 ![0, 0, 0] ![0, 0, 104] ![0, 0, 0] (extractStridedSlice S2x8192x24 ![0, 0, 1280] p slices_S2x8192x3352_S2x8192x24_0_0_1280) (sitofp .f32 (constantI S_ 32 0#32)) pads_S2x8192x24_S2x8192x128_000_000_01040 h_S_))))) shapeCasts_S2x8192x128_S16384x128
def mixer (p : FVec Ideal S2x8192x3352 .f32) : FVec Ideal S16384x2048 .f32 :=
  shapeCast _ (concatenate S2x8192x2048 2 [⟨S2x8192x512, (extractStridedSlice S2x8192x512 ![0, 0, 1304] p slices_S2x8192x3352_S2x8192x512_0_0_1304)⟩, ⟨S2x8192x512, (extractStridedSlice S2x8192x512 ![0, 0, 1816] p slices_S2x8192x3352_S2x8192x512_0_0_1816)⟩, ⟨S2x8192x512, (extractStridedSlice S2x8192x512 ![0, 0, 2328] p slices_S2x8192x3352_S2x8192x512_0_0_2328)⟩, ⟨S2x8192x512, (extractStridedSlice S2x8192x512 ![0, 0, 2840] p slices_S2x8192x3352_S2x8192x512_0_0_2840)⟩] concatenates_S2x8192x512_S2x8192x512_S2x8192x512_S2x8192x512_S2x8192x2048_d2) shapeCasts_S2x8192x2048_S16384x2048

/-! ## The stages at an index -/

theorem projAll_at (x : FVec Ideal S2x8192x1024 .f32) (g : FVec Ideal S1x1024 .f32) (w : FVec Ideal S1x1024x3352 .f32) (b : Fin 2) (T : Fin 8192) (n : Fin 3352) :
    projAll x g w (ix3 b T n) = Spec.proj (fun k => x (ix3 b T k)) (fun k => g (ix2 0 k)) (fun k => w (ix3 0 k n)) := by
  pointwise [projAll, Spec.proj, Cert.Ffn.Spec.normed]

theorem norm8_at (u : FVec Ideal S2x8192x8x64 .f32) (g : FVec Ideal S64 .f32) (b : Fin 2) (T : Fin 8192) (h : Fin 8) (e : Fin 64) :
    norm8 u g (ix4 b T h e) = Spec.headNorm (fun e => u (ix4 b T h e)) (g (ix1 e)) (u (ix4 b T h e)) := by
  pointwise [norm8, Spec.headNorm]

theorem norm2_at (u : FVec Ideal S2x8192x2x64 .f32) (g : FVec Ideal S64 .f32) (b : Fin 2) (T : Fin 8192) (h : Fin 2) (e : Fin 64) :
    norm2 u g (ix4 b T h e) = Spec.headNorm (fun e => u (ix4 b T h e)) (g (ix1 e)) (u (ix4 b T h e)) := by
  pointwise [norm2, Spec.headNorm]

theorem heads_at (p : FVec Ideal S2x8192x3352 .f32) (b : Fin 2) (T : Fin 8192) (h : Fin 8) (e : Fin 64) :
    heads p (ix4 b T h e) = p (ix3 b T ⟨h.val * 64 + e.val, by omega⟩) := by
  pointwise [heads]

theorem queries_at (u : FVec Ideal S2x8192x8x64 .f32) (R : Fin 16384) (j : Fin 512) :
    queries u (ix2 R j) = u (ix4 (bat R) (pos R) ⟨j.val / 64 % 2 * 4 + j.val / 128, by omega⟩ ⟨j.val % 64, by omega⟩) * Ideal.ofBits .f32 0x3E000000#32 := by
  pointwise [queries, bat, pos]

theorem keys768_at (p : FVec Ideal S2x8192x3352 .f32) (b : Fin 2) (T : Fin 8192) (h : Fin 2) (e : Fin 64) :
    keys768 p (ix4 b T h e) = p (ix3 b T ⟨768 + (h.val * 64 + e.val), by omega⟩) := by
  pointwise [keys768]
theorem keys1024_at (p : FVec Ideal S2x8192x3352 .f32) (b : Fin 2) (T : Fin 8192) (h : Fin 2) (e : Fin 64) :
    keys1024 p (ix4 b T h e) = p (ix3 b T ⟨1024 + (h.val * 64 + e.val), by omega⟩) := by
  pointwise [keys1024]
theorem keyRows_at (u : FVec Ideal S2x8192x2x64 .f32) (R : Fin 16384) (j : Fin 128) :
    keyRows u (ix2 R j) = u (ix4 (bat R) (pos R) ⟨j.val / 64, by omega⟩ ⟨j.val % 64, by omega⟩) := by
  pointwise [keyRows, bat, pos]
theorem gainsQ_at (q : FVec Ideal S1x64 .f32) (e : Fin 64) : gainsQ q (ix1 e) = q (ix2 0 e) := by
  pointwise [gainsQ]
theorem gains1_at (k : FVec Ideal S1x3x64 .f32) (e : Fin 64) : gains1 k (ix1 e) = k (ix3 0 1 e) := by
  pointwise [gains1]
theorem gains2_at (k : FVec Ideal S1x3x64 .f32) (e : Fin 64) : gains2 k (ix1 e) = k (ix3 0 2 e) := by
  pointwise [gains2]

theorem rows512_at (p : FVec Ideal S2x8192x3352 .f32) (R : Fin 16384) (j : Fin 128) : rows512 p (ix2 R j) = p (ix3 (bat R) (pos R) ⟨512 + j.val, by omega⟩) := by
  pointwise [rows512, bat, pos]
theorem rows640_at (p : FVec Ideal S2x8192x3352 .f32) (R : Fin 16384) (j : Fin 128) : rows640 p (ix2 R j) = p (ix3 (bat R) (pos R) ⟨640 + j.val, by omega⟩) := by
  pointwise [rows640, bat, pos]
theorem rows896_at (p : FVec Ideal S2x8192x3352 .f32) (R : Fin 16384) (j : Fin 128) : rows896 p (ix2 R j) = p (ix3 (bat R) (pos R) ⟨896 + j.val, by omega⟩) := by
  pointwise [rows896, bat, pos]
theorem rows1152_at (p : FVec Ideal S2x8192x3352 .f32) (R : Fin 16384) (j : Fin 128) : rows1152 p (ix2 R j) = p (ix3 (bat R) (pos R) ⟨1152 + j.val, by omega⟩) := by
  pointwise [rows1152, bat, pos]

theorem zero_int : (FloatOps.sitofp (F := Ideal) .f32 (0#32) : EReal) = 0 := by
  show (((0#32 : BitVec 32).toInt : ℝ) : EReal) = 0
  simp

/-- A place of an array is its numbers. -/
theorem at_eq (p : FVec Ideal S2x8192x3352 .f32) (b : Fin 2) (T : Fin 8192) {n k : Nat} (hn : n < 3352) (hk : k < 3352) (e : n = k) :
    p (ix3 b T ⟨n, hn⟩) = p (ix3 b T ⟨k, hk⟩) := by
  subst e
  rfl

theorem gates_at (p : FVec Ideal S2x8192x3352 .f32) (R : Fin 16384) (j : Fin 128) :
    gates p (ix2 R j) = Ideal.logistic (if h : j.val < 24 then p (ix3 (bat R) (pos R) ⟨1280 + j.val, by omega⟩) else 0) := by
  by_cases h : j.val < 24
  · rw [dif_pos h]
    pointwise [gates, Ideal.logistic, bat, pos]
    rw [dif_pos (And.intro (by omega : R.val / 8192 < 2) (And.intro (by omega : R.val % 8192 < 8192) h))]
  · rw [dif_neg h]
    pointwise [gates, Ideal.logistic, bat, pos]
    rw [dif_neg (fun q => h q.2.2), zero_int]

theorem mixer_at (p : FVec Ideal S2x8192x3352 .f32) (R : Fin 16384) (j : Fin 2048) :
    mixer p (ix2 R j) = p (ix3 (bat R) (pos R) ⟨1304 + j.val, by omega⟩) := by
  pointwise [mixer, bat, pos]
  by_cases h₁ : j.val < 512
  · rw [dif_pos h₁]
  · rw [dif_neg h₁]
    by_cases h₂ : j.val - 512 < 512
    · rw [dif_pos h₂]
      exact at_eq p _ _ _ _ (by omega)
    · rw [dif_neg h₂]
      by_cases h₃ : j.val - 512 - 512 < 512
      · rw [dif_pos h₃]
        exact at_eq p _ _ _ _ (by omega)
      · rw [dif_neg h₃]
        exact at_eq p _ _ _ _ (by omega)

/-! ## The run -/

section
variable (m : (ℓ : Loc nD τ sig) → Buf (Elt Ideal) ℓ) (c : Dev nD)

/-- The projection of the arguments. -/
def all : FVec Ideal S2x8192x3352 .f32 := projAll (m ((c.tc : Thread nD τ).loc main_arg0)) (m ((c.tc : Thread nD τ).loc main_arg1)) (m ((c.tc : Thread nD τ).loc main_arg2))

theorem res88_eq : res_main_v88 m c = queries (norm8 (heads (all m c)) (gainsQ (m ((c.tc : Thread nD τ).loc main_arg3)))) := by
  unfold res_main_v88 queries norm8 heads gainsQ all projAll
  rfl

theorem res92_eq : res_main_v92 m c = keyRows (norm2 (keys768 (all m c)) (gains1 (m ((c.tc : Thread nD τ).loc main_arg4)))) := by
  unfold res_main_v92 keyRows norm2 keys768 gains1 all projAll
  rfl

theorem res96_eq : res_main_v96 m c = keyRows (norm2 (keys1024 (all m c)) (gains2 (m ((c.tc : Thread nD τ).loc main_arg4)))) := by
  unfold res_main_v96 keyRows norm2 keys1024 gains2 all projAll
  rfl

theorem res100_eq : res_main_v100 m c = mixer (all m c) := by
  unfold res_main_v100 mixer all projAll
  rfl

end

/-- The reference's results as the stages. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = queries (norm8 (heads (all m c)) (gainsQ (m ((c.tc : Thread nD τ).loc main_arg3))))
      ∧ r.2.mem ((c.tc : Thread nD τ).loc main_v89) = rows512 (all m c)
      ∧ r.2.mem ((c.tc : Thread nD τ).loc main_v90) = rows640 (all m c)
      ∧ r.2.mem ((c.tc : Thread nD τ).loc main_v92) = keyRows (norm2 (keys768 (all m c)) (gains1 (m ((c.tc : Thread nD τ).loc main_arg4))))
      ∧ r.2.mem ((c.tc : Thread nD τ).loc main_v94) = rows896 (all m c)
      ∧ r.2.mem ((c.tc : Thread nD τ).loc main_v96) = keyRows (norm2 (keys1024 (all m c)) (gains2 (m ((c.tc : Thread nD τ).loc main_arg4))))
      ∧ r.2.mem ((c.tc : Thread nD τ).loc main_v98) = rows1152 (all m c)
      ∧ r.2.mem ((c.tc : Thread nD τ).loc main_v99) = gates (all m c)
      ∧ r.2.mem ((c.tc : Thread nD τ).loc main_v100) = mixer (all m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (res88_eq m c), (h c).2.1, (h c).2.2.1, (h c).2.2.2.1.trans (res92_eq m c), (h c).2.2.2.2.1,
    (h c).2.2.2.2.2.1.trans (res96_eq m c), (h c).2.2.2.2.2.2.1, (h c).2.2.2.2.2.2.2.1, (h c).2.2.2.2.2.2.2.2.1.trans (res100_eq m c),
    (h c).2.2.2.2.2.2.2.2.2⟩) (run (F := Ideal) m ρ)

end Cert.ProjRef
-- ==== Proof.ProjSame.lean ====
module

public import proofs.«01_k».proof.Proof.ProjKernel
public import proofs.«01_k».proof.Proof.ProjReference

/-! The input projection's result arrays are the reference's: column by column, the permuted weights' columns are the
reference's columns, and where the entries are numbers the two norms agree. -/

@[expose] public section

set_option maxRecDepth 16384

noncomputable section

namespace Cert.Proj

open Cert.Kernel3Ideal Cert.Kernel3Ideal.Gen Idealize.ShloMosaic Idealize.ShloMosaic.TcCoe Idealize.SL.Sem

variable (m : (l : Loc nD τ sig) → Buf (Elt Ideal) l)

/-- The reference's projection of the same arguments. -/
def P (c : Dev nD) : FVec Ideal Cert.Reference3Ideal.S2x8192x3352 .f32 :=
  ProjRef.projAll (m ((c : Thread nD τ).loc main_arg0)) (m ((c : Thread nD τ).loc main_arg1)) (m ((c : Thread nD τ).loc main_arg2))

/-- A column of the kernel's projection is the column of the reference's with the same weights. -/
theorem Y_eq (c : Dev nD) (R : Fin 16384) {n n' : Nat} (hn : n < 3456) (hn' : n' < 3352) (e : ∀ k, argP m c k ⟨n, hn⟩ = argW m c k ⟨n', hn'⟩) :
    Y m c R ⟨n, hn⟩ = P m c (ix3 (bat R) (pos R) ⟨n', hn'⟩) := by
  refine Eq.trans ?_ (ProjRef.projAll_at _ _ _ (bat R) (pos R) ⟨n', hn'⟩).symm
  exact congrArg (Spec.proj (argX m c R) (argG m c)) (funext e)

/-! ## The columns -/

theorem argP_low (c : Dev nD) (k : Fin 1024) {n n' : Nat} (hn : n < 3456) (hn' : n' < 3352) (h : n < 512) (e : 64 * (4 * (n / 64 % 2) + n / 128) + n % 64 = n') :
    argP m c k ⟨n, hn⟩ = argW m c k ⟨n', hn'⟩ := by
  subst e
  unfold argP
  rw [dif_pos h]
  rfl

theorem argP_mid (c : Dev nD) (k : Fin 1024) {n : Nat} (hn : n < 3456) (hn' : n < 3352) (h : 512 ≤ n) (h' : n < 1280) :
    argP m c k ⟨n, hn⟩ = argW m c k ⟨n, hn'⟩ := by
  unfold argP
  rw [dif_neg (by show ¬ n < 512; omega), dif_pos h']

theorem argP_high (c : Dev nD) (k : Fin 1024) {n n' : Nat} (hn : n < 3456) (hn' : n' < 3352) (h : 1280 ≤ n) (h' : n < 3328) (e : n + 24 = n') :
    argP m c k ⟨n, hn⟩ = argW m c k ⟨n', hn'⟩ := by
  subst e
  unfold argP
  rw [dif_neg (by show ¬ n < 512; omega), dif_neg (by show ¬ n < 1280; omega), dif_pos h']

theorem argP_gate (c : Dev nD) (k : Fin 1024) {n n' : Nat} (hn : n < 3456) (hn' : n' < 3352) (h : 3328 ≤ n) (h' : n < 3352) (e : n - 2048 = n') :
    argP m c k ⟨n, hn⟩ = argW m c k ⟨n', hn'⟩ := by
  subst e
  unfold argP
  rw [dif_neg (by show ¬ n < 512; omega), dif_neg (by show ¬ n < 1280; omega), dif_neg (by show ¬ n < 3328; omega), dif_pos h']

theorem argP_pad (c : Dev nD) (k : Fin 1024) {n : Nat} (hn : n < 3456) (h : 3352 ≤ n) : argP m c k ⟨n, hn⟩ = 0 := by
  unfold argP
  rw [dif_neg (by show ¬ n < 512; omega), dif_neg (by show ¬ n < 1280; omega), dif_neg (by show ¬ n < 3328; omega), dif_neg (by show ¬ n < 3352; omega)]

theorem Y_pad (c : Dev nD) (R : Fin 16384) {n : Nat} (hn : n < 3456) (h : 3352 ≤ n) : Y m c R ⟨n, hn⟩ = 0 := by
  unfold Y Spec.proj
  refine Finset.sum_eq_zero fun k _ => ?_
  show _ * argP m c k ⟨n, hn⟩ = 0
  rw [argP_pad m c k hn h, mul_zero]

/-! ## Finite entries -/

theorem isReal_Y (c : Dev nD) (R : Fin 16384) (n : Fin 3456) (hg : ∀ k, Spec.IsReal (argG m c k)) (hw : ∀ k n, Spec.IsReal (argW m c k n)) :
    Spec.IsReal (Y m c R n) := by
  refine Spec.isReal_proj hg fun k => ?_
  unfold argP
  split_ifs
  · exact hw k _
  · exact hw k _
  · exact hw k _
  · exact hw k _
  · exact ⟨0, rfl⟩

/-! ## The results without a norm -/

theorem same8 (c : Dev nD) : G8 m c = ProjRef.rows512 (P m c) := by
  funext i
  obtain ⟨R, j, rfl⟩ : ∃ (R : Fin 16384) (j : Fin 128), i = ix2 R j := ⟨i 0, i 1, (ix2_eta i).symm⟩
  rw [ProjRef.rows512_at]
  exact Y_eq m c R _ _ fun k => argP_mid m c k _ _ (by omega) (by omega)

theorem same9 (c : Dev nD) : G9 m c = ProjRef.rows640 (P m c) := by
  funext i
  obtain ⟨R, j, rfl⟩ : ∃ (R : Fin 16384) (j : Fin 128), i = ix2 R j := ⟨i 0, i 1, (ix2_eta i).symm⟩
  rw [ProjRef.rows640_at]
  exact Y_eq m c R _ _ fun k => argP_mid m c k _ _ (by omega) (by omega)

theorem same11 (c : Dev nD) : G11 m c = ProjRef.rows896 (P m c) := by
  funext i
  obtain ⟨R, j, rfl⟩ : ∃ (R : Fin 16384) (j : Fin 128), i = ix2 R j := ⟨i 0, i 1, (ix2_eta i).symm⟩
  rw [ProjRef.rows896_at]
  exact Y_eq m c R _ _ fun k => argP_mid m c k _ _ (by omega) (by omega)

theorem same13 (c : Dev nD) : G13 m c = ProjRef.rows1152 (P m c) := by
  funext i
  obtain ⟨R, j, rfl⟩ : ∃ (R : Fin 16384) (j : Fin 128), i = ix2 R j := ⟨i 0, i 1, (ix2_eta i).symm⟩
  rw [ProjRef.rows1152_at]
  exact Y_eq m c R _ _ fun k => argP_mid m c k _ _ (by omega) (by omega)

theorem same14 (c : Dev nD) : G14 m c = ProjRef.gates (P m c) := by
  funext i
  obtain ⟨R, j, rfl⟩ : ∃ (R : Fin 16384) (j : Fin 128), i = ix2 R j := ⟨i 0, i 1, (ix2_eta i).symm⟩
  rw [ProjRef.gates_at]
  refine congrArg Ideal.logistic ?_
  by_cases h : j.val < 24
  · rw [dif_pos h]
    exact Y_eq m c R _ _ fun k => argP_gate m c k _ _ (by show 3328 ≤ 3328 + j.val; omega) (by show 3328 + j.val < 3352; omega) (by show 3328 + j.val - 2048 = _; omega)
  · rw [dif_neg h]
    exact Y_pad m c R _ (by show 3352 ≤ 3328 + j.val; omega)

theorem same15 (c : Dev nD) : G15 m c = ProjRef.mixer (P m c) := by
  funext i
  obtain ⟨R, j, rfl⟩ : ∃ (R : Fin 16384) (j : Fin 2048), i = ix2 R j := ⟨i 0, i 1, (ix2_eta i).symm⟩
  rw [ProjRef.mixer_at]
  exact Y_eq m c R _ _ fun k => argP_high m c k _ _ (by show 1280 ≤ 1280 + j.val; omega) (by show 1280 + j.val < 3328; omega) (by show 1280 + j.val + 24 = _; omega)

/-! ## The normed results -/

theorem same7 (c : Dev nD) (hg : ∀ k, Spec.IsReal (argG m c k)) (hw : ∀ k n, Spec.IsReal (argW m c k n)) :
    G7 m c = ProjRef.queries (ProjRef.norm8 (ProjRef.heads (P m c)) (ProjRef.gainsQ (m ((c : Thread nD τ).loc main_arg3)))) := by
  funext i
  obtain ⟨R, j, rfl⟩ : ∃ (R : Fin 16384) (j : Fin 512), i = ix2 R j := ⟨i 0, i 1, (ix2_eta i).symm⟩
  rw [ProjRef.queries_at, ProjRef.norm8_at, ProjRef.heads_at, ProjRef.gainsQ_at]
  refine (Spec.pairNorm_eq (fun k : Fin 128 => Y m c R ⟨128 * (j.val / 128) + k.val, by omega⟩) (own ⟨j.val % 128, by omega⟩) (argQ m c ⟨j.val % 128 % 64, by omega⟩ * Ideal.ofBits .f32 0x3E000000#32) (Y m c R ⟨j.val, by omega⟩) ⟨j.val % 128, by omega⟩ (fun k => isReal_Y m c R _ hg hw) (fun k => rfl)).trans ?_
  rw [show (fun e : Fin 64 => Y m c R ⟨128 * (j.val / 128) + (Spec.half ⟨j.val % 128, by omega⟩ e).val, by omega⟩)
      = fun e : Fin 64 => ProjRef.heads (P m c) (ix4 (bat R) (pos R) ⟨j.val / 64 % 2 * 4 + j.val / 128, by omega⟩ e) from funext fun e => by
    rw [ProjRef.heads_at]
    refine Y_eq m c R _ _ fun k => argP_low m c k _ _ ?_ ?_
    · show 128 * (j.val / 128) + (64 * (j.val % 128 / 64) + e.val) < 512
      omega
    · show 64 * (4 * ((128 * (j.val / 128) + (64 * (j.val % 128 / 64) + e.val)) / 64 % 2) + (128 * (j.val / 128) + (64 * (j.val % 128 / 64) + e.val)) / 128) + (128 * (j.val / 128) + (64 * (j.val % 128 / 64) + e.val)) % 64 = (j.val / 64 % 2 * 4 + j.val / 128) * 64 + e.val
      omega]
  rw [show Y m c R ⟨j.val, by omega⟩ = P m c (ix3 (bat R) (pos R) ⟨(j.val / 64 % 2 * 4 + j.val / 128) * 64 + j.val % 64, by omega⟩) from
    Y_eq m c R _ _ fun k => argP_low m c k _ _ j.isLt (by omega)]
  rw [show (⟨j.val % 128 % 64, by omega⟩ : Fin 64) = ⟨j.val % 64, by omega⟩ from Fin.ext (by show j.val % 128 % 64 = j.val % 64; omega)]
  exact (mul_assoc _ _ _).symm

theorem same10 (c : Dev nD) (hg : ∀ k, Spec.IsReal (argG m c k)) (hw : ∀ k n, Spec.IsReal (argW m c k n)) :
    G10 m c = ProjRef.keyRows (ProjRef.norm2 (ProjRef.keys768 (P m c)) (ProjRef.gains1 (m ((c : Thread nD τ).loc main_arg4)))) := by
  funext i
  obtain ⟨R, j, rfl⟩ : ∃ (R : Fin 16384) (j : Fin 128), i = ix2 R j := ⟨i 0, i 1, (ix2_eta i).symm⟩
  rw [ProjRef.keyRows_at, ProjRef.norm2_at, ProjRef.keys768_at, ProjRef.gains1_at]
  refine (Spec.pairNorm_eq (fun k : Fin 128 => Y m c R (at128 768 (by decide) k)) (own j) (argK m c 1 ⟨j.val % 64, by omega⟩) (Y m c R (at128 768 (by decide) j)) j (fun k => isReal_Y m c R _ hg hw) (fun k => rfl)).trans ?_
  rw [show (fun e : Fin 64 => Y m c R (at128 768 (by decide) (Spec.half j e)))
      = fun e : Fin 64 => ProjRef.keys768 (P m c) (ix4 (bat R) (pos R) ⟨j.val / 64, by omega⟩ e) from funext fun e => by
    rw [ProjRef.keys768_at]
    refine (Y_eq m c R _ (by omega) fun k => argP_mid m c k _ _ (by omega) (by show 768 + (64 * (j.val / 64) + e.val) < 1280; omega)).trans ?_
    exact ProjRef.at_eq _ _ _ _ _ (by show 768 + (64 * (j.val / 64) + e.val) = 768 + (j.val / 64 * 64 + e.val); omega)]
  rw [show Y m c R (at128 768 (by decide) j) = P m c (ix3 (bat R) (pos R) ⟨768 + (j.val / 64 * 64 + j.val % 64), by omega⟩) from
    (Y_eq m c R _ (by omega) fun k => argP_mid m c k _ _ (by omega) (by omega)).trans (ProjRef.at_eq _ _ _ _ _ (by omega))]
  rfl

theorem same12 (c : Dev nD) (hg : ∀ k, Spec.IsReal (argG m c k)) (hw : ∀ k n, Spec.IsReal (argW m c k n)) :
    G12 m c = ProjRef.keyRows (ProjRef.norm2 (ProjRef.keys1024 (P m c)) (ProjRef.gains2 (m ((c : Thread nD τ).loc main_arg4)))) := by
  funext i
  obtain ⟨R, j, rfl⟩ : ∃ (R : Fin 16384) (j : Fin 128), i = ix2 R j := ⟨i 0, i 1, (ix2_eta i).symm⟩
  rw [ProjRef.keyRows_at, ProjRef.norm2_at, ProjRef.keys1024_at, ProjRef.gains2_at]
  refine (Spec.pairNorm_eq (fun k : Fin 128 => Y m c R (at128 1024 (by decide) k)) (own j) (argK m c 2 ⟨j.val % 64, by omega⟩) (Y m c R (at128 1024 (by decide) j)) j (fun k => isReal_Y m c R _ hg hw) (fun k => rfl)).trans ?_
  rw [show (fun e : Fin 64 => Y m c R (at128 1024 (by decide) (Spec.half j e)))
      = fun e : Fin 64 => ProjRef.keys1024 (P m c) (ix4 (bat R) (pos R) ⟨j.val / 64, by omega⟩ e) from funext fun e => by
    rw [ProjRef.keys1024_at]
    refine (Y_eq m c R _ (by omega) fun k => argP_mid m c k _ _ (by omega) (by show 1024 + (64 * (j.val / 64) + e.val) < 1280; omega)).trans ?_
    exact ProjRef.at_eq _ _ _ _ _ (by show 1024 + (64 * (j.val / 64) + e.val) = 1024 + (j.val / 64 * 64 + e.val); omega)]
  rw [show Y m c R (at128 1024 (by decide) j) = P m c (ix3 (bat R) (pos R) ⟨1024 + (j.val / 64 * 64 + j.val % 64), by omega⟩) from
    (Y_eq m c R _ (by omega) fun k => argP_mid m c k _ _ (by omega) (by omega)).trans (ProjRef.at_eq _ _ _ _ _ (by omega))]
  rfl

end Cert.Proj
-- ==== Proof.ProjFinite.lean ====
module

public import proofs.«01_k».proof.Proof.Gen.Pre_weights_finite
public import proofs.«01_k».proof.Proof.ProjSpec
public import Idealize.ShloMosaic.Lib.ReduceAll

/-! What the precondition says of the entries: the norm's gains and the weights are numbers. -/

@[expose] public section

noncomputable section

namespace Cert.Proj

open Cert.Pre_weights_finite Idealize.ShloMosaic

theorem lit_inf : Ideal.ofBits .f32 0x7F800000#32 = ⊤ := by simp [Ideal.ofBits, Ideal.ieee]

/-- An entry whose absolute value compares below infinity is a number. -/
theorem isReal_of_cmp {x : EReal} (h : Ideal.cmp .olt (max x (-x)) (Ideal.ofBits .f32 0x7F800000#32) = 1#1) : Spec.IsReal x := by
  rw [lit_inf] at h
  have h' : max x (-x) < ⊤ := by
    by_contra n
    rw [show Ideal.cmp .olt (max x (-x)) ⊤ = BitVec.ofBool (decide (max x (-x) < ⊤)) from rfl, decide_eq_false n] at h
    exact absurd h (by decide)
  refine Spec.isReal_of_abs_lt ?_ ?_
  · rintro rfl
    simp at h'
  · rintro rfl
    simp at h'

section
variable (x : FVec Ideal S2x8192x1024 .f32) (g : FVec Ideal S1x1024 .f32) (w : FVec Ideal S1x1024x3352 .f32) (q : FVec Ideal S1x64 .f32) (k : FVec Ideal S1x3x64 .f32)

instance : Subsingleton S_.Idx := ⟨fun a b => funext fun i => i.elim0⟩

theorem gains_real [Facts] (h : fn (F := Ideal) x g w q k = fun _ => 1#1) (i : S1x1024.Idx) : Spec.IsReal (g i) := by
  have e := (IntOp.andi_eq_one.1 (congrFun h ix0)).1
  exact isReal_of_cmp (Host.reduce_andi_all _ _ _ _ _ e i)

theorem weights_real [Facts] (h : fn (F := Ideal) x g w q k = fun _ => 1#1) (i : S1x1024x3352.Idx) : Spec.IsReal (w i) := by
  have e := (IntOp.andi_eq_one.1 (congrFun h ix0)).2
  exact isReal_of_cmp (Host.reduce_andi_all _ _ _ _ _ e i)

end

end Cert.Proj
-- ==== Proof.CmpSpec.lean ====
module

public import proofs.«01_k».proof.Proof.ProjSpec

/-! The compression as formulas over the extended reals: a block of segments and its positions through a layer, the gelu,
and a second layer; and the same with the two groups' weights side by side in one matrix. -/

@[expose] public section

noncomputable section

namespace Cert.Cmp.Spec

open Idealize.ShloMosaic
open Cert.Proj.Spec (IsReal)

/-- The gelu by the tangent. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The segment after a segment, the last's being the first. -/
def next (i : Fin 512) : Fin 512 := ⟨(i.val + 1) % 512, by omega⟩

theorem next_eq (i : Fin 512) (h : (i.val + 512 - 511) % 512 < 512) : (⟨(i.val + 512 - 511) % 512, h⟩ : Fin 512) = next i :=
  Fin.ext (by show (i.val + 512 - 511) % 512 = (i.val + 1) % 512; omega)

/-- A hidden unit of the call: a segment, the next one, and the positions' bias. -/
def hidden (x : Fin 512 → Fin 2048 → EReal) (lo hi : Fin 2048 → EReal) (p : EReal) (i : Fin 512) : EReal :=
  (∑ k : Fin 2048, x i k * lo k) + (∑ k : Fin 2048, x (next i) k * hi k) + p

/-- Entry `q` of a half block of group `g`, among a segment's 2048. -/
def place (g : Fin 2) (q : Fin 1024) : Fin 2048 := ⟨128 * (q.val / 64) + (64 * g.val + q.val % 64), by omega⟩

/-- A block's entry: the first half of the segment, the second of the next. -/
def block (x : Fin 512 → Fin 2048 → EReal) (i : Fin 512) (g : Fin 2) (k : Fin 2048) : EReal :=
  if h : k.val < 1024 then x i (place g ⟨k.val, h⟩) else x (next i) (place g ⟨k.val - 1024, by omega⟩)

/-- A hidden unit of the reference. -/
def unit (x : Fin 512 → Fin 2048 → EReal) (pos w : Fin 2048 → EReal) (i : Fin 512) (g : Fin 2) : EReal :=
  ∑ k : Fin 2048, (block x i g k + pos k) * w k

/-- The weights of a half with the two groups side by side: zero where the groups differ. -/
def wide (w : Fin 1024 → EReal) (g : Fin 2) (k : Fin 2048) : EReal :=
  w ⟨k.val / 128 * 64 + k.val % 64, by omega⟩ * if k.val / 64 % 2 = g.val then 1 else 0

/-! ## The two forms of a hidden unit -/

theorem sum_wide (x : Fin 2048 → EReal) (w : Fin 1024 → EReal) (g : Fin 2) :
    (∑ k : Fin 2048, x k * wide w g k) = ∑ q : Fin 1024, x (place g q) * w q := by
  refine (Fintype.sum_of_injective (place g) ?_ _ _ ?_ ?_).symm
  · intro a b h
    have h' : 128 * (a.val / 64) + (64 * g.val + a.val % 64) = 128 * (b.val / 64) + (64 * g.val + b.val % 64) := congrArg Fin.val h
    exact Fin.ext (by omega)
  · intro k hk
    unfold wide
    rw [if_neg, mul_zero, mul_zero]
    intro e
    exact hk ⟨⟨64 * (k.val / 128) + k.val % 64, by omega⟩, Fin.ext (by
      show 128 * ((64 * (k.val / 128) + k.val % 64) / 64) + (64 * g.val + (64 * (k.val / 128) + k.val % 64) % 64) = k.val
      omega)⟩
  · intro q
    unfold wide
    have e : (place g q).val / 64 % 2 = g.val := by
      show (128 * (q.val / 64) + (64 * g.val + q.val % 64)) / 64 % 2 = g.val
      omega
    rw [if_pos e, mul_one]
    refine congrArg (fun n : Fin 1024 => x (place g q) * w n) (Fin.ext ?_)
    show q.val = (128 * (q.val / 64) + (64 * g.val + q.val % 64)) / 128 * 64 + (128 * (q.val / 64) + (64 * g.val + q.val % 64)) % 64
    omega

theorem add_mul_real (x : EReal) {p w : EReal} (hp : IsReal p) (hw : IsReal w) : (x + p) * w = x * w + p * w := by
  obtain ⟨p, rfl⟩ := hp
  obtain ⟨w, rfl⟩ := hw
  induction x with
  | bot =>
    rw [EReal.bot_add]
    rcases lt_trichotomy w 0 with h | h | h
    · rw [EReal.bot_mul_coe_of_neg h, ← EReal.coe_mul, EReal.top_add_coe]
    · subst h; simp
    · rw [EReal.bot_mul_coe_of_pos h, EReal.bot_add]
  | top =>
    rw [EReal.top_add_coe]
    rcases lt_trichotomy w 0 with h | h | h
    · rw [EReal.top_mul_coe_of_neg h, EReal.bot_add]
    · subst h; simp
    · rw [EReal.top_mul_coe_of_pos h, ← EReal.coe_mul, EReal.top_add_coe]
  | coe x => norm_cast; ring

/-- Where the positions and the weights are numbers, the call's hidden unit is the reference's. -/
theorem hidden_eq (x : Fin 512 → Fin 2048 → EReal) (pos w : Fin 2048 → EReal) (i : Fin 512) (g : Fin 2)
    (hp : ∀ k, IsReal (pos k)) (hw : ∀ k, IsReal (w k)) :
    hidden x (wide (fun q => w ⟨q.val, by omega⟩) g) (wide (fun q => w ⟨1024 + q.val, by omega⟩) g) (∑ k : Fin 2048, pos k * w k) i
      = unit x pos w i g := by
  unfold hidden unit
  rw [sum_wide, sum_wide]
  simp only [add_mul_real _ (hp _) (hw _)]
  rw [Finset.sum_add_distrib]
  refine congrArg (· + ∑ k : Fin 2048, pos k * w k) ?_
  rw [show (∑ k : Fin 2048, block x i g k * w k) = ∑ k : Fin (1024 + 1024), block x i g k * w k from rfl, Fin.sum_univ_add]
  refine congrArg₂ (· + ·) (Finset.sum_congr rfl fun q _ => ?_) (Finset.sum_congr rfl fun q _ => ?_)
  · rw [show block x i g (Fin.castAdd 1024 q) = x i (place g q) from dif_pos q.isLt]
    rfl
  · rw [show block x i g (Fin.natAdd 1024 q) = x (next i) (place g q) from
      (dif_neg (by show ¬ 1024 + q.val < 1024; omega)).trans (congrArg (fun n => x (next i) (place g n)) (Fin.ext (by show 1024 + q.val - 1024 = q.val; omega)))]
    rfl

/-! ## The second layer -/

/-- The second layer's weights with the two groups side by side. -/
def wide2 (w : Fin 128 → EReal) (g : Nat) (n : Fin 256) : EReal :=
  w ⟨n.val % 128, by omega⟩ * if n.val / 128 = g then 1 else 0

theorem sum_wide2 (u : Fin 256 → EReal) (w : Fin 128 → EReal) (g : Fin 2) :
    (∑ n : Fin 256, u n * wide2 w g.val n) = ∑ c : Fin 128, u ⟨128 * g.val + c.val, by omega⟩ * w c := by
  refine (Fintype.sum_of_injective (fun c : Fin 128 => (⟨128 * g.val + c.val, by omega⟩ : Fin 256)) ?_ _ _ ?_ ?_).symm
  · intro a b h
    have h' : 128 * g.val + a.val = 128 * g.val + b.val := congrArg Fin.val h
    exact Fin.ext (by omega)
  · intro n hn
    unfold wide2
    rw [if_neg, mul_zero, mul_zero]
    intro e
    exact hn ⟨⟨n.val % 128, by omega⟩, Fin.ext (by show 128 * g.val + n.val % 128 = n.val; omega)⟩
  · intro c
    unfold wide2
    rw [if_pos (by show (128 * g.val + c.val) / 128 = g.val; omega), mul_one]
    refine congrArg (fun n : Fin 128 => u _ * w n) (Fin.ext ?_)
    show c.val = (128 * g.val + c.val) % 128
    omega

/-! ## Numbers -/

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem lit_half : IsReal (Ideal.ofBits .f32 0x3F000000#32) := ⟨_, by simp [Ideal.ofBits, Ideal.ieee, -EReal.coe_mul]; rfl⟩
theorem lit_one : IsReal (Ideal.ofBits .f32 0x3F800000#32) := ⟨_, by simp [Ideal.ofBits, Ideal.ieee, -EReal.coe_mul]; rfl⟩
theorem lit_root : IsReal (Ideal.ofBits .f32 0x3F4C422A#32) := ⟨_, by simp [Ideal.ofBits, Ideal.ieee, -EReal.coe_mul]; rfl⟩
theorem lit_cube : IsReal (Ideal.ofBits .f32 0x3D372713#32) := ⟨_, by simp [Ideal.ofBits, Ideal.ieee, -EReal.coe_mul]; rfl⟩

theorem isReal_tanh {x : EReal} (h : IsReal x) : IsReal (Ideal.tanh x) := by
  obtain ⟨a, rfl⟩ := h
  exact ⟨_, rfl⟩

theorem isReal_gelu {x : EReal} (h : IsReal x) : IsReal (gelu x) :=
  h.mul (lit_half.mul (IsReal.add lit_one (isReal_tanh (lit_root.mul (IsReal.add h (lit_cube.mul (h.mul (h.mul h))))))))

theorem isReal_unit {x : Fin 512 → Fin 2048 → EReal} {pos w : Fin 2048 → EReal} (i : Fin 512) (g : Fin 2)
    (hx : ∀ i k, IsReal (x i k)) (hp : ∀ k, IsReal (pos k)) (hw : ∀ k, IsReal (w k)) : IsReal (unit x pos w i g) :=
  Cert.Proj.Spec.IsReal.sum fun k => (IsReal.add (by unfold block; split_ifs <;> exact hx _ _) (hp k)).mul (hw k)

end Cert.Cmp.Spec
-- ==== Proof.CmpOnes.lean ====
module

public import proofs.«01_k».proof.Kernel4Ideal
public import Idealize.ShloMosaic.Lib.Pointwise

/-! The compression's table of ones: 1 where the two columns are of one group. -/

@[expose] public section

set_option maxRecDepth 16384

noncomputable section

namespace Cert.Cmp

open Cert.Kernel4Ideal Idealize.ShloMosaic

/-- The two groups' table of ones. -/
theorem ones : ∀ k j : Fin 128, lit0 (S128x128.rowMajor (ix2 k j)) = if k.val / 64 = j.val / 64 then 0x3F80#16 else 0x0000#16 := by
  decide +kernel

end Cert.Cmp
-- ==== Proof.CmpEntry.lean ====
module

public import proofs.«01_k».proof.Proof.Gen.Kernel4Ideal.Frame
public import proofs.«01_k».proof.Proof.CmpSpec
public import Idealize.ShloMosaic.Lib.StableHlo.ReadAt
public import Idealize.ShloMosaic.Lib.Routing.Ops
public import Idealize.ShloMosaic.Lib.IdealHost
public import proofs.«01_k».proof.Proof.CmpOnes

/-! The compression's inputs as the call takes them, entry by entry, of the arguments. -/

@[expose] public section

set_option maxRecDepth 16384

noncomputable section

namespace Cert.Cmp

open Cert.Kernel4Ideal Cert.Kernel4Ideal.Gen Idealize.ShloMosaic Idealize.ShloMosaic.TcCoe Idealize.SL.Sem

variable (m : (l : Loc nD τ sig) → Buf (Elt Ideal) l)

/-- A raw array's rows as segments of 16 rows. -/
def seg (x : FVec Ideal S16384x128 .f32) (b : Fin 2) (i : Fin 512) (k : Fin 2048) : EReal :=
  x (ix2 ⟨b.val * 8192 + i.val * 16 + k.val / 128, by omega⟩ ⟨k.val % 128, by omega⟩)

/-- A layer's weights, positions and second weights. -/
def lay (w : FVec Ideal S1x2048x128 .f32) (n : Fin 128) (k : Fin 2048) : EReal := w (ix3 0 k n)
def plc (p : FVec Ideal S1x32x64 .f32) (k : Fin 2048) : EReal := p (ix3 0 ⟨k.val / 64, by omega⟩ ⟨k.val % 64, by omega⟩)
def fin (w : FVec Ideal S1x128x64 .f32) (e : Fin 64) (n : Fin 128) : EReal := w (ix3 0 n e)

/-- The groups' unit matrix. -/
theorem eye_at {a b : Nat} (ha : a < 2) (hb : b < 2) :
    (FloatOps.uitofp (F := Ideal) .f32 (IntOp.cmpi .eq (IntOp.addi (BitVec.ofNat 32 a) 0#32) (BitVec.ofNat 32 b)) : EReal) = if a = b then 1 else 0 := by
  have h0 : (FloatOps.uitofp (F := Ideal) .f32 (0#1) : EReal) = 0 := by
    show (((0#1 : BitVec 1).toNat : ℝ) : EReal) = 0
    simp
  have h1 : (FloatOps.uitofp (F := Ideal) .f32 (1#1) : EReal) = 1 := by
    show (((1#1 : BitVec 1).toNat : ℝ) : EReal) = 1
    simp
  rcases (by omega : a = 0 ∨ a = 1) with rfl | rfl <;> rcases (by omega : b = 0 ∨ b = 1) with rfl | rfl
  · exact h1
  · exact h0
  · exact h0
  · exact h1

theorem entry0 (c : Dev nD) (b : Fin 2) (i : Fin 512) (k : Fin 2048) : V m c main_v0 (ix3 b i k) = seg (m ((c : Thread nD τ).loc main_arg0)) b i k := by
  unfold V seg
  after_reads_at

theorem entry1 (c : Dev nD) (b : Fin 2) (i : Fin 512) (k : Fin 2048) : V m c main_v1 (ix3 b i k) = seg (m ((c : Thread nD τ).loc main_arg1)) b i k := by
  unfold V seg
  after_reads_at

theorem entry19 (c : Dev nD) (k : Fin 2048) (n : Fin 256) : V m c main_v19 (ix2 k n)
    = Spec.wide (fun q => lay (m ((c : Thread nD τ).loc main_arg4)) ⟨n.val % 128, by omega⟩ ⟨q.val, by omega⟩) ⟨n.val / 128, by omega⟩ k := by
  unfold V Spec.wide lay
  after_reads_at
  exact congrArg (fun b : EReal => lay (m ((c : Thread nD τ).loc main_arg4)) ⟨n.val % 128, by omega⟩ ⟨k.val / 128 * 64 + k.val % 64, by omega⟩ * b) (eye_at (by omega) (by omega))

theorem entry27 (c : Dev nD) (k : Fin 2048) (n : Fin 256) : V m c main_v27 (ix2 k n)
    = Spec.wide (fun q => lay (m ((c : Thread nD τ).loc main_arg4)) ⟨n.val % 128, by omega⟩ ⟨1024 + q.val, by omega⟩) ⟨n.val / 128, by omega⟩ k := by
  unfold V Spec.wide lay
  after_reads_at
  refine congrArg₂ (fun a b : EReal => a * b) ?_ (eye_at (by omega) (by omega))
  exact congrArg (fun q : Fin 2048 => m ((c : Thread nD τ).loc main_arg4) (ix3 0 q _)) (Fin.ext (by show (16 + k.val / 128) * 64 + k.val % 64 = 1024 + (k.val / 128 * 64 + k.val % 64); omega))

theorem entry34 (c : Dev nD) (n : Fin 256) (j : Fin 128) : V m c main_v34 (ix2 n j)
    = Spec.wide2 (fin (m ((c : Thread nD τ).loc main_arg5)) ⟨j.val % 64, by omega⟩) (j.val / 64) n := by
  unfold V Spec.wide2 fin
  after_reads_at
  rw [eye_at (by omega) (by omega)]

theorem entry39 (c : Dev nD) (n : Fin 256) : V m c main_v39 (ix2 0 n)
    = ∑ k : Fin 2048, plc (m ((c : Thread nD τ).loc main_arg2)) k * lay (m ((c : Thread nD τ).loc main_arg4)) ⟨n.val % 128, by omega⟩ k := by
  unfold V plc lay
  after_reads_at

theorem entry57 (c : Dev nD) (k : Fin 2048) (n : Fin 256) : V m c main_v57 (ix2 k n)
    = Spec.wide (fun q => lay (m ((c : Thread nD τ).loc main_arg6)) ⟨n.val % 128, by omega⟩ ⟨q.val, by omega⟩) ⟨n.val / 128, by omega⟩ k := by
  unfold V Spec.wide lay
  after_reads_at
  exact congrArg (fun b : EReal => lay (m ((c : Thread nD τ).loc main_arg6)) ⟨n.val % 128, by omega⟩ ⟨k.val / 128 * 64 + k.val % 64, by omega⟩ * b) (eye_at (by omega) (by omega))

theorem entry65 (c : Dev nD) (k : Fin 2048) (n : Fin 256) : V m c main_v65 (ix2 k n)
    = Spec.wide (fun q => lay (m ((c : Thread nD τ).loc main_arg6)) ⟨n.val % 128, by omega⟩ ⟨1024 + q.val, by omega⟩) ⟨n.val / 128, by omega⟩ k := by
  unfold V Spec.wide lay
  after_reads_at
  refine congrArg₂ (fun a b : EReal => a * b) ?_ (eye_at (by omega) (by omega))
  exact congrArg (fun q : Fin 2048 => m ((c : Thread nD τ).loc main_arg6) (ix3 0 q _)) (Fin.ext (by show (16 + k.val / 128) * 64 + k.val % 64 = 1024 + (k.val / 128 * 64 + k.val % 64); omega))

theorem entry72 (c : Dev nD) (n : Fin 256) (j : Fin 128) : V m c main_v72 (ix2 n j)
    = Spec.wide2 (fin (m ((c : Thread nD τ).loc main_arg7)) ⟨j.val % 64, by omega⟩) (j.val / 64) n := by
  unfold V Spec.wide2 fin
  after_reads_at
  rw [eye_at (by omega) (by omega)]

theorem entry77 (c : Dev nD) (n : Fin 256) : V m c main_v77 (ix2 0 n)
    = ∑ k : Fin 2048, plc (m ((c : Thread nD τ).loc main_arg3)) k * lay (m ((c : Thread nD τ).loc main_arg6)) ⟨n.val % 128, by omega⟩ k := by
  unfold V plc lay
  after_reads_at

theorem entry83 (c : Dev nD) (j : Fin 128) : V m c main_v83 (ix2 0 j) = m ((c : Thread nD τ).loc main_arg8) (ix3 0 0 ⟨j.val % 64, by omega⟩) := by
  unfold V
  after_reads_at

theorem entryCst (c : Dev nD) (k j : Fin 128) : V m c main_cst (ix2 k j) = if k.val / 64 = j.val / 64 then (1 : EReal) else 0 := by
  unfold V
  after_reads_simp
  show Ideal.ofBits .bf16 (lit0 (S128x128.rowMajor (ix2 k j))) = _
  rw [ones]
  split
  · exact Ideal.ofBits_one_bf16
  · exact Ideal.ofBits_zero_bf16

end Cert.Cmp
-- ==== Proof.CmpRead.lean ====
module

public import proofs.«01_k».proof.Proof.Gen.Kernel4Ideal.Value
public import proofs.«01_k».proof.Proof.CmpSpec
public import Idealize.ShloMosaic.Lib.Pipeline.ValueKit.Acc
public import Idealize.ShloMosaic.Lib.Pipeline.ValueKit.Tiles

/-! What one point of the compression's grid writes, read at an index over the extended reals. -/

@[expose] public section

set_option maxRecDepth 16384

noncomputable section

namespace Cert.Cmp

open Cert.Kernel4Ideal Cert.Kernel4Ideal.Gen Idealize.ShloMosaic Idealize.ShloMosaic.TcCoe Idealize.SL.Sem

variable (x : Vec Ideal S1x512x2048 .f32) (lo hi : Vec Ideal S2048x256 .bf16) (p : Vec Ideal S1x256 .f32) (w : Vec Ideal S256x128 .bf16)

/-- A hidden unit of a point's block. -/
def hid (i : Fin 512) (n : Fin 256) : EReal :=
  Spec.hidden (fun i k => x (ix3 0 i k)) (fun k => lo (ix2 k n)) (fun k => hi (ix2 k n)) (p (ix2 0 n)) i

theorem hid_read (i : Fin 512) (n : Fin 256) : k0_pay6 x lo hi p (ix2 i n) = hid x lo hi p i n := by
  pointwise [k0_pay6, hid, Spec.hidden]
  rw [Spec.next_eq]

theorem values_read (i : Fin 512) (j : Fin 128) :
    k0_pay1 (k0_pay6 x lo hi p) (k0_pay7 x lo hi p) w (ix3 0 i j) = ∑ n : Fin 256, Spec.gelu (hid x lo hi p i n) * w (ix2 n j) := by
  simp only [← hid_read]
  unfold k0_pay7
  generalize k0_pay6 x lo hi p = y
  pointwise [k0_pay1, Spec.gelu]

theorem keys_read (i : Fin 512) (j : Fin 128) :
    k0_pay2 x lo hi p w (ix2 i j) = ∑ n : Fin 256, Spec.gelu (hid x lo hi p i n) * w (ix2 n j) := by
  pointwise [k0_pay2, hid, Spec.hidden, Spec.gelu]
  simp only [Spec.next_eq]

theorem norm_read (y : FVec Ideal S512x128 .f32) (b : Vec Ideal S128x128 .bf16) (g : Vec Ideal S1x128 .f32) (i : Fin 512) (j : Fin 128) :
    k0_pay5 y b (k0_pay3 g) (mulf y y) (ix3 0 i j)
      = Cert.Proj.Spec.pairNorm (fun k => y (ix2 i k)) (fun k => b (ix2 k j)) (g (ix2 0 j)) (y (ix2 i j)) := by
  pointwise [k0_pay5, k0_pay3, Cert.Proj.Spec.pairNorm]

end Cert.Cmp
-- ==== Proof.CmpKernel.lean ====
module

public import proofs.«01_k».proof.Proof.CmpEntry
public import proofs.«01_k».proof.Proof.CmpRead

/-! The compression's two result arrays, entry by entry, of the arguments. -/

@[expose] public section

set_option maxRecDepth 16384

noncomputable section

namespace Cert.Cmp

open Cert.Kernel4Ideal Cert.Kernel4Ideal.Gen Cert.Kernel4Ideal.Value Idealize.ShloMosaic Idealize.ShloMosaic.TcCoe Idealize.SL.Sem

/-! ## A point's blocks -/

section
variable (x0 x1 : Vec Ideal S1x512x2048 .f32) (x2 x3 : Vec Ideal S2048x256 .bf16) (x4 : Vec Ideal S256x128 .bf16) (x5 : Vec Ideal S1x256 .f32)
  (x6 x7 : Vec Ideal S2048x256 .bf16) (x8 : Vec Ideal S256x128 .bf16) (x9 : Vec Ideal S1x256 .f32) (x10 : Vec Ideal S128x128 .bf16) (x11 : Vec Ideal S1x128 .f32)

theorem out12_eq : out0_12 x0 x1 x2 x3 x4 x5 x6 x7 x8 x9 x10 x11
    = k0_pay5 (k0_pay2 x0 x2 x3 x5 x4) x10 (k0_pay3 x11) (mulf (k0_pay2 x0 x2 x3 x5 x4) (k0_pay2 x0 x2 x3 x5 x4)) := by
  unfold out0_12
  refine (View.canon_cons_unit_lit' (S := S1x512x128) _ _ _ (by decide)).trans ?_
  simp (disch := decide) only [View.ld_unit_lit']
  rfl

theorem out13_eq : out0_13 x0 x1 x2 x3 x4 x5 x6 x7 x8 x9 x10 x11 = k0_pay1 (k0_pay6 x1 x6 x7 x9) (k0_pay7 x1 x6 x7 x9) x8 := by
  unfold out0_13
  refine (View.canon_cons_unit_lit' (S := S1x512x128) _ _ _ (by decide)).trans ?_
  simp (disch := decide) only [View.ld_unit_lit']
end

/-! ## The windows -/

variable (m : (l : Loc nD τ sig) → Buf (Elt Ideal) l) (ρ : Dev nD → PrngReg)

theorem idx0 : ∀ t : Fin cfg0.N, win0_0.index t = ![t.val, 0, 0] := (by decide +kernel : ∀ t : Fin grid0.N, win0_0.index t = ![t.val, 0, 0])
theorem idx1 : ∀ t : Fin cfg0.N, win0_1.index t = ![t.val, 0, 0] := (by decide +kernel : ∀ t : Fin grid0.N, win0_1.index t = ![t.val, 0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![t.val, 0, 0] := (by decide +kernel : ∀ t : Fin grid0.N, win0_12.index t = ![t.val, 0, 0])
theorem idx13 : ∀ t : Fin cfg0.N, win0_13.index t = ![t.val, 0, 0] := (by decide +kernel : ∀ t : Fin grid0.N, win0_13.index t = ![t.val, 0, 0])

/-- A point's batch row. -/
def row (t : Fin cfg0.N) : Fin 2 := ⟨t.val, t.isLt⟩

theorem emb0 (t : Fin cfg0.N) (i : Fin 512) (k : Fin 2048) : ((cfg0.win 0).blk t).view.emb (ix3 0 i k) = ix3 (row t) i k := by
  funext a; apply Fin.ext
  match a with
  | ⟨0, _⟩ => show win0_0.index t (0 : Fin 3) * 1 + 1 * 0 = t.val; rw [idx0]; show t.val * 1 + 1 * 0 = _; omega
  | ⟨1, _⟩ => show win0_0.index t (1 : Fin 3) * 512 + 1 * i.val = i.val; rw [idx0]; show 0 * 512 + 1 * i.val = _; omega
  | ⟨2, _⟩ => show win0_0.index t (2 : Fin 3) * 2048 + 1 * k.val = k.val; rw [idx0]; show 0 * 2048 + 1 * k.val = _; omega
theorem emb1 (t : Fin cfg0.N) (i : Fin 512) (k : Fin 2048) : ((cfg0.win 1).blk t).view.emb (ix3 0 i k) = ix3 (row t) i k := by
  funext a; apply Fin.ext
  match a with
  | ⟨0, _⟩ => show win0_1.index t (0 : Fin 3) * 1 + 1 * 0 = t.val; rw [idx1]; show t.val * 1 + 1 * 0 = _; omega
  | ⟨1, _⟩ => show win0_1.index t (1 : Fin 3) * 512 + 1 * i.val = i.val; rw [idx1]; show 0 * 512 + 1 * i.val = _; omega
  | ⟨2, _⟩ => show win0_1.index t (2 : Fin 3) * 2048 + 1 * k.val = k.val; rw [idx1]; show 0 * 2048 + 1 * k.val = _; omega
theorem emb12 (t : Fin cfg0.N) (i : Fin 512) (k : Fin 128) : ((cfg0.win 12).blk t).view.emb (ix3 0 i k) = ix3 (row t) i k := by
  funext a; apply Fin.ext
  match a with
  | ⟨0, _⟩ => show win0_12.index t (0 : Fin 3) * 1 + 1 * 0 = t.val; rw [idx12]; show t.val * 1 + 1 * 0 = _; omega
  | ⟨1, _⟩ => show win0_12.index t (1 : Fin 3) * 512 + 1 * i.val = i.val; rw [idx12]; show 0 * 512 + 1 * i.val = _; omega
  | ⟨2, _⟩ => show win0_12.index t (2 : Fin 3) * 128 + 1 * k.val = k.val; rw [idx12]; show 0 * 128 + 1 * k.val = _; omega
theorem emb13 (t : Fin cfg0.N) (i : Fin 512) (k : Fin 128) : ((cfg0.win 13).blk t).view.emb (ix3 0 i k) = ix3 (row t) i k := by
  funext a; apply Fin.ext
  match a with
  | ⟨0, _⟩ => show win0_13.index t (0 : Fin 3) * 1 + 1 * 0 = t.val; rw [idx13]; show t.val * 1 + 1 * 0 = _; omega
  | ⟨1, _⟩ => show win0_13.index t (1 : Fin 3) * 512 + 1 * i.val = i.val; rw [idx13]; show 0 * 512 + 1 * i.val = _; omega
  | ⟨2, _⟩ => show win0_13.index t (2 : Fin 3) * 128 + 1 * k.val = k.val; rw [idx13]; show 0 * 128 + 1 * k.val = _; omega
theorem emb2 (t : Fin cfg0.N) (k : Fin 2048) (n : Fin 256) : ((cfg0.win 2).blk t).view.emb (ix2 k n) = ix2 k n := by
  funext a; apply Fin.ext
  match a with
  | ⟨0, _⟩ => show win0_2.index t (0 : Fin 2) * 2048 + 1 * k.val = k.val; rw [idx2]; show 0 * 2048 + 1 * k.val = _; omega
  | ⟨1, _⟩ => show win0_2.index t (1 : Fin 2) * 256 + 1 * n.val = n.val; rw [idx2]; show 0 * 256 + 1 * n.val = _; omega
theorem emb3 (t : Fin cfg0.N) (k : Fin 2048) (n : Fin 256) : ((cfg0.win 3).blk t).view.emb (ix2 k n) = ix2 k n := by
  funext a; apply Fin.ext
  match a with
  | ⟨0, _⟩ => show win0_3.index t (0 : Fin 2) * 2048 + 1 * k.val = k.val; rw [idx3]; show 0 * 2048 + 1 * k.val = _; omega
  | ⟨1, _⟩ => show win0_3.index t (1 : Fin 2) * 256 + 1 * n.val = n.val; rw [idx3]; show 0 * 256 + 1 * n.val = _; omega
theorem emb4 (t : Fin cfg0.N) (k : Fin 256) (n : Fin 128) : ((cfg0.win 4).blk t).view.emb (ix2 k n) = ix2 k n := by
  funext a; apply Fin.ext
  match a with
  | ⟨0, _⟩ => show win0_4.index t (0 : Fin 2) * 256 + 1 * k.val = k.val; rw [idx4]; show 0 * 256 + 1 * k.val = _; omega
  | ⟨1, _⟩ => show win0_4.index t (1 : Fin 2) * 128 + 1 * n.val = n.val; rw [idx4]; show 0 * 128 + 1 * n.val = _; omega
theorem emb5 (t : Fin cfg0.N) (k : Fin 1) (n : Fin 256) : ((cfg0.win 5).blk t).view.emb (ix2 k n) = ix2 k n := by
  funext a; apply Fin.ext
  match a with
  | ⟨0, _⟩ => show win0_5.index t (0 : Fin 2) * 1 + 1 * k.val = k.val; rw [idx5]; show 0 * 1 + 1 * k.val = _; omega
  | ⟨1, _⟩ => show win0_5.index t (1 : Fin 2) * 256 + 1 * n.val = n.val; rw [idx5]; show 0 * 256 + 1 * n.val = _; omega
theorem emb6 (t : Fin cfg0.N) (k : Fin 2048) (n : Fin 256) : ((cfg0.win 6).blk t).view.emb (ix2 k n) = ix2 k n := by
  funext a; apply Fin.ext
  match a with
  | ⟨0, _⟩ => show win0_6.index t (0 : Fin 2) * 2048 + 1 * k.val = k.val; rw [idx6]; show 0 * 2048 + 1 * k.val = _; omega
  | ⟨1, _⟩ => show win0_6.index t (1 : Fin 2) * 256 + 1 * n.val = n.val; rw [idx6]; show 0 * 256 + 1 * n.val = _; omega
theorem emb7 (t : Fin cfg0.N) (k : Fin 2048) (n : Fin 256) : ((cfg0.win 7).blk t).view.emb (ix2 k n) = ix2 k n := by
  funext a; apply Fin.ext
  match a with
  | ⟨0, _⟩ => show win0_7.index t (0 : Fin 2) * 2048 + 1 * k.val = k.val; rw [idx7]; show 0 * 2048 + 1 * k.val = _; omega
  | ⟨1, _⟩ => show win0_7.index t (1 : Fin 2) * 256 + 1 * n.val = n.val; rw [idx7]; show 0 * 256 + 1 * n.val = _; omega
theorem emb8 (t : Fin cfg0.N) (k : Fin 256) (n : Fin 128) : ((cfg0.win 8).blk t).view.emb (ix2 k n) = ix2 k n := by
  funext a; apply Fin.ext
  match a with
  | ⟨0, _⟩ => show win0_8.index t (0 : Fin 2) * 256 + 1 * k.val = k.val; rw [idx8]; show 0 * 256 + 1 * k.val = _; omega
  | ⟨1, _⟩ => show win0_8.index t (1 : Fin 2) * 128 + 1 * n.val = n.val; rw [idx8]; show 0 * 128 + 1 * n.val = _; omega
theorem emb9 (t : Fin cfg0.N) (k : Fin 1) (n : Fin 256) : ((cfg0.win 9).blk t).view.emb (ix2 k n) = ix2 k n := by
  funext a; apply Fin.ext
  match a with
  | ⟨0, _⟩ => show win0_9.index t (0 : Fin 2) * 1 + 1 * k.val = k.val; rw [idx9]; show 0 * 1 + 1 * k.val = _; omega
  | ⟨1, _⟩ => show win0_9.index t (1 : Fin 2) * 256 + 1 * n.val = n.val; rw [idx9]; show 0 * 256 + 1 * n.val = _; omega
theorem emb10 (t : Fin cfg0.N) (k : Fin 128) (n : Fin 128) : ((cfg0.win 10).blk t).view.emb (ix2 k n) = ix2 k n := by
  funext a; apply Fin.ext
  match a with
  | ⟨0, _⟩ => show win0_10.index t (0 : Fin 2) * 128 + 1 * k.val = k.val; rw [idx10]; show 0 * 128 + 1 * k.val = _; omega
  | ⟨1, _⟩ => show win0_10.index t (1 : Fin 2) * 128 + 1 * n.val = n.val; rw [idx10]; show 0 * 128 + 1 * n.val = _; omega
theorem emb11 (t : Fin cfg0.N) (k : Fin 1) (n : Fin 128) : ((cfg0.win 11).blk t).view.emb (ix2 k n) = ix2 k n := by
  funext a; apply Fin.ext
  match a with
  | ⟨0, _⟩ => show win0_11.index t (0 : Fin 2) * 1 + 1 * k.val = k.val; rw [idx11]; show 0 * 1 + 1 * k.val = _; omega
  | ⟨1, _⟩ => show win0_11.index t (1 : Fin 2) * 128 + 1 * n.val = n.val; rw [idx11]; show 0 * 128 + 1 * n.val = _; omega

/-- A hidden unit of the call, of the arguments. -/
def hidAll (x : FVec Ideal S16384x128 .f32) (p : FVec Ideal S1x32x64 .f32) (w : FVec Ideal S1x2048x128 .f32) (b : Fin 2) (i : Fin 512) (n : Fin 256) : EReal :=
  Spec.hidden (seg x b) (Spec.wide (fun q => lay w ⟨n.val % 128, by omega⟩ ⟨q.val, by omega⟩) ⟨n.val / 128, by omega⟩)
    (Spec.wide (fun q => lay w ⟨n.val % 128, by omega⟩ ⟨1024 + q.val, by omega⟩) ⟨n.val / 128, by omega⟩)
    (∑ k : Fin 2048, plc p k * lay w ⟨n.val % 128, by omega⟩ k) i

/-- An entry of the second layer. -/
def outAll (x : FVec Ideal S16384x128 .f32) (p : FVec Ideal S1x32x64 .f32) (w : FVec Ideal S1x2048x128 .f32) (v : FVec Ideal S1x128x64 .f32)
    (b : Fin 2) (i : Fin 512) (j : Fin 128) : EReal :=
  ∑ n : Fin 256, Spec.gelu (hidAll x p w b i n) * Spec.wide2 (fin v ⟨j.val % 64, by omega⟩) (j.val / 64) n

theorem blk0 (c : Dev nD) (t : Fin cfg0.N) (i : Fin 512) (k : Fin 2048) : iblk m c 0 t (ix3 0 i k) = seg (m ((c : Thread nD τ).loc main_arg0)) (row t) i k := by
  show V m c main_v0 (((cfg0.win 0).blk t).view.emb (ix3 0 i k)) = _; rw [emb0, entry0]
theorem blk1 (c : Dev nD) (t : Fin cfg0.N) (i : Fin 512) (k : Fin 2048) : iblk m c 1 t (ix3 0 i k) = seg (m ((c : Thread nD τ).loc main_arg1)) (row t) i k := by
  show V m c main_v1 (((cfg0.win 1).blk t).view.emb (ix3 0 i k)) = _; rw [emb1, entry1]
theorem blk2 (c : Dev nD) (t : Fin cfg0.N) (k : Fin 2048) (n : Fin 256) : iblk m c 2 t (ix2 k n)
    = Spec.wide (fun q => lay (m ((c : Thread nD τ).loc main_arg4)) ⟨n.val % 128, by omega⟩ ⟨q.val, by omega⟩) ⟨n.val / 128, by omega⟩ k := by
  show V m c main_v19 (((cfg0.win 2).blk t).view.emb (ix2 k n)) = _; rw [emb2, entry19]
theorem blk3 (c : Dev nD) (t : Fin cfg0.N) (k : Fin 2048) (n : Fin 256) : iblk m c 3 t (ix2 k n)
    = Spec.wide (fun q => lay (m ((c : Thread nD τ).loc main_arg4)) ⟨n.val % 128, by omega⟩ ⟨1024 + q.val, by omega⟩) ⟨n.val / 128, by omega⟩ k := by
  show V m c main_v27 (((cfg0.win 3).blk t).view.emb (ix2 k n)) = _; rw [emb3, entry27]
theorem blk6 (c : Dev nD) (t : Fin cfg0.N) (k : Fin 2048) (n : Fin 256) : iblk m c 6 t (ix2 k n)
    = Spec.wide (fun q => lay (m ((c : Thread nD τ).loc main_arg6)) ⟨n.val % 128, by omega⟩ ⟨q.val, by omega⟩) ⟨n.val / 128, by omega⟩ k := by
  show V m c main_v57 (((cfg0.win 6).blk t).view.emb (ix2 k n)) = _; rw [emb6, entry57]
theorem blk7 (c : Dev nD) (t : Fin cfg0.N) (k : Fin 2048) (n : Fin 256) : iblk m c 7 t (ix2 k n)
    = Spec.wide (fun q => lay (m ((c : Thread nD τ).loc main_arg6)) ⟨n.val % 128, by omega⟩ ⟨1024 + q.val, by omega⟩) ⟨n.val / 128, by omega⟩ k := by
  show V m c main_v65 (((cfg0.win 7).blk t).view.emb (ix2 k n)) = _; rw [emb7, entry65]
theorem blk4 (c : Dev nD) (t : Fin cfg0.N) (n : Fin 256) (j : Fin 128) : iblk m c 4 t (ix2 n j)
    = Spec.wide2 (fin (m ((c : Thread nD τ).loc main_arg5)) ⟨j.val % 64, by omega⟩) (j.val / 64) n := by
  show V m c main_v34 (((cfg0.win 4).blk t).view.emb (ix2 n j)) = _; rw [emb4, entry34]
theorem blk8 (c : Dev nD) (t : Fin cfg0.N) (n : Fin 256) (j : Fin 128) : iblk m c 8 t (ix2 n j)
    = Spec.wide2 (fin (m ((c : Thread nD τ).loc main_arg7)) ⟨j.val % 64, by omega⟩) (j.val / 64) n := by
  show V m c main_v72 (((cfg0.win 8).blk t).view.emb (ix2 n j)) = _; rw [emb8, entry72]
theorem blk5 (c : Dev nD) (t : Fin cfg0.N) (n : Fin 256) : iblk m c 5 t (ix2 0 n)
    = ∑ k : Fin 2048, plc (m ((c : Thread nD τ).loc main_arg2)) k * lay (m ((c : Thread nD τ).loc main_arg4)) ⟨n.val % 128, by omega⟩ k := by
  show V m c main_v39 (((cfg0.win 5).blk t).view.emb (ix2 0 n)) = _; rw [emb5, entry39]
theorem blk9 (c : Dev nD) (t : Fin cfg0.N) (n : Fin 256) : iblk m c 9 t (ix2 0 n)
    = ∑ k : Fin 2048, plc (m ((c : Thread nD τ).loc main_arg3)) k * lay (m ((c : Thread nD τ).loc main_arg6)) ⟨n.val % 128, by omega⟩ k := by
  show V m c main_v77 (((cfg0.win 9).blk t).view.emb (ix2 0 n)) = _; rw [emb9, entry77]
theorem blk10 (c : Dev nD) (t : Fin cfg0.N) (k j : Fin 128) : iblk m c 10 t (ix2 k j) = if k.val / 64 = j.val / 64 then (1 : EReal) else 0 := by
  show V m c main_cst (((cfg0.win 10).blk t).view.emb (ix2 k j)) = _; rw [emb10, entryCst]
theorem blk11 (c : Dev nD) (t : Fin cfg0.N) (j : Fin 128) : iblk m c 11 t (ix2 0 j) = m ((c : Thread nD τ).loc main_arg8) (ix3 0 0 ⟨j.val % 64, by omega⟩) := by
  show V m c main_v83 (((cfg0.win 11).blk t).view.emb (ix2 0 j)) = _; rw [emb11, entry83]

theorem hid_keys (c : Dev nD) (t : Fin cfg0.N) (i : Fin 512) (n : Fin 256) : hid (iblk m c 0 t) (iblk m c 2 t) (iblk m c 3 t) (iblk m c 5 t) i n
    = hidAll (m ((c : Thread nD τ).loc main_arg0)) (m ((c : Thread nD τ).loc main_arg2)) (m ((c : Thread nD τ).loc main_arg4)) (row t) i n := by
  unfold hid hidAll
  simp only [blk0, blk2, blk3, blk5]
theorem hid_values (c : Dev nD) (t : Fin cfg0.N) (i : Fin 512) (n : Fin 256) : hid (iblk m c 1 t) (iblk m c 6 t) (iblk m c 7 t) (iblk m c 9 t) i n
    = hidAll (m ((c : Thread nD τ).loc main_arg1)) (m ((c : Thread nD τ).loc main_arg3)) (m ((c : Thread nD τ).loc main_arg6)) (row t) i n := by
  unfold hid hidAll
  simp only [blk1, blk6, blk7, blk9]

/-- The table's column of the group. -/
def own (j k : Fin 128) : EReal := if k.val / 64 = j.val / 64 then 1 else 0

/-! ## The result arrays -/

/-- The keys before the norm. -/
def K (c : Dev nD) : Fin 2 → Fin 512 → Fin 128 → EReal := outAll (m ((c : Thread nD τ).loc main_arg0)) (m ((c : Thread nD τ).loc main_arg2)) (m ((c : Thread nD τ).loc main_arg4)) (m ((c : Thread nD τ).loc main_arg5))

def G12 (c : Dev nD) : FVec Ideal S2x512x128 .bf16 := fun i =>
  Cert.Proj.Spec.pairNorm (fun k => K m c (i 0) (i 1) k) (own (i 2)) (m ((c : Thread nD τ).loc main_arg8) (ix3 0 0 ⟨(i 2).val % 64, by omega⟩)) (K m c (i 0) (i 1) (i 2))
def G13 (c : Dev nD) : FVec Ideal S2x512x128 .bf16 := fun i => outAll (m ((c : Thread nD τ).loc main_arg1)) (m ((c : Thread nD τ).loc main_arg3)) (m ((c : Thread nD τ).loc main_arg6)) (m ((c : Thread nD τ).loc main_arg7)) (i 0) (i 1) (i 2)

theorem keys_at (c : Dev nD) (t : Fin cfg0.N) (i : Fin 512) (j : Fin 128) :
    k0_pay2 (iblk m c 0 t) (iblk m c 2 t) (iblk m c 3 t) (iblk m c 5 t) (iblk m c 4 t) (ix2 i j) = K m c (row t) i j := by
  refine (keys_read _ _ _ _ _ i j).trans ?_
  unfold K outAll
  simp only [hid_keys, blk4]

theorem flushed12_eq (c : Dev nD) (t : Fin cfg0.N) : (dats m 0 c).flushed 12 t = ((cfg0.win 12).blk t).view.read (Elt Ideal) (G12 m c) := by
  rw [flushed12, out12_eq]
  funext i
  obtain ⟨z, i, j, rfl⟩ : ∃ (z : Fin 1) (i' : Fin 512) (j : Fin 128), i = ix3 z i' j := ⟨i 0, i 1, i 2, (ix3_eta i).symm⟩
  obtain rfl : z = 0 := Subsingleton.elim _ _
  show (k0_pay5 (k0_pay2 _ _ _ _ _) _ (k0_pay3 _) (mulf (k0_pay2 _ _ _ _ _) (k0_pay2 _ _ _ _ _))) (ix3 0 i j) = G12 m c (((cfg0.win 12).blk t).view.emb (ix3 0 i j))
  rw [emb12, norm_read]
  simp only [keys_at, blk10, blk11]
  rfl

theorem flushed13_eq (c : Dev nD) (t : Fin cfg0.N) : (dats m 0 c).flushed 13 t = ((cfg0.win 13).blk t).view.read (Elt Ideal) (G13 m c) := by
  rw [flushed13, out13_eq]
  funext i
  obtain ⟨z, i, j, rfl⟩ : ∃ (z : Fin 1) (i' : Fin 512) (j : Fin 128), i = ix3 z i' j := ⟨i 0, i 1, i 2, (ix3_eta i).symm⟩
  obtain rfl : z = 0 := Subsingleton.elim _ _
  show (k0_pay1 (k0_pay6 _ _ _ _) (k0_pay7 _ _ _ _) _) (ix3 0 i j) = G13 m c (((cfg0.win 13).blk t).view.emb (ix3 0 i j))
  rw [emb13, values_read]
  simp only [hid_values, blk8]
  rfl

theorem covered12 (i : S2x512x128.Idx) : ∃ t : Fin cfg0.N, (cfg0.win 12).flush t = true ∧ i ∈ ((cfg0.win 12).blk t).view.set := by
  obtain ⟨b, i, j, rfl⟩ : ∃ (b : Fin 2) (i' : Fin 512) (j : Fin 128), i = ix3 b i' j := ⟨i 0, i 1, i 2, (ix3_eta i).symm⟩
  refine ⟨⟨b.val, b.isLt⟩, flush0_12 _, ?_⟩
  have h := ((cfg0.win 12).blk ⟨b.val, b.isLt⟩).view.emb_mem_set (ix3 (0 : Fin 1) i j)
  rw [emb12] at h
  exact h
theorem final12 (c : Dev nD) : (dats m 0 c).arrAt 12 cfg0.N = G12 m c :=
  (dats m 0 c).arrAt_eq_of_cover 12 (G12 m c) (fun t _ => flushed12_eq m c t) covered12

theorem covered13 (i : S2x512x128.Idx) : ∃ t : Fin cfg0.N, (cfg0.win 13).flush t = true ∧ i ∈ ((cfg0.win 13).blk t).view.set := by
  obtain ⟨b, i, j, rfl⟩ : ∃ (b : Fin 2) (i' : Fin 512) (j : Fin 128), i = ix3 b i' j := ⟨i 0, i 1, i 2, (ix3_eta i).symm⟩
  refine ⟨⟨b.val, b.isLt⟩, flush0_13 _, ?_⟩
  have h := ((cfg0.win 13).blk ⟨b.val, b.isLt⟩).view.emb_mem_set (ix3 (0 : Fin 1) i j)
  rw [emb13] at h
  exact h
theorem final13 (c : Dev nD) : (dats m 0 c).arrAt 13 cfg0.N = G13 m c :=
  (dats m 0 c).arrAt_eq_of_cover 13 (G13 m c) (fun t _ => flushed13_eq m c t) covered13

end Cert.Cmp
-- ==== Proof.CmpReference.lean ====
module

public import proofs.«01_k».proof.Proof.Gen.Reference4Ideal.Run
public import proofs.«01_k».proof.Proof.CmpEntry

/-! The compression's reference, stage by stage, read at an index. -/

@[expose] public section

set_option maxRecDepth 16384

noncomputable section

namespace Cert.CmpRef

open Cert.Cmp Cert.Reference4Ideal Cert.Reference4Ideal.Gen Cert.Reference4Ideal.Value Idealize.ShloMosaic Idealize.ShloMosaic.TcCoe Idealize.SL.Sem

/-! ## The stages -/

/-- The rows as segments of sixteen tokens, two groups each. -/
def segs (x : FVec Ideal S16384x128 .f32) : FVec Ideal S2x512x16x2x64 .f32 :=
  shapeCast _ (shapeCast _ x shapeCasts_S16384x128_S2x8192x2x64) shapeCasts_S2x8192x2x64_S2x512x16x2x64

/-- The segments and the first once more. -/
def cyc (s : FVec Ideal S2x512x16x2x64 .f32) : FVec Ideal S2x513x16x2x64 .f32 :=
  concatenate S2x513x16x2x64 1 [⟨S2x512x16x2x64, s⟩, ⟨S2x1x16x2x64, (extractStridedSlice S2x1x16x2x64 ![0, 0, 0, 0, 0] s slices_S2x512x16x2x64_S2x1x16x2x64_0_0_0_0_0)⟩] concatenates_S2x512x16x2x64_S2x1x16x2x64_S2x513x16x2x64_d1

/-- Two consecutive segments side by side, not yet positioned. -/
def pairs (s : FVec Ideal S2x513x16x2x64 .f32) : FVec Ideal S2x512x32x2x64 .f32 :=
  concatenate S2x512x32x2x64 2 [⟨S2x512x16x2x64, (extractStridedSlice S2x512x16x2x64 ![0, 0, 0, 0, 0] s slices_S2x513x16x2x64_S2x512x16x2x64_0_0_0_0_0)⟩, ⟨S2x512x16x2x64, (extractStridedSlice S2x512x16x2x64 ![0, 1, 0, 0, 0] s slices_S2x513x16x2x64_S2x512x16x2x64_0_1_0_0_0)⟩] concatenates_S2x512x16x2x64_S2x512x16x2x64_S2x512x32x2x64_d2

/-- The blocks, positioned, each group's flat. -/
def flat (u : FVec Ideal S2x512x32x2x64 .f32) (p : FVec Ideal S1x32x64 .f32) : FVec Ideal S2x512x2x2048 .f32 :=
  shapeCast _ (transpose S2x512x2x32x64 [0, 1, 3, 2, 4] (addf u (broadcastInDim S2x512x32x2x64 ![0, 1, 2, 3, 4] bcast_S1x1x32x1x64_S2x512x32x2x64_0_1_2_3_4 (broadcastInDim S1x1x32x1x64 ![2, 4] bcast_S32x64_S1x1x32x1x64_2_4 (shapeCast _ p shapeCasts_S1x32x64_S32x64)))) transposes_S2x512x32x2x64_S2x512x2x32x64_0_1_3_2_4) shapeCasts_S2x512x2x32x64_S2x512x2x2048

/-- The first layer. -/
def first (b : FVec Ideal S2x512x2x2048 .f32) (w : FVec Ideal S1x2048x128 .f32) : FVec Ideal S2x512x2x128 .f32 :=
  Host.dotGeneral dot_S2x512x2x2048_S2048x128_S2x512x2x128_3_0_012_1_n_n none b (shapeCast _ w shapeCasts_S1x2048x128_S2048x128)

/-- The activation. -/
def act (H : FVec Ideal S2x512x2x128 .f32) : FVec Ideal S2x512x2x128 .f32 :=
  mulf H (mulf (broadcastInDim S2x512x2x128 ![] bcast_S_S2x512x2x128 (constant S_ .f32 0x3F000000#32)) (addf (broadcastInDim S2x512x2x128 ![] bcast_S_S2x512x2x128 (constant S_ .f32 0x3F800000#32)) (Host.tanh (mulf (broadcastInDim S2x512x2x128 ![] bcast_S_S2x512x2x128 (constant S_ .f32 0x3F4C422A#32)) (addf H (mulf (broadcastInDim S2x512x2x128 ![] bcast_S_S2x512x2x128 (constant S_ .f32 0x3D372713#32)) (mulf (mulf H H) H)))))))

/-- The second layer. -/
def second (A : FVec Ideal S2x512x2x128 .f32) (w : FVec Ideal S1x128x64 .f32) : FVec Ideal S2x512x2x64 .f32 :=
  Host.dotGeneral dot_S2x512x2x128_S128x64_S2x512x2x64_3_0_012_1_n_n none A (shapeCast _ w shapeCasts_S1x128x64_S128x64)

/-- The keys' norm. -/
def norm (u : FVec Ideal S2x512x2x64 .f32) (k : FVec Ideal S1x3x64 .f32) : FVec Ideal S2x512x2x64 .f32 :=
  mulf (mulf u (broadcastInDim S2x512x2x64 ![0, 1, 2, 3] bcast_S2x512x2x1_S2x512x2x64_0_1_2_3 (Host.rsqrt (addf (Host.divf (broadcastInDim S2x512x2x1 ![0, 1, 2] bcast_S2x512x2_S2x512x2x1_0_1_2 (Host.reduceAdd (mulf u u) (constant S_ .f32 0x00000000#32) reducesTo_S2x512x2x64_S2x512x2_d3 h_S_)) (broadcastInDim S2x512x2x1 ![] bcast_S_S2x512x2x1 (constant S_ .f32 0x42800000#32))) (broadcastInDim S2x512x2x1 ![] bcast_S_S2x512x2x1 (constant S_ .f32 0x358637BD#32)))))) (broadcastInDim S2x512x2x64 ![0, 1, 2, 3] bcast_S1x1x1x64_S2x512x2x64_0_1_2_3 (broadcastInDim S1x1x1x64 ![3] bcast_S64_S1x1x1x64_3 (shapeCast _ (extractStridedSlice S1x1x64 ![0, 0, 0] k slices_S1x3x64_S1x1x64_0_0_0) shapeCasts_S1x1x64_S64)))

/-- The groups side by side. -/
def wide (u : FVec Ideal S2x512x2x64 .f32) : FVec Ideal S2x512x128 .bf16 :=
  truncf .bf16 (shapeCast _ u shapeCasts_S2x512x2x64_S2x512x128) bitsLt_bf16_f32

/-- The compression of the rows. -/
def compress (x : FVec Ideal S16384x128 .f32) (p : FVec Ideal S1x32x64 .f32) (w : FVec Ideal S1x2048x128 .f32) (v : FVec Ideal S1x128x64 .f32) : FVec Ideal S2x512x2x64 .f32 :=
  second (act (first (flat (pairs (cyc (segs x))) p) w)) v

/-! ## The stages at an index -/

theorem segs_at (x : FVec Ideal S16384x128 .f32) (b : Fin 2) (i : Fin 512) (t : Fin 16) (g : Fin 2) (e : Fin 64) :
    segs x (ix5 b i t g e) = x (ix2 ⟨b.val * 8192 + i.val * 16 + t.val, by omega⟩ ⟨g.val * 64 + e.val, by omega⟩) := by
  pointwise [segs]

theorem cyc_at (s : FVec Ideal S2x512x16x2x64 .f32) (b : Fin 2) (i : Fin 513) (t : Fin 16) (g : Fin 2) (e : Fin 64) :
    cyc s (ix5 b i t g e) = s (ix5 b ⟨i.val % 512, by omega⟩ t g e) := by
  pointwise [cyc]
  by_cases h : i.val < 512
  · rw [dif_pos h]
    exact congrArg (fun q => s (ix5 b q t g e)) (Fin.ext (by show i.val = i.val % 512; omega))
  · rw [dif_neg h]
    exact congrArg (fun q => s (ix5 b q t g e)) (Fin.ext (by show i.val - 512 = i.val % 512; omega))

theorem pairs_at (s : FVec Ideal S2x513x16x2x64 .f32) (b : Fin 2) (i : Fin 512) (t : Fin 32) (g : Fin 2) (e : Fin 64) :
    pairs s (ix5 b i t g e) = if h : t.val < 16 then s (ix5 b ⟨i.val, by omega⟩ ⟨t.val, h⟩ g e) else s (ix5 b ⟨1 + i.val, by omega⟩ ⟨t.val - 16, by omega⟩ g e) := by
  pointwise [pairs]

theorem flat_at (u : FVec Ideal S2x512x32x2x64 .f32) (p : FVec Ideal S1x32x64 .f32) (b : Fin 2) (i : Fin 512) (g : Fin 2) (k : Fin 2048) :
    flat u p (ix4 b i g k) = u (ix5 b i ⟨k.val / 64, by omega⟩ g ⟨k.val % 64, by omega⟩) + plc p k := by
  pointwise [flat, plc]

theorem first_at (a : FVec Ideal S2x512x2x2048 .f32) (w : FVec Ideal S1x2048x128 .f32) (b : Fin 2) (i : Fin 512) (g : Fin 2) (c : Fin 128) :
    first a w (ix4 b i g c) = ∑ k : Fin 2048, a (ix4 b i g k) * lay w c k := by
  pointwise [first, lay]

theorem act_at (H : FVec Ideal S2x512x2x128 .f32) (b : Fin 2) (i : Fin 512) (g : Fin 2) (c : Fin 128) :
    act H (ix4 b i g c) = Spec.gelu (H (ix4 b i g c)) := by
  unfold Spec.gelu
  rw [mul_comm (H (ix4 b i g c)) (H (ix4 b i g c) * H (ix4 b i g c))]
  pointwise [act]

theorem second_at (A : FVec Ideal S2x512x2x128 .f32) (w : FVec Ideal S1x128x64 .f32) (b : Fin 2) (i : Fin 512) (g : Fin 2) (e : Fin 64) :
    second A w (ix4 b i g e) = ∑ c : Fin 128, A (ix4 b i g c) * fin w e c := by
  pointwise [second, fin]

theorem norm_at (u : FVec Ideal S2x512x2x64 .f32) (k : FVec Ideal S1x3x64 .f32) (b : Fin 2) (i : Fin 512) (g : Fin 2) (e : Fin 64) :
    norm u k (ix4 b i g e) = Cert.Proj.Spec.headNorm (fun e => u (ix4 b i g e)) (k (ix3 0 0 e)) (u (ix4 b i g e)) := by
  pointwise [norm, Cert.Proj.Spec.headNorm]

theorem wide_at (u : FVec Ideal S2x512x2x64 .f32) (b : Fin 2) (i : Fin 512) (j : Fin 128) :
    wide u (ix3 b i j) = u (ix4 b i ⟨j.val / 64, by omega⟩ ⟨j.val % 64, by omega⟩) := by
  pointwise [wide]

/-- A block's entry is the segment's or the next one's. -/
theorem pairs_block (x : FVec Ideal S16384x128 .f32) (b : Fin 2) (i : Fin 512) (g : Fin 2) (k : Fin 2048) :
    pairs (cyc (segs x)) (ix5 b i ⟨k.val / 64, by omega⟩ g ⟨k.val % 64, by omega⟩) = Spec.block (seg x b) i g k := by
  rw [pairs_at]
  unfold Spec.block
  by_cases h : k.val < 1024
  · rw [dif_pos h, dif_pos (by show k.val / 64 < 16; omega), cyc_at, segs_at]
    unfold seg Spec.place
    refine congrArg x (congrArg₂ ix2 (Fin.ext ?_) (Fin.ext ?_))
    · show b.val * 8192 + i.val % 512 * 16 + k.val / 64 = b.val * 8192 + i.val * 16 + (128 * (k.val / 64) + (64 * g.val + k.val % 64)) / 128
      omega
    · show g.val * 64 + k.val % 64 = (128 * (k.val / 64) + (64 * g.val + k.val % 64)) % 128
      omega
  · rw [dif_neg h, dif_neg (by show ¬ k.val / 64 < 16; omega), cyc_at, segs_at]
    unfold seg Spec.place Spec.next
    refine congrArg x (congrArg₂ ix2 (Fin.ext ?_) (Fin.ext ?_))
    · show b.val * 8192 + (1 + i.val) % 512 * 16 + (k.val / 64 - 16) = b.val * 8192 + (i.val + 1) % 512 * 16 + (128 * ((k.val - 1024) / 64) + (64 * g.val + (k.val - 1024) % 64)) / 128
      omega
    · show g.val * 64 + k.val % 64 = (128 * ((k.val - 1024) / 64) + (64 * g.val + (k.val - 1024) % 64)) % 128
      omega

/-- The compression at an entry. -/
theorem compress_at (x : FVec Ideal S16384x128 .f32) (p : FVec Ideal S1x32x64 .f32) (w : FVec Ideal S1x2048x128 .f32) (v : FVec Ideal S1x128x64 .f32)
    (b : Fin 2) (i : Fin 512) (g : Fin 2) (e : Fin 64) :
    compress x p w v (ix4 b i g e) = ∑ c : Fin 128, Spec.gelu (Spec.unit (seg x b) (plc p) (lay w c) i g) * fin v e c := by
  unfold compress Spec.unit
  rw [second_at]
  simp only [act_at, first_at, flat_at, pairs_block]

/-! ## The run -/

section
variable (m : (ℓ : Loc nD τ sig) → Buf (Elt Ideal) ℓ) (c : Dev nD)

/-- The keys and the values. -/
def keys : FVec Ideal S2x512x128 .bf16 :=
  wide (norm (compress (m ((c.tc : Thread nD τ).loc main_arg0)) (m ((c.tc : Thread nD τ).loc main_arg2)) (m ((c.tc : Thread nD τ).loc main_arg4)) (m ((c.tc : Thread nD τ).loc main_arg5)))
    (m ((c.tc : Thread nD τ).loc main_arg8)))
def values : FVec Ideal S2x512x128 .bf16 :=
  wide (compress (m ((c.tc : Thread nD τ).loc main_arg1)) (m ((c.tc : Thread nD τ).loc main_arg3)) (m ((c.tc : Thread nD τ).loc main_arg6)) (m ((c.tc : Thread nD τ).loc main_arg7)))

theorem res76_eq : res_main_v76 m c = keys m c := by
  unfold res_main_v76 keys wide norm compress second act first flat pairs cyc segs
  rfl

theorem res78_eq : res_main_v78 m c = values m c := by
  unfold res_main_v78 values wide compress second act first flat pairs cyc segs
  rfl
end

/-- The reference's results as the stages. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = keys m c
      ∧ r.2.mem ((c.tc : Thread nD τ).loc main_v78) = values m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (res76_eq m c), (h c).2.1.trans (res78_eq m c), (h c).2.2⟩) (run (F := Ideal) m ρ)

end Cert.CmpRef
-- ==== Proof.CmpSame.lean ====
module

public import proofs.«01_k».proof.Proof.CmpKernel
public import proofs.«01_k».proof.Proof.CmpReference

/-! The compression's result arrays are the reference's, where the entries behind its sums are numbers. -/

@[expose] public section

set_option maxRecDepth 16384

noncomputable section

namespace Cert.Cmp

open Cert.Kernel4Ideal Cert.Kernel4Ideal.Gen Idealize.ShloMosaic Idealize.ShloMosaic.TcCoe Idealize.SL.Sem
open Cert.Proj.Spec (IsReal half)

section
variable (x : FVec Ideal S16384x128 .f32) (p : FVec Ideal S1x32x64 .f32) (w : FVec Ideal S1x2048x128 .f32) (v : FVec Ideal S1x128x64 .f32)

/-- A hidden unit of the call is the reference's. -/
theorem hidAll_eq (hp : ∀ i, IsReal (p i)) (hw : ∀ i, IsReal (w i)) (b : Fin 2) (i : Fin 512) (n : Fin 256) :
    hidAll x p w b i n = Spec.unit (seg x b) (plc p) (lay w ⟨n.val % 128, by omega⟩) i ⟨n.val / 128, by omega⟩ :=
  Spec.hidden_eq (seg x b) (plc p) (lay w ⟨n.val % 128, by omega⟩) i ⟨n.val / 128, by omega⟩ (fun _ => hp _) (fun _ => hw _)

/-- A unit is named by its group and its number. -/
theorem unit_at (b : Fin 2) (i : Fin 512) {c c' : Fin 128} {g g' : Fin 2} (hc : c = c') (hg : g = g') :
    Spec.unit (seg x b) (plc p) (lay w c) i g = Spec.unit (seg x b) (plc p) (lay w c') i g' := by
  subst hc hg
  rfl

theorem outAll_eq (hp : ∀ i, IsReal (p i)) (hw : ∀ i, IsReal (w i)) (b : Fin 2) (i : Fin 512) (j : Fin 128) (g : Fin 2) (e : Fin 64)
    (hg : j.val / 64 = g.val) (he : j.val % 64 = e.val) :
    outAll x p w v b i j = CmpRef.compress x p w v (ix4 b i g e) := by
  refine Eq.trans ?_ (CmpRef.compress_at x p w v b i g e).symm
  unfold outAll
  rw [hg, show (⟨j.val % 64, by omega⟩ : Fin 64) = e from Fin.ext he]
  refine (Spec.sum_wide2 (fun n => Spec.gelu (hidAll x p w b i n)) (fin v e) g).trans ?_
  refine Finset.sum_congr rfl fun c _ => congrArg (fun u : EReal => Spec.gelu u * fin v e c) ?_
  refine (hidAll_eq x p w hp hw b i _).trans (unit_at x p w b i (Fin.ext ?_) (Fin.ext ?_))
  · show (128 * g.val + c.val) % 128 = c.val
    omega
  · show (128 * g.val + c.val) / 128 = g.val
    omega

theorem isReal_compress (hx : ∀ i, IsReal (x i)) (hp : ∀ i, IsReal (p i)) (hw : ∀ i, IsReal (w i)) (hv : ∀ i, IsReal (v i))
    (b : Fin 2) (i : Fin 512) (g : Fin 2) (e : Fin 64) : IsReal (CmpRef.compress x p w v (ix4 b i g e)) := by
  rw [CmpRef.compress_at]
  exact Cert.Proj.Spec.IsReal.sum fun c => (Spec.isReal_gelu (Spec.isReal_unit i g (fun _ _ => hx _) (fun _ => hp _) (fun _ => hw _))).mul (hv _)
end

variable (m : (l : Loc nD τ sig) → Buf (Elt Ideal) l) (c : Dev nD)

theorem same13 (hp : ∀ i, IsReal ((m ((c : Thread nD τ).loc main_arg3) : FVec Ideal S1x32x64 .f32) i)) (hw : ∀ i, IsReal ((m ((c : Thread nD τ).loc main_arg6) : FVec Ideal S1x2048x128 .f32) i)) :
    G13 m c = CmpRef.wide (CmpRef.compress (m ((c : Thread nD τ).loc main_arg1)) (m ((c : Thread nD τ).loc main_arg3)) (m ((c : Thread nD τ).loc main_arg6)) (m ((c : Thread nD τ).loc main_arg7))) := by
  funext i
  obtain ⟨b, i, j, rfl⟩ : ∃ (b : Fin 2) (i' : Fin 512) (j : Fin 128), i = ix3 b i' j := ⟨i 0, i 1, i 2, (ix3_eta i).symm⟩
  rw [CmpRef.wide_at]
  exact outAll_eq _ _ _ _ hp hw b i j _ _ rfl rfl

theorem same12 (hx : ∀ i, IsReal ((m ((c : Thread nD τ).loc main_arg0) : FVec Ideal S16384x128 .f32) i)) (hp : ∀ i, IsReal ((m ((c : Thread nD τ).loc main_arg2) : FVec Ideal S1x32x64 .f32) i))
    (hw : ∀ i, IsReal ((m ((c : Thread nD τ).loc main_arg4) : FVec Ideal S1x2048x128 .f32) i)) (hv : ∀ i, IsReal ((m ((c : Thread nD τ).loc main_arg5) : FVec Ideal S1x128x64 .f32) i)) :
    G12 m c = CmpRef.wide (CmpRef.norm (CmpRef.compress (m ((c : Thread nD τ).loc main_arg0)) (m ((c : Thread nD τ).loc main_arg2)) (m ((c : Thread nD τ).loc main_arg4)) (m ((c : Thread nD τ).loc main_arg5)))
      (m ((c : Thread nD τ).loc main_arg8))) := by
  funext i
  obtain ⟨b, i, j, rfl⟩ : ∃ (b : Fin 2) (i' : Fin 512) (j : Fin 128), i = ix3 b i' j := ⟨i 0, i 1, i 2, (ix3_eta i).symm⟩
  have hK : ∀ k : Fin 128, K m c b i k = CmpRef.compress (m ((c : Thread nD τ).loc main_arg0)) (m ((c : Thread nD τ).loc main_arg2)) (m ((c : Thread nD τ).loc main_arg4)) (m ((c : Thread nD τ).loc main_arg5)) (ix4 b i ⟨k.val / 64, by omega⟩ ⟨k.val % 64, by omega⟩) :=
    fun k => outAll_eq _ _ _ _ hp hw b i k _ _ rfl rfl
  rw [CmpRef.wide_at, CmpRef.norm_at]
  refine (Cert.Proj.Spec.pairNorm_eq (fun k => K m c b i k) (own j) (m ((c : Thread nD τ).loc main_arg8) (ix3 0 0 ⟨j.val % 64, by omega⟩)) (K m c b i j) j
    (fun k => by rw [hK]; exact isReal_compress _ _ _ _ hx hp hw hv b i _ _) (fun k => rfl)).trans ?_
  rw [show (fun e : Fin 64 => K m c b i (half j e))
      = fun e : Fin 64 => CmpRef.compress (m ((c : Thread nD τ).loc main_arg0)) (m ((c : Thread nD τ).loc main_arg2)) (m ((c : Thread nD τ).loc main_arg4)) (m ((c : Thread nD τ).loc main_arg5)) (ix4 b i ⟨j.val / 64, by omega⟩ e) from funext fun e =>
    outAll_eq _ _ _ _ hp hw b i (half j e) _ _ (by show (64 * (j.val / 64) + e.val) / 64 = j.val / 64; omega) (by show (64 * (j.val / 64) + e.val) % 64 = e.val; omega), hK j]

end Cert.Cmp
-- ==== Proof.CmpFinite.lean ====
module

public import proofs.«01_k».proof.Proof.Gen.Pre_blocks_finite
public import proofs.«01_k».proof.Proof.ProjFinite

/-! What the precondition says of the entries: the keys' rows, the positions and the weights behind a sum are numbers. -/

@[expose] public section

noncomputable section

namespace Cert.Cmp

open Cert.Pre_blocks_finite Idealize.ShloMosaic
open Cert.Proj.Spec (IsReal)

variable (x0 x1 : FVec Ideal S16384x128 .f32) (x2 x3 : FVec Ideal S1x32x64 .f32) (x4 : FVec Ideal S1x2048x128 .f32) (x5 : FVec Ideal S1x128x64 .f32)
  (x6 : FVec Ideal S1x2048x128 .f32) (x7 : FVec Ideal S1x128x64 .f32) (x8 : FVec Ideal S1x3x64 .f32)

instance : Subsingleton S_.Idx := ⟨fun a b => funext fun i => i.elim0⟩

/-- The six arrays of numbers. -/
theorem reals [Facts] (h : fn (F := Ideal) x0 x1 x2 x3 x4 x5 x6 x7 x8 = fun _ => 1#1) :
    (∀ i, IsReal (x0 i)) ∧ (∀ i, IsReal (x2 i)) ∧ (∀ i, IsReal (x3 i)) ∧ (∀ i, IsReal (x4 i)) ∧ (∀ i, IsReal (x5 i)) ∧ (∀ i, IsReal (x6 i)) := by
  have e6 := IntOp.andi_eq_one.1 (congrFun h ix0)
  have e5 := IntOp.andi_eq_one.1 e6.1
  have e4 := IntOp.andi_eq_one.1 e5.1
  have e3 := IntOp.andi_eq_one.1 e4.1
  have e2 := IntOp.andi_eq_one.1 e3.1
  exact ⟨fun i => Cert.Proj.isReal_of_cmp (Host.reduce_andi_all _ _ _ _ _ e2.1 i), fun i => Cert.Proj.isReal_of_cmp (Host.reduce_andi_all _ _ _ _ _ e2.2 i),
    fun i => Cert.Proj.isReal_of_cmp (Host.reduce_andi_all _ _ _ _ _ e3.2 i), fun i => Cert.Proj.isReal_of_cmp (Host.reduce_andi_all _ _ _ _ _ e4.2 i),
    fun i => Cert.Proj.isReal_of_cmp (Host.reduce_andi_all _ _ _ _ _ e5.2 i), fun i => Cert.Proj.isReal_of_cmp (Host.reduce_andi_all _ _ _ _ _ e6.2 i)⟩

end Cert.Cmp
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_weights_finite
public import proofs.«01_k».proof.Proof.Gen.Pre_blocks_finite
public import proofs.«01_k».proof.Proof.KernelSide
public import proofs.«01_k».proof.Proof.ReferenceSide
public import proofs.«01_k».proof.Proof.FfnKernel
public import proofs.«01_k».proof.Proof.FfnReference
public import proofs.«01_k».proof.Proof.ProjSame
public import proofs.«01_k».proof.Proof.ProjFinite
public import proofs.«01_k».proof.Proof.CmpSame
public import proofs.«01_k».proof.Proof.CmpFinite
public import Idealize.ShloMosaic.Adequacy
public import Idealize.ShloMosaic.Init

@[expose] public section

noncomputable section

namespace Cert.Proof

open Idealize.ShloMosaic Idealize.SL.Sem Cert.Kernel

/-- The recurrence's reference: its run leaves the arguments, and it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The recurrence: kernel and reference end with the same array, each being the recurrence's formula at every index. -/
theorem same_recurrence : Cert.algebraic_KernelIdeal_ReferenceIdeal (hKernelIdeal := Cert.KernelIdeal.Gen.facts) (hReferenceIdeal := Cert.ReferenceIdeal.Gen.facts) :=
  fun m ρ m' ρ' _ hm => ⟨fun c => Cert.KernelIdeal.Value.G3 m c, Cert.KernelIdeal.Value.run m ρ,
    (θ_run Cert.ReferenceIdeal.defs _ _).mono (fun r h c => ⟨(h c).1.trans (by
      funext i
      obtain ⟨b, T, l, rfl⟩ : ∃ (b : Fin 2) (T : Fin 8192) (l : Fin 512), i = ix3 b T l := ⟨i 0, i 1, i 2, (ix3_eta i).symm⟩
      refine (Cert.HgrnRef.reference_at m' c b T l).trans ((Cert.Hgrn.kernel_at m c b T l).trans ?_).symm
      have e0 : Cert.HgrnRef.argX m' c = Cert.Hgrn.argX m c := funext fun b => funext fun r => funext fun l => congrFun (hm c).1 (ix3 b r l)
      have e1 : Cert.HgrnRef.argL m' c = Cert.Hgrn.argL m c := funext fun b => funext fun l => congrFun (hm c).2.1 (ix2 b l)
      have e2 : Cert.HgrnRef.argO m' c = Cert.Hgrn.argO m c := funext fun l => congrFun (hm c).2.2 (ix2 0 l)
      rw [e0, e1, e2]), (h c).2⟩) (Cert.ReferenceIdeal.Value.run (F := Ideal) m' ρ')⟩

/-- The feed-forward call's reference: its run leaves the arguments, and it has no counters. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward call: kernel and reference end with the same array, each row being the row's result. -/
theorem same_ffn : Cert.algebraic_Kernel2Ideal_Reference2Ideal (hKernel2Ideal := Cert.Kernel2Ideal.Gen.facts) (hReference2Ideal := Cert.Reference2Ideal.Gen.facts) :=
  fun m ρ m' ρ' _ hm => ⟨fun c => Cert.Ffn.G m c,
    (θ_run Cert.Kernel2Ideal.defs _ _).mono (fun r h c => ⟨(h c).1.trans (Cert.Ffn.final8 m c), (h c).2⟩) (Cert.Kernel2Ideal.Value.run_blocks (F := Ideal) m ρ),
    (θ_run Cert.Reference2Ideal.defs _ _).mono (fun r h c => ⟨(h c).1.trans (by
      funext i
      obtain ⟨R, n, rfl⟩ : ∃ (R : Fin 16384) (n : Fin 1024), i = ix2 R n := ⟨i 0, i 1, (ix2_eta i).symm⟩
      refine (Cert.FfnRef.reference_at m' c R n).trans ?_
      rw [(hm c).1, (hm c).2.1, (hm c).2.2.1, (hm c).2.2.2.1, (hm c).2.2.2.2.1, (hm c).2.2.2.2.2.1, (hm c).2.2.2.2.2.2]
      rfl), (h c).2⟩) (Cert.Reference2Ideal.Value.run (F := Ideal) m' ρ')⟩

/-- The input projection's reference leaves its arguments and every semaphore at zero. -/
theorem frame_reference3 : Cert.quiescent_Reference3Ideal (hReference3Ideal := Cert.Reference3Ideal.Gen.facts) := fun m ρ _ =>
  (θ_run Cert.Reference3Ideal.defs _ _).mono (fun r h => ⟨fun c => (h c).2.2.2.2.2.2.2.2.2, sem_eq_zero_of_no_sems (by decide) r.2⟩)
    (Cert.Reference3Ideal.Value.run (F := Ideal) m ρ)

/-- The input projection: where the norm's gains and the weights are numbers, kernel and reference end with the same nine arrays. -/
theorem same_proj : Cert.algebraic_Kernel3Ideal_Reference3Ideal_pre_weights_finite (hKernel3Ideal := Cert.Kernel3Ideal.Gen.facts) (hReference3Ideal := Cert.Reference3Ideal.Gen.facts) (hPre_weights_finite := Cert.Pre_weights_finite.Gen.facts) :=
  fun m ρ m' ρ' hpre hm => ⟨fun c => Cert.Proj.G7 m c, fun c => Cert.Proj.G8 m c, fun c => Cert.Proj.G9 m c, fun c => Cert.Proj.G10 m c,
    fun c => Cert.Proj.G11 m c, fun c => Cert.Proj.G12 m c, fun c => Cert.Proj.G13 m c, fun c => Cert.Proj.G14 m c, fun c => Cert.Proj.G15 m c,
    (θ_run Cert.Kernel3Ideal.defs _ _).mono (fun r h c => by
      obtain ⟨h7, h8, h9, h10, h11, h12, h13, h14, h15, k⟩ := h c
      exact ⟨h7.trans (Cert.Proj.final7 m c), h8.trans (Cert.Proj.final8 m c), h9.trans (Cert.Proj.final9 m c), h10.trans (Cert.Proj.final10 m c),
        h11.trans (Cert.Proj.final11 m c), h12.trans (Cert.Proj.final12 m c), h13.trans (Cert.Proj.final13 m c), h14.trans (Cert.Proj.final14 m c),
        h15.trans (Cert.Proj.final15 m c), k⟩) (Cert.Kernel3Ideal.Value.run_blocks (F := Ideal) m ρ),
    (θ_run Cert.Reference3Ideal.defs _ _).mono (fun r h c => by
      obtain ⟨h7, h8, h9, h10, h11, h12, h13, h14, h15, k⟩ := h c
      obtain ⟨e0, e1, e2, e3, e4⟩ := hm c
      have hg := fun n => Cert.Proj.gains_real _ _ _ _ _ (hpre c) (ix2 0 n)
      have hw := fun n n' => Cert.Proj.weights_real _ _ _ _ _ (hpre c) (ix3 0 n n')
      have hP : Cert.ProjRef.all m' c = Cert.Proj.P m c := by
        unfold Cert.ProjRef.all Cert.Proj.P
        rw [e0, e1, e2]
      rw [hP] at h7 h8 h9 h10 h11 h12 h13 h14 h15
      rw [e3] at h7
      rw [e4] at h10 h12
      exact ⟨h7.trans (Cert.Proj.same7 m c hg hw).symm, h8.trans (Cert.Proj.same8 m c).symm, h9.trans (Cert.Proj.same9 m c).symm,
        h10.trans (Cert.Proj.same10 m c hg hw).symm, h11.trans (Cert.Proj.same11 m c).symm, h12.trans (Cert.Proj.same12 m c hg hw).symm,
        h13.trans (Cert.Proj.same13 m c).symm, h14.trans (Cert.Proj.same14 m c).symm, h15.trans (Cert.Proj.same15 m c).symm, k⟩)
      (Cert.ProjRef.run_stages m' ρ')⟩

/-- The compression's reference leaves its arguments and every semaphore at zero. -/
theorem frame_reference4 : Cert.quiescent_Reference4Ideal (hReference4Ideal := Cert.Reference4Ideal.Gen.facts) := fun m ρ _ =>
  (θ_run Cert.Reference4Ideal.defs _ _).mono (fun r h => ⟨fun c => (h c).2.2, sem_eq_zero_of_no_sems (by decide) r.2⟩)
    (Cert.CmpRef.run_stages m ρ)

/-- The compression: where the entries behind its sums are numbers, kernel and reference end with the same two arrays. -/
theorem same_cmp : Cert.algebraic_Kernel4Ideal_Reference4Ideal_pre_blocks_finite (hKernel4Ideal := Cert.Kernel4Ideal.Gen.facts) (hReference4Ideal := Cert.Reference4Ideal.Gen.facts) (hPre_blocks_finite := Cert.Pre_blocks_finite.Gen.facts) :=
  fun m ρ m' ρ' hpre hm => ⟨fun c => Cert.Cmp.G12 m c, fun c => Cert.Cmp.G13 m c,
    (θ_run Cert.Kernel4Ideal.defs _ _).mono (fun r h c => by
      obtain ⟨h12, h13, k⟩ := h c
      exact ⟨h12.trans (Cert.Cmp.final12 m c), h13.trans (Cert.Cmp.final13 m c), k⟩) (Cert.Kernel4Ideal.Value.run_blocks (F := Ideal) m ρ),
    (θ_run Cert.Reference4Ideal.defs _ _).mono (fun r h c => by
      obtain ⟨h12, h13, k⟩ := h c
      obtain ⟨e0, e1, e2, e3, e4, e5, e6, e7, e8⟩ := hm c
      obtain ⟨r0, r2, r3, r4, r5, r6⟩ := Cert.Cmp.reals _ _ _ _ _ _ _ _ _ (hpre c)
      unfold Cert.CmpRef.keys at h12
      unfold Cert.CmpRef.values at h13
      rw [e0, e2, e4, e5, e8] at h12
      rw [e1, e3, e6, e7] at h13
      exact ⟨h12.trans (Cert.Cmp.same12 m c r0 r2 r4 r5).symm, h13.trans (Cert.Cmp.same13 m c r3 r6).symm, k⟩)
      (Cert.CmpRef.run_stages m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_weights_finite.Gen.facts, Cert.Pre_blocks_finite.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ,
  fun m ρ _ => Cert.Kernel3Ideal.Gen.frame m ρ, frame_reference3, fun m ρ _ => frame_reference3 m ρ trivial,
  fun m ρ _ => Cert.Kernel4.Gen.frame m ρ, fun m ρ _ => Cert.Kernel4Ideal.Gen.frame m ρ,
  fun m ρ _ => Cert.Kernel4Ideal.Gen.frame m ρ, frame_reference4, fun m ρ _ => frame_reference4 m ρ trivial,
  trivial, same_recurrence, trivial, same_ffn, trivial, same_proj, trivial, same_cmp⟩

end Cert.Proof

end
